-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![1024, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![1024, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S2x1024x512 : Shape := ⟨3, ![2, 1024, 512]⟩
abbrev S16x64x512 : Shape := ⟨3, ![16, 64, 512]⟩
abbrev S16 : Shape := ⟨1, ![16]⟩
abbrev S_ : Shape := ⟨0, ![]⟩
abbrev S1x64x512 : Shape := ⟨3, ![1, 64, 512]⟩
abbrev S1 : Shape := ⟨1, ![1]⟩
abbrev S1x256x512 : Shape := ⟨3, ![1, 256, 512]⟩
abbrev S256x512 : Shape := ⟨2, ![256, 512]⟩
abbrev S256x1024 : Shape := ⟨2, ![256, 1024]⟩
abbrev S15x64x512 : Shape := ⟨3, ![15, 64, 512]⟩

abbrev nBuf : Space → Nat
  | .hbm => 8
  | .vmem => 12
  | .smem => 0
  | _ => 0

abbrev bufTy : (tb : Table) → Fin (tcTables nBuf tb) → BufTy
  | .hbm, ⟨0, _⟩ => ⟨S64x512, .bf16⟩
  | .hbm, ⟨1, _⟩ => ⟨S512x1024, .bf16⟩
  | .hbm, ⟨2, _⟩ => ⟨S1024x512, .bf16⟩
  | .hbm, ⟨3, _⟩ => ⟨S512x1024, .bf16⟩
  | .hbm, ⟨4, _⟩ => ⟨S1024x512, .bf16⟩
  | .hbm, ⟨5, _⟩ => ⟨S512x1024, .bf16⟩
  | .hbm, ⟨6, _⟩ => ⟨S1024x512, .bf16⟩
  | .hbm, ⟨7, _⟩ => ⟨S64x512, .f32⟩
  | .local _ .vmem, ⟨0, _⟩ => ⟨S64x512, .bf16⟩
  | .local _ .vmem, ⟨1, _⟩ => ⟨S512x1024, .bf16⟩
  | .local _ .vmem, ⟨2, _⟩ => ⟨S1024x512, .bf16⟩
  | .local _ .vmem, ⟨3, _⟩ => ⟨S512x1024, .bf16⟩
  | .local _ .vmem, ⟨4, _⟩ => ⟨S1024x512, .bf16⟩
  | .local _ .vmem, ⟨5, _⟩ => ⟨S512x1024, .bf16⟩
  | .local _ .vmem, ⟨6, _⟩ => ⟨S1024x512, .bf16⟩
  | .local _ .vmem, ⟨7, _⟩ => ⟨S64x512, .f32⟩
  | .local _ .vmem, ⟨8, _⟩ => ⟨S2x1024x512, .bf16⟩
  | .local _ .vmem, ⟨9, _⟩ => ⟨S1024x512, .f32⟩
  | .local _ .vmem, ⟨10, _⟩ => ⟨S16x64x512, .bf16⟩
  | .local _ .vmem, ⟨11, _⟩ => ⟨S16x64x512, .bf16⟩
  | _, _ => ⟨S64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_140 : BitVec 32 := 1#32
  let v204 : BitVec 32 := Scalar.addi v2 c1_i32_140
  let c16_i32_141 : BitVec 32 := 16#32
  let c0_i32_142 : BitVec 32 := 0#32
  let v205 : BitVec 1 := Scalar.cmpi .eq c16_i32_141 c0_i32_142
  let c1_i32_143 : BitVec 32 := 1#32
  let v206 : BitVec 32 := Scalar.select v205 c1_i32_143 c16_i32_141
  let v207 : BitVec 32 := Scalar.remsi v204 v206
  let c0_i32_145 : BitVec 32 := 0#32
  let v209 : BitVec 1 := Scalar.cmpi .slt v207 c0_i32_145
  let c0_i32_146 : BitVec 32 := 0#32
  let v210 : BitVec 1 := Scalar.cmpi .slt v206 c0_i32_146
  let v211 : BitVec 1 := Scalar.xori v209 v210
  let c0_i32_144 : BitVec 32 := 0#32
  let v208 : BitVec 1 := Scalar.cmpi .ne v207 c0_i32_144
  let v212 : BitVec 1 := Scalar.andi v211 v208
  let v213 : BitVec 32 := Scalar.addi v207 v206
  let v214 : BitVec 32 := Scalar.select v212 v213 v207
  let c1_i32_151 : BitVec 32 := 1#32
  let v215 : BitVec 32 := Scalar.muli v214 c1_i32_151
  let v216 : BitVec 32 := Scalar.addi c0_i32_152 v215
  v216.toNat
def k0_dev17 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_156 : BitVec 32 := 2#32
  let v225 : BitVec 32 := Scalar.addi v2 c2_i32_156
  let c16_i32_157 : BitVec 32 := 16#32
  let c0_i32_158 : BitVec 32 := 0#32
  let v226 : BitVec 1 := Scalar.cmpi .eq c16_i32_157 c0_i32_158
  let c1_i32_159 : BitVec 32 := 1#32
  let v227 : BitVec 32 := Scalar.select v226 c1_i32_159 c16_i32_157
  let v228 : BitVec 32 := Scalar.remsi v225 v227
  let c0_i32_161 : BitVec 32 := 0#32
  let v230 : BitVec 1 := Scalar.cmpi .slt v228 c0_i32_161
  let c0_i32_162 : BitVec 32 := 0#32
  let v231 : BitVec 1 := Scalar.cmpi .slt v227 c0_i32_162
  let v232 : BitVec 1 := Scalar.xori v230 v231
  let c0_i32_160 : BitVec 32 := 0#32
  let v229 : BitVec 1 := Scalar.cmpi .ne v228 c0_i32_160
  let v233 : BitVec 1 := Scalar.andi v232 v229
  let v234 : BitVec 32 := Scalar.addi v228 v227
  let v235 : BitVec 32 := Scalar.select v233 v234 v228
  let c1_i32_167 : BitVec 32 := 1#32
  let v236 : BitVec 32 := Scalar.muli v235 c1_i32_167
  let v237 : BitVec 32 := Scalar.addi c0_i32_168 v236
  v237.toNat
def k0_dev18 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_172 : BitVec 32 := 3#32
  let v246 : BitVec 32 := Scalar.addi v2 c3_i32_172
  let c16_i32_173 : BitVec 32 := 16#32
  let c0_i32_174 : BitVec 32 := 0#32
  let v247 : BitVec 1 := Scalar.cmpi .eq c16_i32_173 c0_i32_174
  let c1_i32_175 : BitVec 32 := 1#32
  let v248 : BitVec 32 := Scalar.select v247 c1_i32_175 c16_i32_173
  let v249 : BitVec 32 := Scalar.remsi v246 v248
  let c0_i32_177 : BitVec 32 := 0#32
  let v251 : BitVec 1 := Scalar.cmpi .slt v249 c0_i32_177
  let c0_i32_178 : BitVec 32 := 0#32
  let v252 : BitVec 1 := Scalar.cmpi .slt v248 c0_i32_178
  let v253 : BitVec 1 := Scalar.xori v251 v252
  let c0_i32_176 : BitVec 32 := 0#32
  let v250 : BitVec 1 := Scalar.cmpi .ne v249 c0_i32_176
  let v254 : BitVec 1 := Scalar.andi v253 v250
  let v255 : BitVec 32 := Scalar.addi v249 v248
  let v256 : BitVec 32 := Scalar.select v254 v255 v249
  let c1_i32_183 : BitVec 32 := 1#32
  let v257 : BitVec 32 := Scalar.muli v256 c1_i32_183
  let v258 : BitVec 32 := Scalar.addi c0_i32_184 v257
  v258.toNat
def k0_dev19 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_188 : BitVec 32 := 4#32
  let v267 : BitVec 32 := Scalar.addi v2 c4_i32_188
  let c16_i32_189 : BitVec 32 := 16#32
  let c0_i32_190 : BitVec 32 := 0#32
  let v268 : BitVec 1 := Scalar.cmpi .eq c16_i32_189 c0_i32_190
  let c1_i32_191 : BitVec 32 := 1#32
  let v269 : BitVec 32 := Scalar.select v268 c1_i32_191 c16_i32_189
  let v270 : BitVec 32 := Scalar.remsi v267 v269
  let c0_i32_193 : BitVec 32 := 0#32
  let v272 : BitVec 1 := Scalar.cmpi .slt v270 c0_i32_193
  let c0_i32_194 : BitVec 32 := 0#32
  let v273 : BitVec 1 := Scalar.cmpi .slt v269 c0_i32_194
  let v274 : BitVec 1 := Scalar.xori v272 v273
  let c0_i32_192 : BitVec 32 := 0#32
  let v271 : BitVec 1 := Scalar.cmpi .ne v270 c0_i32_192
  let v275 : BitVec 1 := Scalar.andi v274 v271
  let v276 : BitVec 32 := Scalar.addi v270 v269
  let v277 : BitVec 32 := Scalar.select v275 v276 v270
  let c1_i32_199 : BitVec 32 := 1#32
  let v278 : BitVec 32 := Scalar.muli v277 c1_i32_199
  let v279 : BitVec 32 := Scalar.addi c0_i32_200 v278
  v279.toNat
def k0_dev20 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_204 : BitVec 32 := 5#32
  let v288 : BitVec 32 := Scalar.addi v2 c5_i32_204
  let c16_i32_205 : BitVec 32 := 16#32
  let c0_i32_206 : BitVec 32 := 0#32
  let v289 : BitVec 1 := Scalar.cmpi .eq c16_i32_205 c0_i32_206
  let c1_i32_207 : BitVec 32 := 1#32
  let v290 : BitVec 32 := Scalar.select v289 c1_i32_207 c16_i32_205
  let v291 : BitVec 32 := Scalar.remsi v288 v290
  let c0_i32_209 : BitVec 32 := 0#32
  let v293 : BitVec 1 := Scalar.cmpi .slt v291 c0_i32_209
  let c0_i32_210 : BitVec 32 := 0#32
  let v294 : BitVec 1 := Scalar.cmpi .slt v290 c0_i32_210
  let v295 : BitVec 1 := Scalar.xori v293 v294
  let c0_i32_208 : BitVec 32 := 0#32
  let v292 : BitVec 1 := Scalar.cmpi .ne v291 c0_i32_208
  let v296 : BitVec 1 := Scalar.andi v295 v292
  let v297 : BitVec 32 := Scalar.addi v291 v290
  let v298 : BitVec 32 := Scalar.select v296 v297 v291
  let c1_i32_215 : BitVec 32 := 1#32
  let v299 : BitVec 32 := Scalar.muli v298 c1_i32_215
  let v300 : BitVec 32 := Scalar.addi c0_i32_216 v299
  v300.toNat
def k0_dev21 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_220 : BitVec 32 := 6#32
  let v309 : BitVec 32 := Scalar.addi v2 c6_i32_220
  let c16_i32_221 : BitVec 32 := 16#32
  let c0_i32_222 : BitVec 32 := 0#32
  let v310 : BitVec 1 := Scalar.cmpi .eq c16_i32_221 c0_i32_222
  let c1_i32_223 : BitVec 32 := 1#32
  let v311 : BitVec 32 := Scalar.select v310 c1_i32_223 c16_i32_221
  let v312 : BitVec 32 := Scalar.remsi v309 v311
  let c0_i32_225 : BitVec 32 := 0#32
  let v314 : BitVec 1 := Scalar.cmpi .slt v312 c0_i32_225
  let c0_i32_226 : BitVec 32 := 0#32
  let v315 : BitVec 1 := Scalar.cmpi .slt v311 c0_i32_226
  let v316 : BitVec 1 := Scalar.xori v314 v315
  let c0_i32_224 : BitVec 32 := 0#32
  let v313 : BitVec 1 := Scalar.cmpi .ne v312 c0_i32_224
  let v317 : BitVec 1 := Scalar.andi v316 v313
  let v318 : BitVec 32 := Scalar.addi v312 v311
  let v319 : BitVec 32 := Scalar.select v317 v318 v312
  let c1_i32_231 : BitVec 32 := 1#32
  let v320 : BitVec 32 := Scalar.muli v319 c1_i32_231
  let v321 : BitVec 32 := Scalar.addi c0_i32_232 v320
  v321.toNat
def k0_dev22 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_236 : BitVec 32 := 7#32
  let v330 : BitVec 32 := Scalar.addi v2 c7_i32_236
  let c16_i32_237 : BitVec 32 := 16#32
  let c0_i32_238 : BitVec 32 := 0#32
  let v331 : BitVec 1 := Scalar.cmpi .eq c16_i32_237 c0_i32_238
  let c1_i32_239 : BitVec 32 := 1#32
  let v332 : BitVec 32 := Scalar.select v331 c1_i32_239 c16_i32_237
  let v333 : BitVec 32 := Scalar.remsi v330 v332
  let c0_i32_241 : BitVec 32 := 0#32
  let v335 : BitVec 1 := Scalar.cmpi .slt v333 c0_i32_241
  let c0_i32_242 : BitVec 32 := 0#32
  let v336 : BitVec 1 := Scalar.cmpi .slt v332 c0_i32_242
  let v337 : BitVec 1 := Scalar.xori v335 v336
  let c0_i32_240 : BitVec 32 := 0#32
  let v334 : BitVec 1 := Scalar.cmpi .ne v333 c0_i32_240
  let v338 : BitVec 1 := Scalar.andi v337 v334
  let v339 : BitVec 32 := Scalar.addi v333 v332
  let v340 : BitVec 32 := Scalar.select v338 v339 v333
  let c1_i32_247 : BitVec 32 := 1#32
  let v341 : BitVec 32 := Scalar.muli v340 c1_i32_247
  let v342 : BitVec 32 := Scalar.addi c0_i32_248 v341
  v342.toNat
def k0_dev23 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_252 : BitVec 32 := 8#32
  let v351 : BitVec 32 := Scalar.addi v2 c8_i32_252
  let c16_i32_253 : BitVec 32 := 16#32
  let c0_i32_254 : BitVec 32 := 0#32
  let v352 : BitVec 1 := Scalar.cmpi .eq c16_i32_253 c0_i32_254
  let c1_i32_255 : BitVec 32 := 1#32
  let v353 : BitVec 32 := Scalar.select v352 c1_i32_255 c16_i32_253
  let v354 : BitVec 32 := Scalar.remsi v351 v353
  let c0_i32_257 : BitVec 32 := 0#32
  let v356 : BitVec 1 := Scalar.cmpi .slt v354 c0_i32_257
  let c0_i32_258 : BitVec 32 := 0#32
  let v357 : BitVec 1 := Scalar.cmpi .slt v353 c0_i32_258
  let v358 : BitVec 1 := Scalar.xori v356 v357
  let c0_i32_256 : BitVec 32 := 0#32
  let v355 : BitVec 1 := Scalar.cmpi .ne v354 c0_i32_256
  let v359 : BitVec 1 := Scalar.andi v358 v355
  let v360 : BitVec 32 := Scalar.addi v354 v353
  let v361 : BitVec 32 := Scalar.select v359 v360 v354
  let c1_i32_263 : BitVec 32 := 1#32
  let v362 : BitVec 32 := Scalar.muli v361 c1_i32_263
  let v363 : BitVec 32 := Scalar.addi c0_i32_264 v362
  v363.toNat
def k0_dev24 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_268 : BitVec 32 := 9#32
  let v372 : BitVec 32 := Scalar.addi v2 c9_i32_268
  let c16_i32_269 : BitVec 32 := 16#32
  let c0_i32_270 : BitVec 32 := 0#32
  let v373 : BitVec 1 := Scalar.cmpi .eq c16_i32_269 c0_i32_270
  let c1_i32_271 : BitVec 32 := 1#32
  let v374 : BitVec 32 := Scalar.select v373 c1_i32_271 c16_i32_269
  let v375 : BitVec 32 := Scalar.remsi v372 v374
  let c0_i32_273 : BitVec 32 := 0#32
  let v377 : BitVec 1 := Scalar.cmpi .slt v375 c0_i32_273
  let c0_i32_274 : BitVec 32 := 0#32
  let v378 : BitVec 1 := Scalar.cmpi .slt v374 c0_i32_274
  let v379 : BitVec 1 := Scalar.xori v377 v378
  let c0_i32_272 : BitVec 32 := 0#32
  let v376 : BitVec 1 := Scalar.cmpi .ne v375 c0_i32_272
  let v380 : BitVec 1 := Scalar.andi v379 v376
  let v381 : BitVec 32 := Scalar.addi v375 v374
  let v382 : BitVec 32 := Scalar.select v380 v381 v375
  let c1_i32_279 : BitVec 32 := 1#32
  let v383 : BitVec 32 := Scalar.muli v382 c1_i32_279
  let v384 : BitVec 32 := Scalar.addi c0_i32_280 v383
  v384.toNat
def k0_dev25 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_284 : BitVec 32 := 10#32
  let v393 : BitVec 32 := Scalar.addi v2 c10_i32_284
  let c16_i32_285 : BitVec 32 := 16#32
  let c0_i32_286 : BitVec 32 := 0#32
  let v394 : BitVec 1 := Scalar.cmpi .eq c16_i32_285 c0_i32_286
  let c1_i32_287 : BitVec 32 := 1#32
  let v395 : BitVec 32 := Scalar.select v394 c1_i32_287 c16_i32_285
  let v396 : BitVec 32 := Scalar.remsi v393 v395
  let c0_i32_289 : BitVec 32 := 0#32
  let v398 : BitVec 1 := Scalar.cmpi .slt v396 c0_i32_289
  let c0_i32_290 : BitVec 32 := 0#32
  let v399 : BitVec 1 := Scalar.cmpi .slt v395 c0_i32_290
  let v400 : BitVec 1 := Scalar.xori v398 v399
  let c0_i32_288 : BitVec 32 := 0#32
  let v397 : BitVec 1 := Scalar.cmpi .ne v396 c0_i32_288
  let v401 : BitVec 1 := Scalar.andi v400 v397
  let v402 : BitVec 32 := Scalar.addi v396 v395
  let v403 : BitVec 32 := Scalar.select v401 v402 v396
  let c1_i32_295 : BitVec 32 := 1#32
  let v404 : BitVec 32 := Scalar.muli v403 c1_i32_295
  let v405 : BitVec 32 := Scalar.addi c0_i32_296 v404
  v405.toNat
def k0_dev26 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_300 : BitVec 32 := 11#32
  let v414 : BitVec 32 := Scalar.addi v2 c11_i32_300
  let c16_i32_301 : BitVec 32 := 16#32
  let c0_i32_302 : BitVec 32 := 0#32
  let v415 : BitVec 1 := Scalar.cmpi .eq c16_i32_301 c0_i32_302
  let c1_i32_303 : BitVec 32 := 1#32
  let v416 : BitVec 32 := Scalar.select v415 c1_i32_303 c16_i32_301
  let v417 : BitVec 32 := Scalar.remsi v414 v416
  let c0_i32_305 : BitVec 32 := 0#32
  let v419 : BitVec 1 := Scalar.cmpi .slt v417 c0_i32_305
  let c0_i32_306 : BitVec 32 := 0#32
  let v420 : BitVec 1 := Scalar.cmpi .slt v416 c0_i32_306
  let v421 : BitVec 1 := Scalar.xori v419 v420
  let c0_i32_304 : BitVec 32 := 0#32
  let v418 : BitVec 1 := Scalar.cmpi .ne v417 c0_i32_304
  let v422 : BitVec 1 := Scalar.andi v421 v418
  let v423 : BitVec 32 := Scalar.addi v417 v416
  let v424 : BitVec 32 := Scalar.select v422 v423 v417
  let c1_i32_311 : BitVec 32 := 1#32
  let v425 : BitVec 32 := Scalar.muli v424 c1_i32_311
  let v426 : BitVec 32 := Scalar.addi c0_i32_312 v425
  v426.toNat
def k0_dev27 (d0 : Dev nD) : Nat :=
  let c0_i32_328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_316 : BitVec 32 := 12#32
  let v435 : BitVec 32 := Scalar.addi v2 c12_i32_316
  let c16_i32_317 : BitVec 32 := 16#32
  let c0_i32_318 : BitVec 32 := 0#32
  let v436 : BitVec 1 := Scalar.cmpi .eq c16_i32_317 c0_i32_318
  let c1_i32_319 : BitVec 32 := 1#32
  let v437 : BitVec 32 := Scalar.select v436 c1_i32_319 c16_i32_317
  let v438 : BitVec 32 := Scalar.remsi v435 v437
  let c0_i32_321 : BitVec 32 := 0#32
  let v440 : BitVec 1 := Scalar.cmpi .slt v438 c0_i32_321
  let c0_i32_322 : BitVec 32 := 0#32
  let v441 : BitVec 1 := Scalar.cmpi .slt v437 c0_i32_322
  let v442 : BitVec 1 := Scalar.xori v440 v441
  let c0_i32_320 : BitVec 32 := 0#32
  let v439 : BitVec 1 := Scalar.cmpi .ne v438 c0_i32_320
  let v443 : BitVec 1 := Scalar.andi v442 v439
  let v444 : BitVec 32 := Scalar.addi v438 v437
  let v445 : BitVec 32 := Scalar.select v443 v444 v438
  let c1_i32_327 : BitVec 32 := 1#32
  let v446 : BitVec 32 := Scalar.muli v445 c1_i32_327
  let v447 : BitVec 32 := Scalar.addi c0_i32_328 v446
  v447.toNat
def k0_dev28 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_332 : BitVec 32 := 13#32
  let v456 : BitVec 32 := Scalar.addi v2 c13_i32_332
  let c16_i32_333 : BitVec 32 := 16#32
  let c0_i32_334 : BitVec 32 := 0#32
  let v457 : BitVec 1 := Scalar.cmpi .eq c16_i32_333 c0_i32_334
  let c1_i32_335 : BitVec 32 := 1#32
  let v458 : BitVec 32 := Scalar.select v457 c1_i32_335 c16_i32_333
  let v459 : BitVec 32 := Scalar.remsi v456 v458
  let c0_i32_337 : BitVec 32 := 0#32
  let v461 : BitVec 1 := Scalar.cmpi .slt v459 c0_i32_337
  let c0_i32_338 : BitVec 32 := 0#32
  let v462 : BitVec 1 := Scalar.cmpi .slt v458 c0_i32_338
  let v463 : BitVec 1 := Scalar.xori v461 v462
  let c0_i32_336 : BitVec 32 := 0#32
  let v460 : BitVec 1 := Scalar.cmpi .ne v459 c0_i32_336
  let v464 : BitVec 1 := Scalar.andi v463 v460
  let v465 : BitVec 32 := Scalar.addi v459 v458
  let v466 : BitVec 32 := Scalar.select v464 v465 v459
  let c1_i32_343 : BitVec 32 := 1#32
  let v467 : BitVec 32 := Scalar.muli v466 c1_i32_343
  let v468 : BitVec 32 := Scalar.addi c0_i32_344 v467
  v468.toNat
def k0_dev29 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_348 : BitVec 32 := 14#32
  let v477 : BitVec 32 := Scalar.addi v2 c14_i32_348
  let c16_i32_349 : BitVec 32 := 16#32
  let c0_i32_350 : BitVec 32 := 0#32
  let v478 : BitVec 1 := Scalar.cmpi .eq c16_i32_349 c0_i32_350
  let c1_i32_351 : BitVec 32 := 1#32
  let v479 : BitVec 32 := Scalar.select v478 c1_i32_351 c16_i32_349
  let v480 : BitVec 32 := Scalar.remsi v477 v479
  let c0_i32_353 : BitVec 32 := 0#32
  let v482 : BitVec 1 := Scalar.cmpi .slt v480 c0_i32_353
  let c0_i32_354 : BitVec 32 := 0#32
  let v483 : BitVec 1 := Scalar.cmpi .slt v479 c0_i32_354
  let v484 : BitVec 1 := Scalar.xori v482 v483
  let c0_i32_352 : BitVec 32 := 0#32
  let v481 : BitVec 1 := Scalar.cmpi .ne v480 c0_i32_352
  let v485 : BitVec 1 := Scalar.andi v484 v481
  let v486 : BitVec 32 := Scalar.addi v480 v479
  let v487 : BitVec 32 := Scalar.select v485 v486 v480
  let c1_i32_359 : BitVec 32 := 1#32
  let v488 : BitVec 32 := Scalar.muli v487 c1_i32_359
  let v489 : BitVec 32 := Scalar.addi c0_i32_360 v488
  v489.toNat
def k0_dev30 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_364 : BitVec 32 := 15#32
  let v498 : BitVec 32 := Scalar.addi v2 c15_i32_364
  let c16_i32_365 : BitVec 32 := 16#32
  let c0_i32_366 : BitVec 32 := 0#32
  let v499 : BitVec 1 := Scalar.cmpi .eq c16_i32_365 c0_i32_366
  let c1_i32_367 : BitVec 32 := 1#32
  let v500 : BitVec 32 := Scalar.select v499 c1_i32_367 c16_i32_365
  let v501 : BitVec 32 := Scalar.remsi v498 v500
  let c0_i32_369 : BitVec 32 := 0#32
  let v503 : BitVec 1 := Scalar.cmpi .slt v501 c0_i32_369
  let c0_i32_370 : BitVec 32 := 0#32
  let v504 : BitVec 1 := Scalar.cmpi .slt v500 c0_i32_370
  let v505 : BitVec 1 := Scalar.xori v503 v504
  let c0_i32_368 : BitVec 32 := 0#32
  let v502 : BitVec 1 := Scalar.cmpi .ne v501 c0_i32_368
  let v506 : BitVec 1 := Scalar.andi v505 v502
  let v507 : BitVec 32 := Scalar.addi v501 v500
  let v508 : BitVec 32 := Scalar.select v506 v507 v501
  let c1_i32_375 : BitVec 32 := 1#32
  let v509 : BitVec 32 := Scalar.muli v508 c1_i32_375
  let v510 : BitVec 32 := Scalar.addi c0_i32_376 v509
  v510.toNat
def k0_dev31 (d0 : Dev nD) : Nat :=
  let c0_i32_446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_434 : BitVec 32 := 12#32
  let v570 : BitVec 32 := Scalar.addi v2 c12_i32_434
  let c16_i32_435 : BitVec 32 := 16#32
  let c0_i32_436 : BitVec 32 := 0#32
  let v571 : BitVec 1 := Scalar.cmpi .eq c16_i32_435 c0_i32_436
  let c1_i32_437 : BitVec 32 := 1#32
  let v572 : BitVec 32 := Scalar.select v571 c1_i32_437 c16_i32_435
  let v573 : BitVec 32 := Scalar.remsi v570 v572
  let c0_i32_439 : BitVec 32 := 0#32
  let v575 : BitVec 1 := Scalar.cmpi .slt v573 c0_i32_439
  let c0_i32_440 : BitVec 32 := 0#32
  let v576 : BitVec 1 := Scalar.cmpi .slt v572 c0_i32_440
  let v577 : BitVec 1 := Scalar.xori v575 v576
  let c0_i32_438 : BitVec 32 := 0#32
  let v574 : BitVec 1 := Scalar.cmpi .ne v573 c0_i32_438
  let v578 : BitVec 1 := Scalar.andi v577 v574
  let v579 : BitVec 32 := Scalar.addi v573 v572
  let v580 : BitVec 32 := Scalar.select v578 v579 v573
  let c1_i32_445 : BitVec 32 := 1#32
  let v581 : BitVec 32 := Scalar.muli v580 c1_i32_445
  let v582 : BitVec 32 := Scalar.addi c0_i32_446 v581
  v582.toNat
def k0_dev32 (d0 : Dev nD) : Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_454 : BitVec 32 := 13#32
  let v596 : BitVec 32 := Scalar.addi v2 c13_i32_454
  let c16_i32_455 : BitVec 32 := 16#32
  let c0_i32_456 : BitVec 32 := 0#32
  let v597 : BitVec 1 := Scalar.cmpi .eq c16_i32_455 c0_i32_456
  let c1_i32_457 : BitVec 32 := 1#32
  let v598 : BitVec 32 := Scalar.select v597 c1_i32_457 c16_i32_455
  let v599 : BitVec 32 := Scalar.remsi v596 v598
  let c0_i32_459 : BitVec 32 := 0#32
  let v601 : BitVec 1 := Scalar.cmpi .slt v599 c0_i32_459
  let c0_i32_460 : BitVec 32 := 0#32
  let v602 : BitVec 1 := Scalar.cmpi .slt v598 c0_i32_460
  let v603 : BitVec 1 := Scalar.xori v601 v602
  let c0_i32_458 : BitVec 32 := 0#32
  let v600 : BitVec 1 := Scalar.cmpi .ne v599 c0_i32_458
  let v604 : BitVec 1 := Scalar.andi v603 v600
  let v605 : BitVec 32 := Scalar.addi v599 v598
  let v606 : BitVec 32 := Scalar.select v604 v605 v599
  let c1_i32_465 : BitVec 32 := 1#32
  let v607 : BitVec 32 := Scalar.muli v606 c1_i32_465
  let v608 : BitVec 32 := Scalar.addi c0_i32_466 v607
  v608.toNat
def k0_dev33 (d0 : Dev nD) : Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_474 : BitVec 32 := 14#32
  let v622 : BitVec 32 := Scalar.addi v2 c14_i32_474
  let c16_i32_475 : BitVec 32 := 16#32
  let c0_i32_476 : BitVec 32 := 0#32
  let v623 : BitVec 1 := Scalar.cmpi .eq c16_i32_475 c0_i32_476
  let c1_i32_477 : BitVec 32 := 1#32
  let v624 : BitVec 32 := Scalar.select v623 c1_i32_477 c16_i32_475
  let v625 : BitVec 32 := Scalar.remsi v622 v624
  let c0_i32_479 : BitVec 32 := 0#32
  let v627 : BitVec 1 := Scalar.cmpi .slt v625 c0_i32_479
  let c0_i32_480 : BitVec 32 := 0#32
  let v628 : BitVec 1 := Scalar.cmpi .slt v624 c0_i32_480
  let v629 : BitVec 1 := Scalar.xori v627 v628
  let c0_i32_478 : BitVec 32 := 0#32
  let v626 : BitVec 1 := Scalar.cmpi .ne v625 c0_i32_478
  let v630 : BitVec 1 := Scalar.andi v629 v626
  let v631 : BitVec 32 := Scalar.addi v625 v624
  let v632 : BitVec 32 := Scalar.select v630 v631 v625
  let c1_i32_485 : BitVec 32 := 1#32
  let v633 : BitVec 32 := Scalar.muli v632 c1_i32_485
  let v634 : BitVec 32 := Scalar.addi c0_i32_486 v633
  v634.toNat
def k0_dev34 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_494 : BitVec 32 := 15#32
  let v648 : BitVec 32 := Scalar.addi v2 c15_i32_494
  let c16_i32_495 : BitVec 32 := 16#32
  let c0_i32_496 : BitVec 32 := 0#32
  let v649 : BitVec 1 := Scalar.cmpi .eq c16_i32_495 c0_i32_496
  let c1_i32_497 : BitVec 32 := 1#32
  let v650 : BitVec 32 := Scalar.select v649 c1_i32_497 c16_i32_495
  let v651 : BitVec 32 := Scalar.remsi v648 v650
  let c0_i32_499 : BitVec 32 := 0#32
  let v653 : BitVec 1 := Scalar.cmpi .slt v651 c0_i32_499
  let c0_i32_500 : BitVec 32 := 0#32
  let v654 : BitVec 1 := Scalar.cmpi .slt v650 c0_i32_500
  let v655 : BitVec 1 := Scalar.xori v653 v654
  let c0_i32_498 : BitVec 32 := 0#32
  let v652 : BitVec 1 := Scalar.cmpi .ne v651 c0_i32_498
  let v656 : BitVec 1 := Scalar.andi v655 v652
  let v657 : BitVec 32 := Scalar.addi v651 v650
  let v658 : BitVec 32 := Scalar.select v656 v657 v651
  let c1_i32_505 : BitVec 32 := 1#32
  let v659 : BitVec 32 := Scalar.muli v658 c1_i32_505
  let v660 : BitVec 32 := Scalar.addi c0_i32_506 v659
  v660.toNat
def k0_dev35 (d0 : Dev nD) : Nat :=
  let c0_i32_574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_562 : BitVec 32 := 8#32
  let v716 : BitVec 32 := Scalar.addi v2 c8_i32_562
  let c16_i32_563 : BitVec 32 := 16#32
  let c0_i32_564 : BitVec 32 := 0#32
  let v717 : BitVec 1 := Scalar.cmpi .eq c16_i32_563 c0_i32_564
  let c1_i32_565 : BitVec 32 := 1#32
  let v718 : BitVec 32 := Scalar.select v717 c1_i32_565 c16_i32_563
  let v719 : BitVec 32 := Scalar.remsi v716 v718
  let c0_i32_567 : BitVec 32 := 0#32
  let v721 : BitVec 1 := Scalar.cmpi .slt v719 c0_i32_567
  let c0_i32_568 : BitVec 32 := 0#32
  let v722 : BitVec 1 := Scalar.cmpi .slt v718 c0_i32_568
  let v723 : BitVec 1 := Scalar.xori v721 v722
  let c0_i32_566 : BitVec 32 := 0#32
  let v720 : BitVec 1 := Scalar.cmpi .ne v719 c0_i32_566
  let v724 : BitVec 1 := Scalar.andi v723 v720
  let v725 : BitVec 32 := Scalar.addi v719 v718
  let v726 : BitVec 32 := Scalar.select v724 v725 v719
  let c1_i32_573 : BitVec 32 := 1#32
  let v727 : BitVec 32 := Scalar.muli v726 c1_i32_573
  let v728 : BitVec 32 := Scalar.addi c0_i32_574 v727
  v728.toNat
def k0_dev36 (d0 : Dev nD) : Nat :=
  let c0_i32_594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_582 : BitVec 32 := 9#32
  let v742 : BitVec 32 := Scalar.addi v2 c9_i32_582
  let c16_i32_583 : BitVec 32 := 16#32
  let c0_i32_584 : BitVec 32 := 0#32
  let v743 : BitVec 1 := Scalar.cmpi .eq c16_i32_583 c0_i32_584
  let c1_i32_585 : BitVec 32 := 1#32
  let v744 : BitVec 32 := Scalar.select v743 c1_i32_585 c16_i32_583
  let v745 : BitVec 32 := Scalar.remsi v742 v744
  let c0_i32_587 : BitVec 32 := 0#32
  let v747 : BitVec 1 := Scalar.cmpi .slt v745 c0_i32_587
  let c0_i32_588 : BitVec 32 := 0#32
  let v748 : BitVec 1 := Scalar.cmpi .slt v744 c0_i32_588
  let v749 : BitVec 1 := Scalar.xori v747 v748
  let c0_i32_586 : BitVec 32 := 0#32
  let v746 : BitVec 1 := Scalar.cmpi .ne v745 c0_i32_586
  let v750 : BitVec 1 := Scalar.andi v749 v746
  let v751 : BitVec 32 := Scalar.addi v745 v744
  let v752 : BitVec 32 := Scalar.select v750 v751 v745
  let c1_i32_593 : BitVec 32 := 1#32
  let v753 : BitVec 32 := Scalar.muli v752 c1_i32_593
  let v754 : BitVec 32 := Scalar.addi c0_i32_594 v753
  v754.toNat
def k0_dev37 (d0 : Dev nD) : Nat :=
  let c0_i32_614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_602 : BitVec 32 := 10#32
  let v768 : BitVec 32 := Scalar.addi v2 c10_i32_602
  let c16_i32_603 : BitVec 32 := 16#32
  let c0_i32_604 : BitVec 32 := 0#32
  let v769 : BitVec 1 := Scalar.cmpi .eq c16_i32_603 c0_i32_604
  let c1_i32_605 : BitVec 32 := 1#32
  let v770 : BitVec 32 := Scalar.select v769 c1_i32_605 c16_i32_603
  let v771 : BitVec 32 := Scalar.remsi v768 v770
  let c0_i32_607 : BitVec 32 := 0#32
  let v773 : BitVec 1 := Scalar.cmpi .slt v771 c0_i32_607
  let c0_i32_608 : BitVec 32 := 0#32
  let v774 : BitVec 1 := Scalar.cmpi .slt v770 c0_i32_608
  let v775 : BitVec 1 := Scalar.xori v773 v774
  let c0_i32_606 : BitVec 32 := 0#32
  let v772 : BitVec 1 := Scalar.cmpi .ne v771 c0_i32_606
  let v776 : BitVec 1 := Scalar.andi v775 v772
  let v777 : BitVec 32 := Scalar.addi v771 v770
  let v778 : BitVec 32 := Scalar.select v776 v777 v771
  let c1_i32_613 : BitVec 32 := 1#32
  let v779 : BitVec 32 := Scalar.muli v778 c1_i32_613
  let v780 : BitVec 32 := Scalar.addi c0_i32_614 v779
  v780.toNat
def k0_dev38 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_622 : BitVec 32 := 11#32
  let v794 : BitVec 32 := Scalar.addi v2 c11_i32_622
  let c16_i32_623 : BitVec 32 := 16#32
  let c0_i32_624 : BitVec 32 := 0#32
  let v795 : BitVec 1 := Scalar.cmpi .eq c16_i32_623 c0_i32_624
  let c1_i32_625 : BitVec 32 := 1#32
  let v796 : BitVec 32 := Scalar.select v795 c1_i32_625 c16_i32_623
  let v797 : BitVec 32 := Scalar.remsi v794 v796
  let c0_i32_627 : BitVec 32 := 0#32
  let v799 : BitVec 1 := Scalar.cmpi .slt v797 c0_i32_627
  let c0_i32_628 : BitVec 32 := 0#32
  let v800 : BitVec 1 := Scalar.cmpi .slt v796 c0_i32_628
  let v801 : BitVec 1 := Scalar.xori v799 v800
  let c0_i32_626 : BitVec 32 := 0#32
  let v798 : BitVec 1 := Scalar.cmpi .ne v797 c0_i32_626
  let v802 : BitVec 1 := Scalar.andi v801 v798
  let v803 : BitVec 32 := Scalar.addi v797 v796
  let v804 : BitVec 32 := Scalar.select v802 v803 v797
  let c1_i32_633 : BitVec 32 := 1#32
  let v805 : BitVec 32 := Scalar.muli v804 c1_i32_633
  let v806 : BitVec 32 := Scalar.addi c0_i32_634 v805
  v806.toNat
def k0_dev39 (d0 : Dev nD) : Nat :=
  let c0_i32_702 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_690 : BitVec 32 := 4#32
  let v862 : BitVec 32 := Scalar.addi v2 c4_i32_690
  let c16_i32_691 : BitVec 32 := 16#32
  let c0_i32_692 : BitVec 32 := 0#32
  let v863 : BitVec 1 := Scalar.cmpi .eq c16_i32_691 c0_i32_692
  let c1_i32_693 : BitVec 32 := 1#32
  let v864 : BitVec 32 := Scalar.select v863 c1_i32_693 c16_i32_691
  let v865 : BitVec 32 := Scalar.remsi v862 v864
  let c0_i32_695 : BitVec 32 := 0#32
  let v867 : BitVec 1 := Scalar.cmpi .slt v865 c0_i32_695
  let c0_i32_696 : BitVec 32 := 0#32
  let v868 : BitVec 1 := Scalar.cmpi .slt v864 c0_i32_696
  let v869 : BitVec 1 := Scalar.xori v867 v868
  let c0_i32_694 : BitVec 32 := 0#32
  let v866 : BitVec 1 := Scalar.cmpi .ne v865 c0_i32_694
  let v870 : BitVec 1 := Scalar.andi v869 v866
  let v871 : BitVec 32 := Scalar.addi v865 v864
  let v872 : BitVec 32 := Scalar.select v870 v871 v865
  let c1_i32_701 : BitVec 32 := 1#32
  let v873 : BitVec 32 := Scalar.muli v872 c1_i32_701
  let v874 : BitVec 32 := Scalar.addi c0_i32_702 v873
  v874.toNat
def k0_dev40 (d0 : Dev nD) : Nat :=
  let c0_i32_722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_710 : BitVec 32 := 5#32
  let v888 : BitVec 32 := Scalar.addi v2 c5_i32_710
  let c16_i32_711 : BitVec 32 := 16#32
  let c0_i32_712 : BitVec 32 := 0#32
  let v889 : BitVec 1 := Scalar.cmpi .eq c16_i32_711 c0_i32_712
  let c1_i32_713 : BitVec 32 := 1#32
  let v890 : BitVec 32 := Scalar.select v889 c1_i32_713 c16_i32_711
  let v891 : BitVec 32 := Scalar.remsi v888 v890
  let c0_i32_715 : BitVec 32 := 0#32
  let v893 : BitVec 1 := Scalar.cmpi .slt v891 c0_i32_715
  let c0_i32_716 : BitVec 32 := 0#32
  let v894 : BitVec 1 := Scalar.cmpi .slt v890 c0_i32_716
  let v895 : BitVec 1 := Scalar.xori v893 v894
  let c0_i32_714 : BitVec 32 := 0#32
  let v892 : BitVec 1 := Scalar.cmpi .ne v891 c0_i32_714
  let v896 : BitVec 1 := Scalar.andi v895 v892
  let v897 : BitVec 32 := Scalar.addi v891 v890
  let v898 : BitVec 32 := Scalar.select v896 v897 v891
  let c1_i32_721 : BitVec 32 := 1#32
  let v899 : BitVec 32 := Scalar.muli v898 c1_i32_721
  let v900 : BitVec 32 := Scalar.addi c0_i32_722 v899
  v900.toNat
def k0_dev41 (d0 : Dev nD) : Nat :=
  let c0_i32_742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_730 : BitVec 32 := 6#32
  let v914 : BitVec 32 := Scalar.addi v2 c6_i32_730
  let c16_i32_731 : BitVec 32 := 16#32
  let c0_i32_732 : BitVec 32 := 0#32
  let v915 : BitVec 1 := Scalar.cmpi .eq c16_i32_731 c0_i32_732
  let c1_i32_733 : BitVec 32 := 1#32
  let v916 : BitVec 32 := Scalar.select v915 c1_i32_733 c16_i32_731
  let v917 : BitVec 32 := Scalar.remsi v914 v916
  let c0_i32_735 : BitVec 32 := 0#32
  let v919 : BitVec 1 := Scalar.cmpi .slt v917 c0_i32_735
  let c0_i32_736 : BitVec 32 := 0#32
  let v920 : BitVec 1 := Scalar.cmpi .slt v916 c0_i32_736
  let v921 : BitVec 1 := Scalar.xori v919 v920
  let c0_i32_734 : BitVec 32 := 0#32
  let v918 : BitVec 1 := Scalar.cmpi .ne v917 c0_i32_734
  let v922 : BitVec 1 := Scalar.andi v921 v918
  let v923 : BitVec 32 := Scalar.addi v917 v916
  let v924 : BitVec 32 := Scalar.select v922 v923 v917
  let c1_i32_741 : BitVec 32 := 1#32
  let v925 : BitVec 32 := Scalar.muli v924 c1_i32_741
  let v926 : BitVec 32 := Scalar.addi c0_i32_742 v925
  v926.toNat
def k0_dev42 (d0 : Dev nD) : Nat :=
  let c0_i32_762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_750 : BitVec 32 := 7#32
  let v940 : BitVec 32 := Scalar.addi v2 c7_i32_750
  let c16_i32_751 : BitVec 32 := 16#32
  let c0_i32_752 : BitVec 32 := 0#32
  let v941 : BitVec 1 := Scalar.cmpi .eq c16_i32_751 c0_i32_752
  let c1_i32_753 : BitVec 32 := 1#32
  let v942 : BitVec 32 := Scalar.select v941 c1_i32_753 c16_i32_751
  let v943 : BitVec 32 := Scalar.remsi v940 v942
  let c0_i32_755 : BitVec 32 := 0#32
  let v945 : BitVec 1 := Scalar.cmpi .slt v943 c0_i32_755
  let c0_i32_756 : BitVec 32 := 0#32
  let v946 : BitVec 1 := Scalar.cmpi .slt v942 c0_i32_756
  let v947 : BitVec 1 := Scalar.xori v945 v946
  let c0_i32_754 : BitVec 32 := 0#32
  let v944 : BitVec 1 := Scalar.cmpi .ne v943 c0_i32_754
  let v948 : BitVec 1 := Scalar.andi v947 v944
  let v949 : BitVec 32 := Scalar.addi v943 v942
  let v950 : BitVec 32 := Scalar.select v948 v949 v943
  let c1_i32_761 : BitVec 32 := 1#32
  let v951 : BitVec 32 := Scalar.muli v950 c1_i32_761
  let v952 : BitVec 32 := Scalar.addi c0_i32_762 v951
  v952.toNat
def k0_dev43 (d0 : Dev nD) : Nat :=
  let c0_i32_820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_808 : BitVec 32 := 1#32
  let v1000 : BitVec 32 := Scalar.addi v2 c1_i32_808
  let c16_i32_809 : BitVec 32 := 16#32
  let c0_i32_810 : BitVec 32 := 0#32
  let v1001 : BitVec 1 := Scalar.cmpi .eq c16_i32_809 c0_i32_810
  let c1_i32_811 : BitVec 32 := 1#32
  let v1002 : BitVec 32 := Scalar.select v1001 c1_i32_811 c16_i32_809
  let v1003 : BitVec 32 := Scalar.remsi v1000 v1002
  let c0_i32_813 : BitVec 32 := 0#32
  let v1005 : BitVec 1 := Scalar.cmpi .slt v1003 c0_i32_813
  let c0_i32_814 : BitVec 32 := 0#32
  let v1006 : BitVec 1 := Scalar.cmpi .slt v1002 c0_i32_814
  let v1007 : BitVec 1 := Scalar.xori v1005 v1006
  let c0_i32_812 : BitVec 32 := 0#32
  let v1004 : BitVec 1 := Scalar.cmpi .ne v1003 c0_i32_812
  let v1008 : BitVec 1 := Scalar.andi v1007 v1004
  let v1009 : BitVec 32 := Scalar.addi v1003 v1002
  let v1010 : BitVec 32 := Scalar.select v1008 v1009 v1003
  let c1_i32_819 : BitVec 32 := 1#32
  let v1011 : BitVec 32 := Scalar.muli v1010 c1_i32_819
  let v1012 : BitVec 32 := Scalar.addi c0_i32_820 v1011
  v1012.toNat
def k0_dev44 (d0 : Dev nD) : Nat :=
  let c0_i32_840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_828 : BitVec 32 := 2#32
  let v1026 : BitVec 32 := Scalar.addi v2 c2_i32_828
  let c16_i32_829 : BitVec 32 := 16#32
  let c0_i32_830 : BitVec 32 := 0#32
  let v1027 : BitVec 1 := Scalar.cmpi .eq c16_i32_829 c0_i32_830
  let c1_i32_831 : BitVec 32 := 1#32
  let v1028 : BitVec 32 := Scalar.select v1027 c1_i32_831 c16_i32_829
  let v1029 : BitVec 32 := Scalar.remsi v1026 v1028
  let c0_i32_833 : BitVec 32 := 0#32
  let v1031 : BitVec 1 := Scalar.cmpi .slt v1029 c0_i32_833
  let c0_i32_834 : BitVec 32 := 0#32
  let v1032 : BitVec 1 := Scalar.cmpi .slt v1028 c0_i32_834
  let v1033 : BitVec 1 := Scalar.xori v1031 v1032
  let c0_i32_832 : BitVec 32 := 0#32
  let v1030 : BitVec 1 := Scalar.cmpi .ne v1029 c0_i32_832
  let v1034 : BitVec 1 := Scalar.andi v1033 v1030
  let v1035 : BitVec 32 := Scalar.addi v1029 v1028
  let v1036 : BitVec 32 := Scalar.select v1034 v1035 v1029
  let c1_i32_839 : BitVec 32 := 1#32
  let v1037 : BitVec 32 := Scalar.muli v1036 c1_i32_839
  let v1038 : BitVec 32 := Scalar.addi c0_i32_840 v1037
  v1038.toNat
def k0_dev45 (d0 : Dev nD) : Nat :=
  let c0_i32_860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_848 : BitVec 32 := 3#32
  let v1052 : BitVec 32 := Scalar.addi v2 c3_i32_848
  let c16_i32_849 : BitVec 32 := 16#32
  let c0_i32_850 : BitVec 32 := 0#32
  let v1053 : BitVec 1 := Scalar.cmpi .eq c16_i32_849 c0_i32_850
  let c1_i32_851 : BitVec 32 := 1#32
  let v1054 : BitVec 32 := Scalar.select v1053 c1_i32_851 c16_i32_849
  let v1055 : BitVec 32 := Scalar.remsi v1052 v1054
  let c0_i32_853 : BitVec 32 := 0#32
  let v1057 : BitVec 1 := Scalar.cmpi .slt v1055 c0_i32_853
  let c0_i32_854 : BitVec 32 := 0#32
  let v1058 : BitVec 1 := Scalar.cmpi .slt v1054 c0_i32_854
  let v1059 : BitVec 1 := Scalar.xori v1057 v1058
  let c0_i32_852 : BitVec 32 := 0#32
  let v1056 : BitVec 1 := Scalar.cmpi .ne v1055 c0_i32_852
  let v1060 : BitVec 1 := Scalar.andi v1059 v1056
  let v1061 : BitVec 32 := Scalar.addi v1055 v1054
  let v1062 : BitVec 32 := Scalar.select v1060 v1061 v1055
  let c1_i32_859 : BitVec 32 := 1#32
  let v1063 : BitVec 32 := Scalar.muli v1062 c1_i32_859
  let v1064 : BitVec 32 := Scalar.addi c0_i32_860 v1063
  v1064.toNat
def k0_dev46 (d0 : Dev nD) : Nat :=
  let c0_i32_1306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1294 : BitVec 32 := 1#32
  let v1382 : BitVec 32 := Scalar.addi v2 c1_i32_1294
  let c16_i32_1295 : BitVec 32 := 16#32
  let c0_i32_1296 : BitVec 32 := 0#32
  let v1383 : BitVec 1 := Scalar.cmpi .eq c16_i32_1295 c0_i32_1296
  let c1_i32_1297 : BitVec 32 := 1#32
  let v1384 : BitVec 32 := Scalar.select v1383 c1_i32_1297 c16_i32_1295
  let v1385 : BitVec 32 := Scalar.remsi v1382 v1384
  let c0_i32_1299 : BitVec 32 := 0#32
  let v1387 : BitVec 1 := Scalar.cmpi .slt v1385 c0_i32_1299
  let c0_i32_1300 : BitVec 32 := 0#32
  let v1388 : BitVec 1 := Scalar.cmpi .slt v1384 c0_i32_1300
  let v1389 : BitVec 1 := Scalar.xori v1387 v1388
  let c0_i32_1298 : BitVec 32 := 0#32
  let v1386 : BitVec 1 := Scalar.cmpi .ne v1385 c0_i32_1298
  let v1390 : BitVec 1 := Scalar.andi v1389 v1386
  let v1391 : BitVec 32 := Scalar.addi v1385 v1384
  let v1392 : BitVec 32 := Scalar.select v1390 v1391 v1385
  let c1_i32_1305 : BitVec 32 := 1#32
  let v1393 : BitVec 32 := Scalar.muli v1392 c1_i32_1305
  let v1394 : BitVec 32 := Scalar.addi c0_i32_1306 v1393
  v1394.toNat
def k0_dev47 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1311 : BitVec 32 := 2#32
  let v1403 : BitVec 32 := Scalar.addi v2 c2_i32_1311
  let c16_i32_1312 : BitVec 32 := 16#32
  let c0_i32_1313 : BitVec 32 := 0#32
  let v1404 : BitVec 1 := Scalar.cmpi .eq c16_i32_1312 c0_i32_1313
  let c1_i32_1314 : BitVec 32 := 1#32
  let v1405 : BitVec 32 := Scalar.select v1404 c1_i32_1314 c16_i32_1312
  let v1406 : BitVec 32 := Scalar.remsi v1403 v1405
  let c0_i32_1316 : BitVec 32 := 0#32
  let v1408 : BitVec 1 := Scalar.cmpi .slt v1406 c0_i32_1316
  let c0_i32_1317 : BitVec 32 := 0#32
  let v1409 : BitVec 1 := Scalar.cmpi .slt v1405 c0_i32_1317
  let v1410 : BitVec 1 := Scalar.xori v1408 v1409
  let c0_i32_1315 : BitVec 32 := 0#32
  let v1407 : BitVec 1 := Scalar.cmpi .ne v1406 c0_i32_1315
  let v1411 : BitVec 1 := Scalar.andi v1410 v1407
  let v1412 : BitVec 32 := Scalar.addi v1406 v1405
  let v1413 : BitVec 32 := Scalar.select v1411 v1412 v1406
  let c1_i32_1322 : BitVec 32 := 1#32
  let v1414 : BitVec 32 := Scalar.muli v1413 c1_i32_1322
  let v1415 : BitVec 32 := Scalar.addi c0_i32_1323 v1414
  v1415.toNat
def k0_dev48 (d0 : Dev nD) : Nat :=
  let c0_i32_1340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1328 : BitVec 32 := 3#32
  let v1424 : BitVec 32 := Scalar.addi v2 c3_i32_1328
  let c16_i32_1329 : BitVec 32 := 16#32
  let c0_i32_1330 : BitVec 32 := 0#32
  let v1425 : BitVec 1 := Scalar.cmpi .eq c16_i32_1329 c0_i32_1330
  let c1_i32_1331 : BitVec 32 := 1#32
  let v1426 : BitVec 32 := Scalar.select v1425 c1_i32_1331 c16_i32_1329
  let v1427 : BitVec 32 := Scalar.remsi v1424 v1426
  let c0_i32_1333 : BitVec 32 := 0#32
  let v1429 : BitVec 1 := Scalar.cmpi .slt v1427 c0_i32_1333
  let c0_i32_1334 : BitVec 32 := 0#32
  let v1430 : BitVec 1 := Scalar.cmpi .slt v1426 c0_i32_1334
  let v1431 : BitVec 1 := Scalar.xori v1429 v1430
  let c0_i32_1332 : BitVec 32 := 0#32
  let v1428 : BitVec 1 := Scalar.cmpi .ne v1427 c0_i32_1332
  let v1432 : BitVec 1 := Scalar.andi v1431 v1428
  let v1433 : BitVec 32 := Scalar.addi v1427 v1426
  let v1434 : BitVec 32 := Scalar.select v1432 v1433 v1427
  let c1_i32_1339 : BitVec 32 := 1#32
  let v1435 : BitVec 32 := Scalar.muli v1434 c1_i32_1339
  let v1436 : BitVec 32 := Scalar.addi c0_i32_1340 v1435
  v1436.toNat
def k0_dev49 (d0 : Dev nD) : Nat :=
  let c0_i32_1357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1345 : BitVec 32 := 4#32
  let v1445 : BitVec 32 := Scalar.addi v2 c4_i32_1345
  let c16_i32_1346 : BitVec 32 := 16#32
  let c0_i32_1347 : BitVec 32 := 0#32
  let v1446 : BitVec 1 := Scalar.cmpi .eq c16_i32_1346 c0_i32_1347
  let c1_i32_1348 : BitVec 32 := 1#32
  let v1447 : BitVec 32 := Scalar.select v1446 c1_i32_1348 c16_i32_1346
  let v1448 : BitVec 32 := Scalar.remsi v1445 v1447
  let c0_i32_1350 : BitVec 32 := 0#32
  let v1450 : BitVec 1 := Scalar.cmpi .slt v1448 c0_i32_1350
  let c0_i32_1351 : BitVec 32 := 0#32
  let v1451 : BitVec 1 := Scalar.cmpi .slt v1447 c0_i32_1351
  let v1452 : BitVec 1 := Scalar.xori v1450 v1451
  let c0_i32_1349 : BitVec 32 := 0#32
  let v1449 : BitVec 1 := Scalar.cmpi .ne v1448 c0_i32_1349
  let v1453 : BitVec 1 := Scalar.andi v1452 v1449
  let v1454 : BitVec 32 := Scalar.addi v1448 v1447
  let v1455 : BitVec 32 := Scalar.select v1453 v1454 v1448
  let c1_i32_1356 : BitVec 32 := 1#32
  let v1456 : BitVec 32 := Scalar.muli v1455 c1_i32_1356
  let v1457 : BitVec 32 := Scalar.addi c0_i32_1357 v1456
  v1457.toNat
def k0_dev50 (d0 : Dev nD) : Nat :=
  let c0_i32_1374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1362 : BitVec 32 := 5#32
  let v1466 : BitVec 32 := Scalar.addi v2 c5_i32_1362
  let c16_i32_1363 : BitVec 32 := 16#32
  let c0_i32_1364 : BitVec 32 := 0#32
  let v1467 : BitVec 1 := Scalar.cmpi .eq c16_i32_1363 c0_i32_1364
  let c1_i32_1365 : BitVec 32 := 1#32
  let v1468 : BitVec 32 := Scalar.select v1467 c1_i32_1365 c16_i32_1363
  let v1469 : BitVec 32 := Scalar.remsi v1466 v1468
  let c0_i32_1367 : BitVec 32 := 0#32
  let v1471 : BitVec 1 := Scalar.cmpi .slt v1469 c0_i32_1367
  let c0_i32_1368 : BitVec 32 := 0#32
  let v1472 : BitVec 1 := Scalar.cmpi .slt v1468 c0_i32_1368
  let v1473 : BitVec 1 := Scalar.xori v1471 v1472
  let c0_i32_1366 : BitVec 32 := 0#32
  let v1470 : BitVec 1 := Scalar.cmpi .ne v1469 c0_i32_1366
  let v1474 : BitVec 1 := Scalar.andi v1473 v1470
  let v1475 : BitVec 32 := Scalar.addi v1469 v1468
  let v1476 : BitVec 32 := Scalar.select v1474 v1475 v1469
  let c1_i32_1373 : BitVec 32 := 1#32
  let v1477 : BitVec 32 := Scalar.muli v1476 c1_i32_1373
  let v1478 : BitVec 32 := Scalar.addi c0_i32_1374 v1477
  v1478.toNat
def k0_dev51 (d0 : Dev nD) : Nat :=
  let c0_i32_1391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1379 : BitVec 32 := 6#32
  let v1487 : BitVec 32 := Scalar.addi v2 c6_i32_1379
  let c16_i32_1380 : BitVec 32 := 16#32
  let c0_i32_1381 : BitVec 32 := 0#32
  let v1488 : BitVec 1 := Scalar.cmpi .eq c16_i32_1380 c0_i32_1381
  let c1_i32_1382 : BitVec 32 := 1#32
  let v1489 : BitVec 32 := Scalar.select v1488 c1_i32_1382 c16_i32_1380
  let v1490 : BitVec 32 := Scalar.remsi v1487 v1489
  let c0_i32_1384 : BitVec 32 := 0#32
  let v1492 : BitVec 1 := Scalar.cmpi .slt v1490 c0_i32_1384
  let c0_i32_1385 : BitVec 32 := 0#32
  let v1493 : BitVec 1 := Scalar.cmpi .slt v1489 c0_i32_1385
  let v1494 : BitVec 1 := Scalar.xori v1492 v1493
  let c0_i32_1383 : BitVec 32 := 0#32
  let v1491 : BitVec 1 := Scalar.cmpi .ne v1490 c0_i32_1383
  let v1495 : BitVec 1 := Scalar.andi v1494 v1491
  let v1496 : BitVec 32 := Scalar.addi v1490 v1489
  let v1497 : BitVec 32 := Scalar.select v1495 v1496 v1490
  let c1_i32_1390 : BitVec 32 := 1#32
  let v1498 : BitVec 32 := Scalar.muli v1497 c1_i32_1390
  let v1499 : BitVec 32 := Scalar.addi c0_i32_1391 v1498
  v1499.toNat
def k0_dev52 (d0 : Dev nD) : Nat :=
  let c0_i32_1408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1396 : BitVec 32 := 7#32
  let v1508 : BitVec 32 := Scalar.addi v2 c7_i32_1396
  let c16_i32_1397 : BitVec 32 := 16#32
  let c0_i32_1398 : BitVec 32 := 0#32
  let v1509 : BitVec 1 := Scalar.cmpi .eq c16_i32_1397 c0_i32_1398
  let c1_i32_1399 : BitVec 32 := 1#32
  let v1510 : BitVec 32 := Scalar.select v1509 c1_i32_1399 c16_i32_1397
  let v1511 : BitVec 32 := Scalar.remsi v1508 v1510
  let c0_i32_1401 : BitVec 32 := 0#32
  let v1513 : BitVec 1 := Scalar.cmpi .slt v1511 c0_i32_1401
  let c0_i32_1402 : BitVec 32 := 0#32
  let v1514 : BitVec 1 := Scalar.cmpi .slt v1510 c0_i32_1402
  let v1515 : BitVec 1 := Scalar.xori v1513 v1514
  let c0_i32_1400 : BitVec 32 := 0#32
  let v1512 : BitVec 1 := Scalar.cmpi .ne v1511 c0_i32_1400
  let v1516 : BitVec 1 := Scalar.andi v1515 v1512
  let v1517 : BitVec 32 := Scalar.addi v1511 v1510
  let v1518 : BitVec 32 := Scalar.select v1516 v1517 v1511
  let c1_i32_1407 : BitVec 32 := 1#32
  let v1519 : BitVec 32 := Scalar.muli v1518 c1_i32_1407
  let v1520 : BitVec 32 := Scalar.addi c0_i32_1408 v1519
  v1520.toNat
def k0_dev53 (d0 : Dev nD) : Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1413 : BitVec 32 := 8#32
  let v1529 : BitVec 32 := Scalar.addi v2 c8_i32_1413
  let c16_i32_1414 : BitVec 32 := 16#32
  let c0_i32_1415 : BitVec 32 := 0#32
  let v1530 : BitVec 1 := Scalar.cmpi .eq c16_i32_1414 c0_i32_1415
  let c1_i32_1416 : BitVec 32 := 1#32
  let v1531 : BitVec 32 := Scalar.select v1530 c1_i32_1416 c16_i32_1414
  let v1532 : BitVec 32 := Scalar.remsi v1529 v1531
  let c0_i32_1418 : BitVec 32 := 0#32
  let v1534 : BitVec 1 := Scalar.cmpi .slt v1532 c0_i32_1418
  let c0_i32_1419 : BitVec 32 := 0#32
  let v1535 : BitVec 1 := Scalar.cmpi .slt v1531 c0_i32_1419
  let v1536 : BitVec 1 := Scalar.xori v1534 v1535
  let c0_i32_1417 : BitVec 32 := 0#32
  let v1533 : BitVec 1 := Scalar.cmpi .ne v1532 c0_i32_1417
  let v1537 : BitVec 1 := Scalar.andi v1536 v1533
  let v1538 : BitVec 32 := Scalar.addi v1532 v1531
  let v1539 : BitVec 32 := Scalar.select v1537 v1538 v1532
  let c1_i32_1424 : BitVec 32 := 1#32
  let v1540 : BitVec 32 := Scalar.muli v1539 c1_i32_1424
  let v1541 : BitVec 32 := Scalar.addi c0_i32_1425 v1540
  v1541.toNat
def k0_dev54 (d0 : Dev nD) : Nat :=
  let c0_i32_1442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1430 : BitVec 32 := 9#32
  let v1550 : BitVec 32 := Scalar.addi v2 c9_i32_1430
  let c16_i32_1431 : BitVec 32 := 16#32
  let c0_i32_1432 : BitVec 32 := 0#32
  let v1551 : BitVec 1 := Scalar.cmpi .eq c16_i32_1431 c0_i32_1432
  let c1_i32_1433 : BitVec 32 := 1#32
  let v1552 : BitVec 32 := Scalar.select v1551 c1_i32_1433 c16_i32_1431
  let v1553 : BitVec 32 := Scalar.remsi v1550 v1552
  let c0_i32_1435 : BitVec 32 := 0#32
  let v1555 : BitVec 1 := Scalar.cmpi .slt v1553 c0_i32_1435
  let c0_i32_1436 : BitVec 32 := 0#32
  let v1556 : BitVec 1 := Scalar.cmpi .slt v1552 c0_i32_1436
  let v1557 : BitVec 1 := Scalar.xori v1555 v1556
  let c0_i32_1434 : BitVec 32 := 0#32
  let v1554 : BitVec 1 := Scalar.cmpi .ne v1553 c0_i32_1434
  let v1558 : BitVec 1 := Scalar.andi v1557 v1554
  let v1559 : BitVec 32 := Scalar.addi v1553 v1552
  let v1560 : BitVec 32 := Scalar.select v1558 v1559 v1553
  let c1_i32_1441 : BitVec 32 := 1#32
  let v1561 : BitVec 32 := Scalar.muli v1560 c1_i32_1441
  let v1562 : BitVec 32 := Scalar.addi c0_i32_1442 v1561
  v1562.toNat
def k0_dev55 (d0 : Dev nD) : Nat :=
  let c0_i32_1459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1447 : BitVec 32 := 10#32
  let v1571 : BitVec 32 := Scalar.addi v2 c10_i32_1447
  let c16_i32_1448 : BitVec 32 := 16#32
  let c0_i32_1449 : BitVec 32 := 0#32
  let v1572 : BitVec 1 := Scalar.cmpi .eq c16_i32_1448 c0_i32_1449
  let c1_i32_1450 : BitVec 32 := 1#32
  let v1573 : BitVec 32 := Scalar.select v1572 c1_i32_1450 c16_i32_1448
  let v1574 : BitVec 32 := Scalar.remsi v1571 v1573
  let c0_i32_1452 : BitVec 32 := 0#32
  let v1576 : BitVec 1 := Scalar.cmpi .slt v1574 c0_i32_1452
  let c0_i32_1453 : BitVec 32 := 0#32
  let v1577 : BitVec 1 := Scalar.cmpi .slt v1573 c0_i32_1453
  let v1578 : BitVec 1 := Scalar.xori v1576 v1577
  let c0_i32_1451 : BitVec 32 := 0#32
  let v1575 : BitVec 1 := Scalar.cmpi .ne v1574 c0_i32_1451
  let v1579 : BitVec 1 := Scalar.andi v1578 v1575
  let v1580 : BitVec 32 := Scalar.addi v1574 v1573
  let v1581 : BitVec 32 := Scalar.select v1579 v1580 v1574
  let c1_i32_1458 : BitVec 32 := 1#32
  let v1582 : BitVec 32 := Scalar.muli v1581 c1_i32_1458
  let v1583 : BitVec 32 := Scalar.addi c0_i32_1459 v1582
  v1583.toNat
def k0_dev56 (d0 : Dev nD) : Nat :=
  let c0_i32_1476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1464 : BitVec 32 := 11#32
  let v1592 : BitVec 32 := Scalar.addi v2 c11_i32_1464
  let c16_i32_1465 : BitVec 32 := 16#32
  let c0_i32_1466 : BitVec 32 := 0#32
  let v1593 : BitVec 1 := Scalar.cmpi .eq c16_i32_1465 c0_i32_1466
  let c1_i32_1467 : BitVec 32 := 1#32
  let v1594 : BitVec 32 := Scalar.select v1593 c1_i32_1467 c16_i32_1465
  let v1595 : BitVec 32 := Scalar.remsi v1592 v1594
  let c0_i32_1469 : BitVec 32 := 0#32
  let v1597 : BitVec 1 := Scalar.cmpi .slt v1595 c0_i32_1469
  let c0_i32_1470 : BitVec 32 := 0#32
  let v1598 : BitVec 1 := Scalar.cmpi .slt v1594 c0_i32_1470
  let v1599 : BitVec 1 := Scalar.xori v1597 v1598
  let c0_i32_1468 : BitVec 32 := 0#32
  let v1596 : BitVec 1 := Scalar.cmpi .ne v1595 c0_i32_1468
  let v1600 : BitVec 1 := Scalar.andi v1599 v1596
  let v1601 : BitVec 32 := Scalar.addi v1595 v1594
  let v1602 : BitVec 32 := Scalar.select v1600 v1601 v1595
  let c1_i32_1475 : BitVec 32 := 1#32
  let v1603 : BitVec 32 := Scalar.muli v1602 c1_i32_1475
  let v1604 : BitVec 32 := Scalar.addi c0_i32_1476 v1603
  v1604.toNat
def k0_dev57 (d0 : Dev nD) : Nat :=
  let c0_i32_1493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1481 : BitVec 32 := 12#32
  let v1613 : BitVec 32 := Scalar.addi v2 c12_i32_1481
  let c16_i32_1482 : BitVec 32 := 16#32
  let c0_i32_1483 : BitVec 32 := 0#32
  let v1614 : BitVec 1 := Scalar.cmpi .eq c16_i32_1482 c0_i32_1483
  let c1_i32_1484 : BitVec 32 := 1#32
  let v1615 : BitVec 32 := Scalar.select v1614 c1_i32_1484 c16_i32_1482
  let v1616 : BitVec 32 := Scalar.remsi v1613 v1615
  let c0_i32_1486 : BitVec 32 := 0#32
  let v1618 : BitVec 1 := Scalar.cmpi .slt v1616 c0_i32_1486
  let c0_i32_1487 : BitVec 32 := 0#32
  let v1619 : BitVec 1 := Scalar.cmpi .slt v1615 c0_i32_1487
  let v1620 : BitVec 1 := Scalar.xori v1618 v1619
  let c0_i32_1485 : BitVec 32 := 0#32
  let v1617 : BitVec 1 := Scalar.cmpi .ne v1616 c0_i32_1485
  let v1621 : BitVec 1 := Scalar.andi v1620 v1617
  let v1622 : BitVec 32 := Scalar.addi v1616 v1615
  let v1623 : BitVec 32 := Scalar.select v1621 v1622 v1616
  let c1_i32_1492 : BitVec 32 := 1#32
  let v1624 : BitVec 32 := Scalar.muli v1623 c1_i32_1492
  let v1625 : BitVec 32 := Scalar.addi c0_i32_1493 v1624
  v1625.toNat
def k0_dev58 (d0 : Dev nD) : Nat :=
  let c0_i32_1510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1498 : BitVec 32 := 13#32
  let v1634 : BitVec 32 := Scalar.addi v2 c13_i32_1498
  let c16_i32_1499 : BitVec 32 := 16#32
  let c0_i32_1500 : BitVec 32 := 0#32
  let v1635 : BitVec 1 := Scalar.cmpi .eq c16_i32_1499 c0_i32_1500
  let c1_i32_1501 : BitVec 32 := 1#32
  let v1636 : BitVec 32 := Scalar.select v1635 c1_i32_1501 c16_i32_1499
  let v1637 : BitVec 32 := Scalar.remsi v1634 v1636
  let c0_i32_1503 : BitVec 32 := 0#32
  let v1639 : BitVec 1 := Scalar.cmpi .slt v1637 c0_i32_1503
  let c0_i32_1504 : BitVec 32 := 0#32
  let v1640 : BitVec 1 := Scalar.cmpi .slt v1636 c0_i32_1504
  let v1641 : BitVec 1 := Scalar.xori v1639 v1640
  let c0_i32_1502 : BitVec 32 := 0#32
  let v1638 : BitVec 1 := Scalar.cmpi .ne v1637 c0_i32_1502
  let v1642 : BitVec 1 := Scalar.andi v1641 v1638
  let v1643 : BitVec 32 := Scalar.addi v1637 v1636
  let v1644 : BitVec 32 := Scalar.select v1642 v1643 v1637
  let c1_i32_1509 : BitVec 32 := 1#32
  let v1645 : BitVec 32 := Scalar.muli v1644 c1_i32_1509
  let v1646 : BitVec 32 := Scalar.addi c0_i32_1510 v1645
  v1646.toNat
def k0_dev59 (d0 : Dev nD) : Nat :=
  let c0_i32_1527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1515 : BitVec 32 := 14#32
  let v1655 : BitVec 32 := Scalar.addi v2 c14_i32_1515
  let c16_i32_1516 : BitVec 32 := 16#32
  let c0_i32_1517 : BitVec 32 := 0#32
  let v1656 : BitVec 1 := Scalar.cmpi .eq c16_i32_1516 c0_i32_1517
  let c1_i32_1518 : BitVec 32 := 1#32
  let v1657 : BitVec 32 := Scalar.select v1656 c1_i32_1518 c16_i32_1516
  let v1658 : BitVec 32 := Scalar.remsi v1655 v1657
  let c0_i32_1520 : BitVec 32 := 0#32
  let v1660 : BitVec 1 := Scalar.cmpi .slt v1658 c0_i32_1520
  let c0_i32_1521 : BitVec 32 := 0#32
  let v1661 : BitVec 1 := Scalar.cmpi .slt v1657 c0_i32_1521
  let v1662 : BitVec 1 := Scalar.xori v1660 v1661
  let c0_i32_1519 : BitVec 32 := 0#32
  let v1659 : BitVec 1 := Scalar.cmpi .ne v1658 c0_i32_1519
  let v1663 : BitVec 1 := Scalar.andi v1662 v1659
  let v1664 : BitVec 32 := Scalar.addi v1658 v1657
  let v1665 : BitVec 32 := Scalar.select v1663 v1664 v1658
  let c1_i32_1526 : BitVec 32 := 1#32
  let v1666 : BitVec 32 := Scalar.muli v1665 c1_i32_1526
  let v1667 : BitVec 32 := Scalar.addi c0_i32_1527 v1666
  v1667.toNat
def k0_dev60 (d0 : Dev nD) : Nat :=
  let c0_i32_1544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1532 : BitVec 32 := 15#32
  let v1676 : BitVec 32 := Scalar.addi v2 c15_i32_1532
  let c16_i32_1533 : BitVec 32 := 16#32
  let c0_i32_1534 : BitVec 32 := 0#32
  let v1677 : BitVec 1 := Scalar.cmpi .eq c16_i32_1533 c0_i32_1534
  let c1_i32_1535 : BitVec 32 := 1#32
  let v1678 : BitVec 32 := Scalar.select v1677 c1_i32_1535 c16_i32_1533
  let v1679 : BitVec 32 := Scalar.remsi v1676 v1678
  let c0_i32_1537 : BitVec 32 := 0#32
  let v1681 : BitVec 1 := Scalar.cmpi .slt v1679 c0_i32_1537
  let c0_i32_1538 : BitVec 32 := 0#32
  let v1682 : BitVec 1 := Scalar.cmpi .slt v1678 c0_i32_1538
  let v1683 : BitVec 1 := Scalar.xori v1681 v1682
  let c0_i32_1536 : BitVec 32 := 0#32
  let v1680 : BitVec 1 := Scalar.cmpi .ne v1679 c0_i32_1536
  let v1684 : BitVec 1 := Scalar.andi v1683 v1680
  let v1685 : BitVec 32 := Scalar.addi v1679 v1678
  let v1686 : BitVec 32 := Scalar.select v1684 v1685 v1679
  let c1_i32_1543 : BitVec 32 := 1#32
  let v1687 : BitVec 32 := Scalar.muli v1686 c1_i32_1543
  let v1688 : BitVec 32 := Scalar.addi c0_i32_1544 v1687
  v1688.toNat
def k0_dev61 (d0 : Dev nD) : Nat :=
  let c0_i32_1618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1606 : BitVec 32 := 12#32
  let v1748 : BitVec 32 := Scalar.addi v2 c12_i32_1606
  let c16_i32_1607 : BitVec 32 := 16#32
  let c0_i32_1608 : BitVec 32 := 0#32
  let v1749 : BitVec 1 := Scalar.cmpi .eq c16_i32_1607 c0_i32_1608
  let c1_i32_1609 : BitVec 32 := 1#32
  let v1750 : BitVec 32 := Scalar.select v1749 c1_i32_1609 c16_i32_1607
  let v1751 : BitVec 32 := Scalar.remsi v1748 v1750
  let c0_i32_1611 : BitVec 32 := 0#32
  let v1753 : BitVec 1 := Scalar.cmpi .slt v1751 c0_i32_1611
  let c0_i32_1612 : BitVec 32 := 0#32
  let v1754 : BitVec 1 := Scalar.cmpi .slt v1750 c0_i32_1612
  let v1755 : BitVec 1 := Scalar.xori v1753 v1754
  let c0_i32_1610 : BitVec 32 := 0#32
  let v1752 : BitVec 1 := Scalar.cmpi .ne v1751 c0_i32_1610
  let v1756 : BitVec 1 := Scalar.andi v1755 v1752
  let v1757 : BitVec 32 := Scalar.addi v1751 v1750
  let v1758 : BitVec 32 := Scalar.select v1756 v1757 v1751
  let c1_i32_1617 : BitVec 32 := 1#32
  let v1759 : BitVec 32 := Scalar.muli v1758 c1_i32_1617
  let v1760 : BitVec 32 := Scalar.addi c0_i32_1618 v1759
  v1760.toNat
def k0_dev62 (d0 : Dev nD) : Nat :=
  let c0_i32_1640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1628 : BitVec 32 := 13#32
  let v1774 : BitVec 32 := Scalar.addi v2 c13_i32_1628
  let c16_i32_1629 : BitVec 32 := 16#32
  let c0_i32_1630 : BitVec 32 := 0#32
  let v1775 : BitVec 1 := Scalar.cmpi .eq c16_i32_1629 c0_i32_1630
  let c1_i32_1631 : BitVec 32 := 1#32
  let v1776 : BitVec 32 := Scalar.select v1775 c1_i32_1631 c16_i32_1629
  let v1777 : BitVec 32 := Scalar.remsi v1774 v1776
  let c0_i32_1633 : BitVec 32 := 0#32
  let v1779 : BitVec 1 := Scalar.cmpi .slt v1777 c0_i32_1633
  let c0_i32_1634 : BitVec 32 := 0#32
  let v1780 : BitVec 1 := Scalar.cmpi .slt v1776 c0_i32_1634
  let v1781 : BitVec 1 := Scalar.xori v1779 v1780
  let c0_i32_1632 : BitVec 32 := 0#32
  let v1778 : BitVec 1 := Scalar.cmpi .ne v1777 c0_i32_1632
  let v1782 : BitVec 1 := Scalar.andi v1781 v1778
  let v1783 : BitVec 32 := Scalar.addi v1777 v1776
  let v1784 : BitVec 32 := Scalar.select v1782 v1783 v1777
  let c1_i32_1639 : BitVec 32 := 1#32
  let v1785 : BitVec 32 := Scalar.muli v1784 c1_i32_1639
  let v1786 : BitVec 32 := Scalar.addi c0_i32_1640 v1785
  v1786.toNat
def k0_dev63 (d0 : Dev nD) : Nat :=
  let c0_i32_1662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1650 : BitVec 32 := 14#32
  let v1800 : BitVec 32 := Scalar.addi v2 c14_i32_1650
  let c16_i32_1651 : BitVec 32 := 16#32
  let c0_i32_1652 : BitVec 32 := 0#32
  let v1801 : BitVec 1 := Scalar.cmpi .eq c16_i32_1651 c0_i32_1652
  let c1_i32_1653 : BitVec 32 := 1#32
  let v1802 : BitVec 32 := Scalar.select v1801 c1_i32_1653 c16_i32_1651
  let v1803 : BitVec 32 := Scalar.remsi v1800 v1802
  let c0_i32_1655 : BitVec 32 := 0#32
  let v1805 : BitVec 1 := Scalar.cmpi .slt v1803 c0_i32_1655
  let c0_i32_1656 : BitVec 32 := 0#32
  let v1806 : BitVec 1 := Scalar.cmpi .slt v1802 c0_i32_1656
  let v1807 : BitVec 1 := Scalar.xori v1805 v1806
  let c0_i32_1654 : BitVec 32 := 0#32
  let v1804 : BitVec 1 := Scalar.cmpi .ne v1803 c0_i32_1654
  let v1808 : BitVec 1 := Scalar.andi v1807 v1804
  let v1809 : BitVec 32 := Scalar.addi v1803 v1802
  let v1810 : BitVec 32 := Scalar.select v1808 v1809 v1803
  let c1_i32_1661 : BitVec 32 := 1#32
  let v1811 : BitVec 32 := Scalar.muli v1810 c1_i32_1661
  let v1812 : BitVec 32 := Scalar.addi c0_i32_1662 v1811
  v1812.toNat
def k0_dev64 (d0 : Dev nD) : Nat :=
  let c0_i32_1684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1672 : BitVec 32 := 15#32
  let v1826 : BitVec 32 := Scalar.addi v2 c15_i32_1672
  let c16_i32_1673 : BitVec 32 := 16#32
  let c0_i32_1674 : BitVec 32 := 0#32
  let v1827 : BitVec 1 := Scalar.cmpi .eq c16_i32_1673 c0_i32_1674
  let c1_i32_1675 : BitVec 32 := 1#32
  let v1828 : BitVec 32 := Scalar.select v1827 c1_i32_1675 c16_i32_1673
  let v1829 : BitVec 32 := Scalar.remsi v1826 v1828
  let c0_i32_1677 : BitVec 32 := 0#32
  let v1831 : BitVec 1 := Scalar.cmpi .slt v1829 c0_i32_1677
  let c0_i32_1678 : BitVec 32 := 0#32
  let v1832 : BitVec 1 := Scalar.cmpi .slt v1828 c0_i32_1678
  let v1833 : BitVec 1 := Scalar.xori v1831 v1832
  let c0_i32_1676 : BitVec 32 := 0#32
  let v1830 : BitVec 1 := Scalar.cmpi .ne v1829 c0_i32_1676
  let v1834 : BitVec 1 := Scalar.andi v1833 v1830
  let v1835 : BitVec 32 := Scalar.addi v1829 v1828
  let v1836 : BitVec 32 := Scalar.select v1834 v1835 v1829
  let c1_i32_1683 : BitVec 32 := 1#32
  let v1837 : BitVec 32 := Scalar.muli v1836 c1_i32_1683
  let v1838 : BitVec 32 := Scalar.addi c0_i32_1684 v1837
  v1838.toNat
def k0_dev65 (d0 : Dev nD) : Nat :=
  let c0_i32_1754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1742 : BitVec 32 := 8#32
  let v1894 : BitVec 32 := Scalar.addi v2 c8_i32_1742
  let c16_i32_1743 : BitVec 32 := 16#32
  let c0_i32_1744 : BitVec 32 := 0#32
  let v1895 : BitVec 1 := Scalar.cmpi .eq c16_i32_1743 c0_i32_1744
  let c1_i32_1745 : BitVec 32 := 1#32
  let v1896 : BitVec 32 := Scalar.select v1895 c1_i32_1745 c16_i32_1743
  let v1897 : BitVec 32 := Scalar.remsi v1894 v1896
  let c0_i32_1747 : BitVec 32 := 0#32
  let v1899 : BitVec 1 := Scalar.cmpi .slt v1897 c0_i32_1747
  let c0_i32_1748 : BitVec 32 := 0#32
  let v1900 : BitVec 1 := Scalar.cmpi .slt v1896 c0_i32_1748
  let v1901 : BitVec 1 := Scalar.xori v1899 v1900
  let c0_i32_1746 : BitVec 32 := 0#32
  let v1898 : BitVec 1 := Scalar.cmpi .ne v1897 c0_i32_1746
  let v1902 : BitVec 1 := Scalar.andi v1901 v1898
  let v1903 : BitVec 32 := Scalar.addi v1897 v1896
  let v1904 : BitVec 32 := Scalar.select v1902 v1903 v1897
  let c1_i32_1753 : BitVec 32 := 1#32
  let v1905 : BitVec 32 := Scalar.muli v1904 c1_i32_1753
  let v1906 : BitVec 32 := Scalar.addi c0_i32_1754 v1905
  v1906.toNat
def k0_dev66 (d0 : Dev nD) : Nat :=
  let c0_i32_1776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1764 : BitVec 32 := 9#32
  let v1920 : BitVec 32 := Scalar.addi v2 c9_i32_1764
  let c16_i32_1765 : BitVec 32 := 16#32
  let c0_i32_1766 : BitVec 32 := 0#32
  let v1921 : BitVec 1 := Scalar.cmpi .eq c16_i32_1765 c0_i32_1766
  let c1_i32_1767 : BitVec 32 := 1#32
  let v1922 : BitVec 32 := Scalar.select v1921 c1_i32_1767 c16_i32_1765
  let v1923 : BitVec 32 := Scalar.remsi v1920 v1922
  let c0_i32_1769 : BitVec 32 := 0#32
  let v1925 : BitVec 1 := Scalar.cmpi .slt v1923 c0_i32_1769
  let c0_i32_1770 : BitVec 32 := 0#32
  let v1926 : BitVec 1 := Scalar.cmpi .slt v1922 c0_i32_1770
  let v1927 : BitVec 1 := Scalar.xori v1925 v1926
  let c0_i32_1768 : BitVec 32 := 0#32
  let v1924 : BitVec 1 := Scalar.cmpi .ne v1923 c0_i32_1768
  let v1928 : BitVec 1 := Scalar.andi v1927 v1924
  let v1929 : BitVec 32 := Scalar.addi v1923 v1922
  let v1930 : BitVec 32 := Scalar.select v1928 v1929 v1923
  let c1_i32_1775 : BitVec 32 := 1#32
  let v1931 : BitVec 32 := Scalar.muli v1930 c1_i32_1775
  let v1932 : BitVec 32 := Scalar.addi c0_i32_1776 v1931
  v1932.toNat
def k0_dev67 (d0 : Dev nD) : Nat :=
  let c0_i32_1798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1786 : BitVec 32 := 10#32
  let v1946 : BitVec 32 := Scalar.addi v2 c10_i32_1786
  let c16_i32_1787 : BitVec 32 := 16#32
  let c0_i32_1788 : BitVec 32 := 0#32
  let v1947 : BitVec 1 := Scalar.cmpi .eq c16_i32_1787 c0_i32_1788
  let c1_i32_1789 : BitVec 32 := 1#32
  let v1948 : BitVec 32 := Scalar.select v1947 c1_i32_1789 c16_i32_1787
  let v1949 : BitVec 32 := Scalar.remsi v1946 v1948
  let c0_i32_1791 : BitVec 32 := 0#32
  let v1951 : BitVec 1 := Scalar.cmpi .slt v1949 c0_i32_1791
  let c0_i32_1792 : BitVec 32 := 0#32
  let v1952 : BitVec 1 := Scalar.cmpi .slt v1948 c0_i32_1792
  let v1953 : BitVec 1 := Scalar.xori v1951 v1952
  let c0_i32_1790 : BitVec 32 := 0#32
  let v1950 : BitVec 1 := Scalar.cmpi .ne v1949 c0_i32_1790
  let v1954 : BitVec 1 := Scalar.andi v1953 v1950
  let v1955 : BitVec 32 := Scalar.addi v1949 v1948
  let v1956 : BitVec 32 := Scalar.select v1954 v1955 v1949
  let c1_i32_1797 : BitVec 32 := 1#32
  let v1957 : BitVec 32 := Scalar.muli v1956 c1_i32_1797
  let v1958 : BitVec 32 := Scalar.addi c0_i32_1798 v1957
  v1958.toNat
def k0_dev68 (d0 : Dev nD) : Nat :=
  let c0_i32_1820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1808 : BitVec 32 := 11#32
  let v1972 : BitVec 32 := Scalar.addi v2 c11_i32_1808
  let c16_i32_1809 : BitVec 32 := 16#32
  let c0_i32_1810 : BitVec 32 := 0#32
  let v1973 : BitVec 1 := Scalar.cmpi .eq c16_i32_1809 c0_i32_1810
  let c1_i32_1811 : BitVec 32 := 1#32
  let v1974 : BitVec 32 := Scalar.select v1973 c1_i32_1811 c16_i32_1809
  let v1975 : BitVec 32 := Scalar.remsi v1972 v1974
  let c0_i32_1813 : BitVec 32 := 0#32
  let v1977 : BitVec 1 := Scalar.cmpi .slt v1975 c0_i32_1813
  let c0_i32_1814 : BitVec 32 := 0#32
  let v1978 : BitVec 1 := Scalar.cmpi .slt v1974 c0_i32_1814
  let v1979 : BitVec 1 := Scalar.xori v1977 v1978
  let c0_i32_1812 : BitVec 32 := 0#32
  let v1976 : BitVec 1 := Scalar.cmpi .ne v1975 c0_i32_1812
  let v1980 : BitVec 1 := Scalar.andi v1979 v1976
  let v1981 : BitVec 32 := Scalar.addi v1975 v1974
  let v1982 : BitVec 32 := Scalar.select v1980 v1981 v1975
  let c1_i32_1819 : BitVec 32 := 1#32
  let v1983 : BitVec 32 := Scalar.muli v1982 c1_i32_1819
  let v1984 : BitVec 32 := Scalar.addi c0_i32_1820 v1983
  v1984.toNat
def k0_dev69 (d0 : Dev nD) : Nat :=
  let c0_i32_1890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1878 : BitVec 32 := 4#32
  let v2040 : BitVec 32 := Scalar.addi v2 c4_i32_1878
  let c16_i32_1879 : BitVec 32 := 16#32
  let c0_i32_1880 : BitVec 32 := 0#32
  let v2041 : BitVec 1 := Scalar.cmpi .eq c16_i32_1879 c0_i32_1880
  let c1_i32_1881 : BitVec 32 := 1#32
  let v2042 : BitVec 32 := Scalar.select v2041 c1_i32_1881 c16_i32_1879
  let v2043 : BitVec 32 := Scalar.remsi v2040 v2042
  let c0_i32_1883 : BitVec 32 := 0#32
  let v2045 : BitVec 1 := Scalar.cmpi .slt v2043 c0_i32_1883
  let c0_i32_1884 : BitVec 32 := 0#32
  let v2046 : BitVec 1 := Scalar.cmpi .slt v2042 c0_i32_1884
  let v2047 : BitVec 1 := Scalar.xori v2045 v2046
  let c0_i32_1882 : BitVec 32 := 0#32
  let v2044 : BitVec 1 := Scalar.cmpi .ne v2043 c0_i32_1882
  let v2048 : BitVec 1 := Scalar.andi v2047 v2044
  let v2049 : BitVec 32 := Scalar.addi v2043 v2042
  let v2050 : BitVec 32 := Scalar.select v2048 v2049 v2043
  let c1_i32_1889 : BitVec 32 := 1#32
  let v2051 : BitVec 32 := Scalar.muli v2050 c1_i32_1889
  let v2052 : BitVec 32 := Scalar.addi c0_i32_1890 v2051
  v2052.toNat
def k0_dev70 (d0 : Dev nD) : Nat :=
  let c0_i32_1912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1900 : BitVec 32 := 5#32
  let v2066 : BitVec 32 := Scalar.addi v2 c5_i32_1900
  let c16_i32_1901 : BitVec 32 := 16#32
  let c0_i32_1902 : BitVec 32 := 0#32
  let v2067 : BitVec 1 := Scalar.cmpi .eq c16_i32_1901 c0_i32_1902
  let c1_i32_1903 : BitVec 32 := 1#32
  let v2068 : BitVec 32 := Scalar.select v2067 c1_i32_1903 c16_i32_1901
  let v2069 : BitVec 32 := Scalar.remsi v2066 v2068
  let c0_i32_1905 : BitVec 32 := 0#32
  let v2071 : BitVec 1 := Scalar.cmpi .slt v2069 c0_i32_1905
  let c0_i32_1906 : BitVec 32 := 0#32
  let v2072 : BitVec 1 := Scalar.cmpi .slt v2068 c0_i32_1906
  let v2073 : BitVec 1 := Scalar.xori v2071 v2072
  let c0_i32_1904 : BitVec 32 := 0#32
  let v2070 : BitVec 1 := Scalar.cmpi .ne v2069 c0_i32_1904
  let v2074 : BitVec 1 := Scalar.andi v2073 v2070
  let v2075 : BitVec 32 := Scalar.addi v2069 v2068
  let v2076 : BitVec 32 := Scalar.select v2074 v2075 v2069
  let c1_i32_1911 : BitVec 32 := 1#32
  let v2077 : BitVec 32 := Scalar.muli v2076 c1_i32_1911
  let v2078 : BitVec 32 := Scalar.addi c0_i32_1912 v2077
  v2078.toNat
def k0_dev71 (d0 : Dev nD) : Nat :=
  let c0_i32_1934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1922 : BitVec 32 := 6#32
  let v2092 : BitVec 32 := Scalar.addi v2 c6_i32_1922
  let c16_i32_1923 : BitVec 32 := 16#32
  let c0_i32_1924 : BitVec 32 := 0#32
  let v2093 : BitVec 1 := Scalar.cmpi .eq c16_i32_1923 c0_i32_1924
  let c1_i32_1925 : BitVec 32 := 1#32
  let v2094 : BitVec 32 := Scalar.select v2093 c1_i32_1925 c16_i32_1923
  let v2095 : BitVec 32 := Scalar.remsi v2092 v2094
  let c0_i32_1927 : BitVec 32 := 0#32
  let v2097 : BitVec 1 := Scalar.cmpi .slt v2095 c0_i32_1927
  let c0_i32_1928 : BitVec 32 := 0#32
  let v2098 : BitVec 1 := Scalar.cmpi .slt v2094 c0_i32_1928
  let v2099 : BitVec 1 := Scalar.xori v2097 v2098
  let c0_i32_1926 : BitVec 32 := 0#32
  let v2096 : BitVec 1 := Scalar.cmpi .ne v2095 c0_i32_1926
  let v2100 : BitVec 1 := Scalar.andi v2099 v2096
  let v2101 : BitVec 32 := Scalar.addi v2095 v2094
  let v2102 : BitVec 32 := Scalar.select v2100 v2101 v2095
  let c1_i32_1933 : BitVec 32 := 1#32
  let v2103 : BitVec 32 := Scalar.muli v2102 c1_i32_1933
  let v2104 : BitVec 32 := Scalar.addi c0_i32_1934 v2103
  v2104.toNat
def k0_dev72 (d0 : Dev nD) : Nat :=
  let c0_i32_1956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1944 : BitVec 32 := 7#32
  let v2118 : BitVec 32 := Scalar.addi v2 c7_i32_1944
  let c16_i32_1945 : BitVec 32 := 16#32
  let c0_i32_1946 : BitVec 32 := 0#32
  let v2119 : BitVec 1 := Scalar.cmpi .eq c16_i32_1945 c0_i32_1946
  let c1_i32_1947 : BitVec 32 := 1#32
  let v2120 : BitVec 32 := Scalar.select v2119 c1_i32_1947 c16_i32_1945
  let v2121 : BitVec 32 := Scalar.remsi v2118 v2120
  let c0_i32_1949 : BitVec 32 := 0#32
  let v2123 : BitVec 1 := Scalar.cmpi .slt v2121 c0_i32_1949
  let c0_i32_1950 : BitVec 32 := 0#32
  let v2124 : BitVec 1 := Scalar.cmpi .slt v2120 c0_i32_1950
  let v2125 : BitVec 1 := Scalar.xori v2123 v2124
  let c0_i32_1948 : BitVec 32 := 0#32
  let v2122 : BitVec 1 := Scalar.cmpi .ne v2121 c0_i32_1948
  let v2126 : BitVec 1 := Scalar.andi v2125 v2122
  let v2127 : BitVec 32 := Scalar.addi v2121 v2120
  let v2128 : BitVec 32 := Scalar.select v2126 v2127 v2121
  let c1_i32_1955 : BitVec 32 := 1#32
  let v2129 : BitVec 32 := Scalar.muli v2128 c1_i32_1955
  let v2130 : BitVec 32 := Scalar.addi c0_i32_1956 v2129
  v2130.toNat
def k0_dev73 (d0 : Dev nD) : Nat :=
  let c0_i32_2016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2004 : BitVec 32 := 1#32
  let v2178 : BitVec 32 := Scalar.addi v2 c1_i32_2004
  let c16_i32_2005 : BitVec 32 := 16#32
  let c0_i32_2006 : BitVec 32 := 0#32
  let v2179 : BitVec 1 := Scalar.cmpi .eq c16_i32_2005 c0_i32_2006
  let c1_i32_2007 : BitVec 32 := 1#32
  let v2180 : BitVec 32 := Scalar.select v2179 c1_i32_2007 c16_i32_2005
  let v2181 : BitVec 32 := Scalar.remsi v2178 v2180
  let c0_i32_2009 : BitVec 32 := 0#32
  let v2183 : BitVec 1 := Scalar.cmpi .slt v2181 c0_i32_2009
  let c0_i32_2010 : BitVec 32 := 0#32
  let v2184 : BitVec 1 := Scalar.cmpi .slt v2180 c0_i32_2010
  let v2185 : BitVec 1 := Scalar.xori v2183 v2184
  let c0_i32_2008 : BitVec 32 := 0#32
  let v2182 : BitVec 1 := Scalar.cmpi .ne v2181 c0_i32_2008
  let v2186 : BitVec 1 := Scalar.andi v2185 v2182
  let v2187 : BitVec 32 := Scalar.addi v2181 v2180
  let v2188 : BitVec 32 := Scalar.select v2186 v2187 v2181
  let c1_i32_2015 : BitVec 32 := 1#32
  let v2189 : BitVec 32 := Scalar.muli v2188 c1_i32_2015
  let v2190 : BitVec 32 := Scalar.addi c0_i32_2016 v2189
  v2190.toNat
def k0_dev74 (d0 : Dev nD) : Nat :=
  let c0_i32_2038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2026 : BitVec 32 := 2#32
  let v2204 : BitVec 32 := Scalar.addi v2 c2_i32_2026
  let c16_i32_2027 : BitVec 32 := 16#32
  let c0_i32_2028 : BitVec 32 := 0#32
  let v2205 : BitVec 1 := Scalar.cmpi .eq c16_i32_2027 c0_i32_2028
  let c1_i32_2029 : BitVec 32 := 1#32
  let v2206 : BitVec 32 := Scalar.select v2205 c1_i32_2029 c16_i32_2027
  let v2207 : BitVec 32 := Scalar.remsi v2204 v2206
  let c0_i32_2031 : BitVec 32 := 0#32
  let v2209 : BitVec 1 := Scalar.cmpi .slt v2207 c0_i32_2031
  let c0_i32_2032 : BitVec 32 := 0#32
  let v2210 : BitVec 1 := Scalar.cmpi .slt v2206 c0_i32_2032
  let v2211 : BitVec 1 := Scalar.xori v2209 v2210
  let c0_i32_2030 : BitVec 32 := 0#32
  let v2208 : BitVec 1 := Scalar.cmpi .ne v2207 c0_i32_2030
  let v2212 : BitVec 1 := Scalar.andi v2211 v2208
  let v2213 : BitVec 32 := Scalar.addi v2207 v2206
  let v2214 : BitVec 32 := Scalar.select v2212 v2213 v2207
  let c1_i32_2037 : BitVec 32 := 1#32
  let v2215 : BitVec 32 := Scalar.muli v2214 c1_i32_2037
  let v2216 : BitVec 32 := Scalar.addi c0_i32_2038 v2215
  v2216.toNat
def k0_dev75 (d0 : Dev nD) : Nat :=
  let c0_i32_2060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2048 : BitVec 32 := 3#32
  let v2230 : BitVec 32 := Scalar.addi v2 c3_i32_2048
  let c16_i32_2049 : BitVec 32 := 16#32
  let c0_i32_2050 : BitVec 32 := 0#32
  let v2231 : BitVec 1 := Scalar.cmpi .eq c16_i32_2049 c0_i32_2050
  let c1_i32_2051 : BitVec 32 := 1#32
  let v2232 : BitVec 32 := Scalar.select v2231 c1_i32_2051 c16_i32_2049
  let v2233 : BitVec 32 := Scalar.remsi v2230 v2232
  let c0_i32_2053 : BitVec 32 := 0#32
  let v2235 : BitVec 1 := Scalar.cmpi .slt v2233 c0_i32_2053
  let c0_i32_2054 : BitVec 32 := 0#32
  let v2236 : BitVec 1 := Scalar.cmpi .slt v2232 c0_i32_2054
  let v2237 : BitVec 1 := Scalar.xori v2235 v2236
  let c0_i32_2052 : BitVec 32 := 0#32
  let v2234 : BitVec 1 := Scalar.cmpi .ne v2233 c0_i32_2052
  let v2238 : BitVec 1 := Scalar.andi v2237 v2234
  let v2239 : BitVec 32 := Scalar.addi v2233 v2232
  let v2240 : BitVec 32 := Scalar.select v2238 v2239 v2233
  let c1_i32_2059 : BitVec 32 := 1#32
  let v2241 : BitVec 32 := Scalar.muli v2240 c1_i32_2059
  let v2242 : BitVec 32 := Scalar.addi c0_i32_2060 v2241
  v2242.toNat
def k0_dev76 (d0 : Dev nD) : Nat :=
  let c0_i32_2506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2494 : BitVec 32 := 1#32
  let v2560 : BitVec 32 := Scalar.addi v2 c1_i32_2494
  let c16_i32_2495 : BitVec 32 := 16#32
  let c0_i32_2496 : BitVec 32 := 0#32
  let v2561 : BitVec 1 := Scalar.cmpi .eq c16_i32_2495 c0_i32_2496
  let c1_i32_2497 : BitVec 32 := 1#32
  let v2562 : BitVec 32 := Scalar.select v2561 c1_i32_2497 c16_i32_2495
  let v2563 : BitVec 32 := Scalar.remsi v2560 v2562
  let c0_i32_2499 : BitVec 32 := 0#32
  let v2565 : BitVec 1 := Scalar.cmpi .slt v2563 c0_i32_2499
  let c0_i32_2500 : BitVec 32 := 0#32
  let v2566 : BitVec 1 := Scalar.cmpi .slt v2562 c0_i32_2500
  let v2567 : BitVec 1 := Scalar.xori v2565 v2566
  let c0_i32_2498 : BitVec 32 := 0#32
  let v2564 : BitVec 1 := Scalar.cmpi .ne v2563 c0_i32_2498
  let v2568 : BitVec 1 := Scalar.andi v2567 v2564
  let v2569 : BitVec 32 := Scalar.addi v2563 v2562
  let v2570 : BitVec 32 := Scalar.select v2568 v2569 v2563
  let c1_i32_2505 : BitVec 32 := 1#32
  let v2571 : BitVec 32 := Scalar.muli v2570 c1_i32_2505
  let v2572 : BitVec 32 := Scalar.addi c0_i32_2506 v2571
  v2572.toNat
def k0_dev77 (d0 : Dev nD) : Nat :=
  let c0_i32_2523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2511 : BitVec 32 := 2#32
  let v2581 : BitVec 32 := Scalar.addi v2 c2_i32_2511
  let c16_i32_2512 : BitVec 32 := 16#32
  let c0_i32_2513 : BitVec 32 := 0#32
  let v2582 : BitVec 1 := Scalar.cmpi .eq c16_i32_2512 c0_i32_2513
  let c1_i32_2514 : BitVec 32 := 1#32
  let v2583 : BitVec 32 := Scalar.select v2582 c1_i32_2514 c16_i32_2512
  let v2584 : BitVec 32 := Scalar.remsi v2581 v2583
  let c0_i32_2516 : BitVec 32 := 0#32
  let v2586 : BitVec 1 := Scalar.cmpi .slt v2584 c0_i32_2516
  let c0_i32_2517 : BitVec 32 := 0#32
  let v2587 : BitVec 1 := Scalar.cmpi .slt v2583 c0_i32_2517
  let v2588 : BitVec 1 := Scalar.xori v2586 v2587
  let c0_i32_2515 : BitVec 32 := 0#32
  let v2585 : BitVec 1 := Scalar.cmpi .ne v2584 c0_i32_2515
  let v2589 : BitVec 1 := Scalar.andi v2588 v2585
  let v2590 : BitVec 32 := Scalar.addi v2584 v2583
  let v2591 : BitVec 32 := Scalar.select v2589 v2590 v2584
  let c1_i32_2522 : BitVec 32 := 1#32
  let v2592 : BitVec 32 := Scalar.muli v2591 c1_i32_2522
  let v2593 : BitVec 32 := Scalar.addi c0_i32_2523 v2592
  v2593.toNat
def k0_dev78 (d0 : Dev nD) : Nat :=
  let c0_i32_2540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2528 : BitVec 32 := 3#32
  let v2602 : BitVec 32 := Scalar.addi v2 c3_i32_2528
  let c16_i32_2529 : BitVec 32 := 16#32
  let c0_i32_2530 : BitVec 32 := 0#32
  let v2603 : BitVec 1 := Scalar.cmpi .eq c16_i32_2529 c0_i32_2530
  let c1_i32_2531 : BitVec 32 := 1#32
  let v2604 : BitVec 32 := Scalar.select v2603 c1_i32_2531 c16_i32_2529
  let v2605 : BitVec 32 := Scalar.remsi v2602 v2604
  let c0_i32_2533 : BitVec 32 := 0#32
  let v2607 : BitVec 1 := Scalar.cmpi .slt v2605 c0_i32_2533
  let c0_i32_2534 : BitVec 32 := 0#32
  let v2608 : BitVec 1 := Scalar.cmpi .slt v2604 c0_i32_2534
  let v2609 : BitVec 1 := Scalar.xori v2607 v2608
  let c0_i32_2532 : BitVec 32 := 0#32
  let v2606 : BitVec 1 := Scalar.cmpi .ne v2605 c0_i32_2532
  let v2610 : BitVec 1 := Scalar.andi v2609 v2606
  let v2611 : BitVec 32 := Scalar.addi v2605 v2604
  let v2612 : BitVec 32 := Scalar.select v2610 v2611 v2605
  let c1_i32_2539 : BitVec 32 := 1#32
  let v2613 : BitVec 32 := Scalar.muli v2612 c1_i32_2539
  let v2614 : BitVec 32 := Scalar.addi c0_i32_2540 v2613
  v2614.toNat
def k0_dev79 (d0 : Dev nD) : Nat :=
  let c0_i32_2557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2545 : BitVec 32 := 4#32
  let v2623 : BitVec 32 := Scalar.addi v2 c4_i32_2545
  let c16_i32_2546 : BitVec 32 := 16#32
  let c0_i32_2547 : BitVec 32 := 0#32
  let v2624 : BitVec 1 := Scalar.cmpi .eq c16_i32_2546 c0_i32_2547
  let c1_i32_2548 : BitVec 32 := 1#32
  let v2625 : BitVec 32 := Scalar.select v2624 c1_i32_2548 c16_i32_2546
  let v2626 : BitVec 32 := Scalar.remsi v2623 v2625
  let c0_i32_2550 : BitVec 32 := 0#32
  let v2628 : BitVec 1 := Scalar.cmpi .slt v2626 c0_i32_2550
  let c0_i32_2551 : BitVec 32 := 0#32
  let v2629 : BitVec 1 := Scalar.cmpi .slt v2625 c0_i32_2551
  let v2630 : BitVec 1 := Scalar.xori v2628 v2629
  let c0_i32_2549 : BitVec 32 := 0#32
  let v2627 : BitVec 1 := Scalar.cmpi .ne v2626 c0_i32_2549
  let v2631 : BitVec 1 := Scalar.andi v2630 v2627
  let v2632 : BitVec 32 := Scalar.addi v2626 v2625
  let v2633 : BitVec 32 := Scalar.select v2631 v2632 v2626
  let c1_i32_2556 : BitVec 32 := 1#32
  let v2634 : BitVec 32 := Scalar.muli v2633 c1_i32_2556
  let v2635 : BitVec 32 := Scalar.addi c0_i32_2557 v2634
  v2635.toNat
def k0_dev80 (d0 : Dev nD) : Nat :=
  let c0_i32_2574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2562 : BitVec 32 := 5#32
  let v2644 : BitVec 32 := Scalar.addi v2 c5_i32_2562
  let c16_i32_2563 : BitVec 32 := 16#32
  let c0_i32_2564 : BitVec 32 := 0#32
  let v2645 : BitVec 1 := Scalar.cmpi .eq c16_i32_2563 c0_i32_2564
  let c1_i32_2565 : BitVec 32 := 1#32
  let v2646 : BitVec 32 := Scalar.select v2645 c1_i32_2565 c16_i32_2563
  let v2647 : BitVec 32 := Scalar.remsi v2644 v2646
  let c0_i32_2567 : BitVec 32 := 0#32
  let v2649 : BitVec 1 := Scalar.cmpi .slt v2647 c0_i32_2567
  let c0_i32_2568 : BitVec 32 := 0#32
  let v2650 : BitVec 1 := Scalar.cmpi .slt v2646 c0_i32_2568
  let v2651 : BitVec 1 := Scalar.xori v2649 v2650
  let c0_i32_2566 : BitVec 32 := 0#32
  let v2648 : BitVec 1 := Scalar.cmpi .ne v2647 c0_i32_2566
  let v2652 : BitVec 1 := Scalar.andi v2651 v2648
  let v2653 : BitVec 32 := Scalar.addi v2647 v2646
  let v2654 : BitVec 32 := Scalar.select v2652 v2653 v2647
  let c1_i32_2573 : BitVec 32 := 1#32
  let v2655 : BitVec 32 := Scalar.muli v2654 c1_i32_2573
  let v2656 : BitVec 32 := Scalar.addi c0_i32_2574 v2655
  v2656.toNat
def k0_dev81 (d0 : Dev nD) : Nat :=
  let c0_i32_2591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2579 : BitVec 32 := 6#32
  let v2665 : BitVec 32 := Scalar.addi v2 c6_i32_2579
  let c16_i32_2580 : BitVec 32 := 16#32
  let c0_i32_2581 : BitVec 32 := 0#32
  let v2666 : BitVec 1 := Scalar.cmpi .eq c16_i32_2580 c0_i32_2581
  let c1_i32_2582 : BitVec 32 := 1#32
  let v2667 : BitVec 32 := Scalar.select v2666 c1_i32_2582 c16_i32_2580
  let v2668 : BitVec 32 := Scalar.remsi v2665 v2667
  let c0_i32_2584 : BitVec 32 := 0#32
  let v2670 : BitVec 1 := Scalar.cmpi .slt v2668 c0_i32_2584
  let c0_i32_2585 : BitVec 32 := 0#32
  let v2671 : BitVec 1 := Scalar.cmpi .slt v2667 c0_i32_2585
  let v2672 : BitVec 1 := Scalar.xori v2670 v2671
  let c0_i32_2583 : BitVec 32 := 0#32
  let v2669 : BitVec 1 := Scalar.cmpi .ne v2668 c0_i32_2583
  let v2673 : BitVec 1 := Scalar.andi v2672 v2669
  let v2674 : BitVec 32 := Scalar.addi v2668 v2667
  let v2675 : BitVec 32 := Scalar.select v2673 v2674 v2668
  let c1_i32_2590 : BitVec 32 := 1#32
  let v2676 : BitVec 32 := Scalar.muli v2675 c1_i32_2590
  let v2677 : BitVec 32 := Scalar.addi c0_i32_2591 v2676
  v2677.toNat
def k0_dev82 (d0 : Dev nD) : Nat :=
  let c0_i32_2608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2596 : BitVec 32 := 7#32
  let v2686 : BitVec 32 := Scalar.addi v2 c7_i32_2596
  let c16_i32_2597 : BitVec 32 := 16#32
  let c0_i32_2598 : BitVec 32 := 0#32
  let v2687 : BitVec 1 := Scalar.cmpi .eq c16_i32_2597 c0_i32_2598
  let c1_i32_2599 : BitVec 32 := 1#32
  let v2688 : BitVec 32 := Scalar.select v2687 c1_i32_2599 c16_i32_2597
  let v2689 : BitVec 32 := Scalar.remsi v2686 v2688
  let c0_i32_2601 : BitVec 32 := 0#32
  let v2691 : BitVec 1 := Scalar.cmpi .slt v2689 c0_i32_2601
  let c0_i32_2602 : BitVec 32 := 0#32
  let v2692 : BitVec 1 := Scalar.cmpi .slt v2688 c0_i32_2602
  let v2693 : BitVec 1 := Scalar.xori v2691 v2692
  let c0_i32_2600 : BitVec 32 := 0#32
  let v2690 : BitVec 1 := Scalar.cmpi .ne v2689 c0_i32_2600
  let v2694 : BitVec 1 := Scalar.andi v2693 v2690
  let v2695 : BitVec 32 := Scalar.addi v2689 v2688
  let v2696 : BitVec 32 := Scalar.select v2694 v2695 v2689
  let c1_i32_2607 : BitVec 32 := 1#32
  let v2697 : BitVec 32 := Scalar.muli v2696 c1_i32_2607
  let v2698 : BitVec 32 := Scalar.addi c0_i32_2608 v2697
  v2698.toNat
def k0_dev83 (d0 : Dev nD) : Nat :=
  let c0_i32_2625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2613 : BitVec 32 := 8#32
  let v2707 : BitVec 32 := Scalar.addi v2 c8_i32_2613
  let c16_i32_2614 : BitVec 32 := 16#32
  let c0_i32_2615 : BitVec 32 := 0#32
  let v2708 : BitVec 1 := Scalar.cmpi .eq c16_i32_2614 c0_i32_2615
  let c1_i32_2616 : BitVec 32 := 1#32
  let v2709 : BitVec 32 := Scalar.select v2708 c1_i32_2616 c16_i32_2614
  let v2710 : BitVec 32 := Scalar.remsi v2707 v2709
  let c0_i32_2618 : BitVec 32 := 0#32
  let v2712 : BitVec 1 := Scalar.cmpi .slt v2710 c0_i32_2618
  let c0_i32_2619 : BitVec 32 := 0#32
  let v2713 : BitVec 1 := Scalar.cmpi .slt v2709 c0_i32_2619
  let v2714 : BitVec 1 := Scalar.xori v2712 v2713
  let c0_i32_2617 : BitVec 32 := 0#32
  let v2711 : BitVec 1 := Scalar.cmpi .ne v2710 c0_i32_2617
  let v2715 : BitVec 1 := Scalar.andi v2714 v2711
  let v2716 : BitVec 32 := Scalar.addi v2710 v2709
  let v2717 : BitVec 32 := Scalar.select v2715 v2716 v2710
  let c1_i32_2624 : BitVec 32 := 1#32
  let v2718 : BitVec 32 := Scalar.muli v2717 c1_i32_2624
  let v2719 : BitVec 32 := Scalar.addi c0_i32_2625 v2718
  v2719.toNat
def k0_dev84 (d0 : Dev nD) : Nat :=
  let c0_i32_2642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2630 : BitVec 32 := 9#32
  let v2728 : BitVec 32 := Scalar.addi v2 c9_i32_2630
  let c16_i32_2631 : BitVec 32 := 16#32
  let c0_i32_2632 : BitVec 32 := 0#32
  let v2729 : BitVec 1 := Scalar.cmpi .eq c16_i32_2631 c0_i32_2632
  let c1_i32_2633 : BitVec 32 := 1#32
  let v2730 : BitVec 32 := Scalar.select v2729 c1_i32_2633 c16_i32_2631
  let v2731 : BitVec 32 := Scalar.remsi v2728 v2730
  let c0_i32_2635 : BitVec 32 := 0#32
  let v2733 : BitVec 1 := Scalar.cmpi .slt v2731 c0_i32_2635
  let c0_i32_2636 : BitVec 32 := 0#32
  let v2734 : BitVec 1 := Scalar.cmpi .slt v2730 c0_i32_2636
  let v2735 : BitVec 1 := Scalar.xori v2733 v2734
  let c0_i32_2634 : BitVec 32 := 0#32
  let v2732 : BitVec 1 := Scalar.cmpi .ne v2731 c0_i32_2634
  let v2736 : BitVec 1 := Scalar.andi v2735 v2732
  let v2737 : BitVec 32 := Scalar.addi v2731 v2730
  let v2738 : BitVec 32 := Scalar.select v2736 v2737 v2731
  let c1_i32_2641 : BitVec 32 := 1#32
  let v2739 : BitVec 32 := Scalar.muli v2738 c1_i32_2641
  let v2740 : BitVec 32 := Scalar.addi c0_i32_2642 v2739
  v2740.toNat
def k0_dev85 (d0 : Dev nD) : Nat :=
  let c0_i32_2659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2647 : BitVec 32 := 10#32
  let v2749 : BitVec 32 := Scalar.addi v2 c10_i32_2647
  let c16_i32_2648 : BitVec 32 := 16#32
  let c0_i32_2649 : BitVec 32 := 0#32
  let v2750 : BitVec 1 := Scalar.cmpi .eq c16_i32_2648 c0_i32_2649
  let c1_i32_2650 : BitVec 32 := 1#32
  let v2751 : BitVec 32 := Scalar.select v2750 c1_i32_2650 c16_i32_2648
  let v2752 : BitVec 32 := Scalar.remsi v2749 v2751
  let c0_i32_2652 : BitVec 32 := 0#32
  let v2754 : BitVec 1 := Scalar.cmpi .slt v2752 c0_i32_2652
  let c0_i32_2653 : BitVec 32 := 0#32
  let v2755 : BitVec 1 := Scalar.cmpi .slt v2751 c0_i32_2653
  let v2756 : BitVec 1 := Scalar.xori v2754 v2755
  let c0_i32_2651 : BitVec 32 := 0#32
  let v2753 : BitVec 1 := Scalar.cmpi .ne v2752 c0_i32_2651
  let v2757 : BitVec 1 := Scalar.andi v2756 v2753
  let v2758 : BitVec 32 := Scalar.addi v2752 v2751
  let v2759 : BitVec 32 := Scalar.select v2757 v2758 v2752
  let c1_i32_2658 : BitVec 32 := 1#32
  let v2760 : BitVec 32 := Scalar.muli v2759 c1_i32_2658
  let v2761 : BitVec 32 := Scalar.addi c0_i32_2659 v2760
  v2761.toNat
def k0_dev86 (d0 : Dev nD) : Nat :=
  let c0_i32_2676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2664 : BitVec 32 := 11#32
  let v2770 : BitVec 32 := Scalar.addi v2 c11_i32_2664
  let c16_i32_2665 : BitVec 32 := 16#32
  let c0_i32_2666 : BitVec 32 := 0#32
  let v2771 : BitVec 1 := Scalar.cmpi .eq c16_i32_2665 c0_i32_2666
  let c1_i32_2667 : BitVec 32 := 1#32
  let v2772 : BitVec 32 := Scalar.select v2771 c1_i32_2667 c16_i32_2665
  let v2773 : BitVec 32 := Scalar.remsi v2770 v2772
  let c0_i32_2669 : BitVec 32 := 0#32
  let v2775 : BitVec 1 := Scalar.cmpi .slt v2773 c0_i32_2669
  let c0_i32_2670 : BitVec 32 := 0#32
  let v2776 : BitVec 1 := Scalar.cmpi .slt v2772 c0_i32_2670
  let v2777 : BitVec 1 := Scalar.xori v2775 v2776
  let c0_i32_2668 : BitVec 32 := 0#32
  let v2774 : BitVec 1 := Scalar.cmpi .ne v2773 c0_i32_2668
  let v2778 : BitVec 1 := Scalar.andi v2777 v2774
  let v2779 : BitVec 32 := Scalar.addi v2773 v2772
  let v2780 : BitVec 32 := Scalar.select v2778 v2779 v2773
  let c1_i32_2675 : BitVec 32 := 1#32
  let v2781 : BitVec 32 := Scalar.muli v2780 c1_i32_2675
  let v2782 : BitVec 32 := Scalar.addi c0_i32_2676 v2781
  v2782.toNat
def k0_dev87 (d0 : Dev nD) : Nat :=
  let c0_i32_2693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2681 : BitVec 32 := 12#32
  let v2791 : BitVec 32 := Scalar.addi v2 c12_i32_2681
  let c16_i32_2682 : BitVec 32 := 16#32
  let c0_i32_2683 : BitVec 32 := 0#32
  let v2792 : BitVec 1 := Scalar.cmpi .eq c16_i32_2682 c0_i32_2683
  let c1_i32_2684 : BitVec 32 := 1#32
  let v2793 : BitVec 32 := Scalar.select v2792 c1_i32_2684 c16_i32_2682
  let v2794 : BitVec 32 := Scalar.remsi v2791 v2793
  let c0_i32_2686 : BitVec 32 := 0#32
  let v2796 : BitVec 1 := Scalar.cmpi .slt v2794 c0_i32_2686
  let c0_i32_2687 : BitVec 32 := 0#32
  let v2797 : BitVec 1 := Scalar.cmpi .slt v2793 c0_i32_2687
  let v2798 : BitVec 1 := Scalar.xori v2796 v2797
  let c0_i32_2685 : BitVec 32 := 0#32
  let v2795 : BitVec 1 := Scalar.cmpi .ne v2794 c0_i32_2685
  let v2799 : BitVec 1 := Scalar.andi v2798 v2795
  let v2800 : BitVec 32 := Scalar.addi v2794 v2793
  let v2801 : BitVec 32 := Scalar.select v2799 v2800 v2794
  let c1_i32_2692 : BitVec 32 := 1#32
  let v2802 : BitVec 32 := Scalar.muli v2801 c1_i32_2692
  let v2803 : BitVec 32 := Scalar.addi c0_i32_2693 v2802
  v2803.toNat
def k0_dev88 (d0 : Dev nD) : Nat :=
  let c0_i32_2710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2698 : BitVec 32 := 13#32
  let v2812 : BitVec 32 := Scalar.addi v2 c13_i32_2698
  let c16_i32_2699 : BitVec 32 := 16#32
  let c0_i32_2700 : BitVec 32 := 0#32
  let v2813 : BitVec 1 := Scalar.cmpi .eq c16_i32_2699 c0_i32_2700
  let c1_i32_2701 : BitVec 32 := 1#32
  let v2814 : BitVec 32 := Scalar.select v2813 c1_i32_2701 c16_i32_2699
  let v2815 : BitVec 32 := Scalar.remsi v2812 v2814
  let c0_i32_2703 : BitVec 32 := 0#32
  let v2817 : BitVec 1 := Scalar.cmpi .slt v2815 c0_i32_2703
  let c0_i32_2704 : BitVec 32 := 0#32
  let v2818 : BitVec 1 := Scalar.cmpi .slt v2814 c0_i32_2704
  let v2819 : BitVec 1 := Scalar.xori v2817 v2818
  let c0_i32_2702 : BitVec 32 := 0#32
  let v2816 : BitVec 1 := Scalar.cmpi .ne v2815 c0_i32_2702
  let v2820 : BitVec 1 := Scalar.andi v2819 v2816
  let v2821 : BitVec 32 := Scalar.addi v2815 v2814
  let v2822 : BitVec 32 := Scalar.select v2820 v2821 v2815
  let c1_i32_2709 : BitVec 32 := 1#32
  let v2823 : BitVec 32 := Scalar.muli v2822 c1_i32_2709
  let v2824 : BitVec 32 := Scalar.addi c0_i32_2710 v2823
  v2824.toNat
def k0_dev89 (d0 : Dev nD) : Nat :=
  let c0_i32_2727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2715 : BitVec 32 := 14#32
  let v2833 : BitVec 32 := Scalar.addi v2 c14_i32_2715
  let c16_i32_2716 : BitVec 32 := 16#32
  let c0_i32_2717 : BitVec 32 := 0#32
  let v2834 : BitVec 1 := Scalar.cmpi .eq c16_i32_2716 c0_i32_2717
  let c1_i32_2718 : BitVec 32 := 1#32
  let v2835 : BitVec 32 := Scalar.select v2834 c1_i32_2718 c16_i32_2716
  let v2836 : BitVec 32 := Scalar.remsi v2833 v2835
  let c0_i32_2720 : BitVec 32 := 0#32
  let v2838 : BitVec 1 := Scalar.cmpi .slt v2836 c0_i32_2720
  let c0_i32_2721 : BitVec 32 := 0#32
  let v2839 : BitVec 1 := Scalar.cmpi .slt v2835 c0_i32_2721
  let v2840 : BitVec 1 := Scalar.xori v2838 v2839
  let c0_i32_2719 : BitVec 32 := 0#32
  let v2837 : BitVec 1 := Scalar.cmpi .ne v2836 c0_i32_2719
  let v2841 : BitVec 1 := Scalar.andi v2840 v2837
  let v2842 : BitVec 32 := Scalar.addi v2836 v2835
  let v2843 : BitVec 32 := Scalar.select v2841 v2842 v2836
  let c1_i32_2726 : BitVec 32 := 1#32
  let v2844 : BitVec 32 := Scalar.muli v2843 c1_i32_2726
  let v2845 : BitVec 32 := Scalar.addi c0_i32_2727 v2844
  v2845.toNat
def k0_dev90 (d0 : Dev nD) : Nat :=
  let c0_i32_2744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2732 : BitVec 32 := 15#32
  let v2854 : BitVec 32 := Scalar.addi v2 c15_i32_2732
  let c16_i32_2733 : BitVec 32 := 16#32
  let c0_i32_2734 : BitVec 32 := 0#32
  let v2855 : BitVec 1 := Scalar.cmpi .eq c16_i32_2733 c0_i32_2734
  let c1_i32_2735 : BitVec 32 := 1#32
  let v2856 : BitVec 32 := Scalar.select v2855 c1_i32_2735 c16_i32_2733
  let v2857 : BitVec 32 := Scalar.remsi v2854 v2856
  let c0_i32_2737 : BitVec 32 := 0#32
  let v2859 : BitVec 1 := Scalar.cmpi .slt v2857 c0_i32_2737
  let c0_i32_2738 : BitVec 32 := 0#32
  let v2860 : BitVec 1 := Scalar.cmpi .slt v2856 c0_i32_2738
  let v2861 : BitVec 1 := Scalar.xori v2859 v2860
  let c0_i32_2736 : BitVec 32 := 0#32
  let v2858 : BitVec 1 := Scalar.cmpi .ne v2857 c0_i32_2736
  let v2862 : BitVec 1 := Scalar.andi v2861 v2858
  let v2863 : BitVec 32 := Scalar.addi v2857 v2856
  let v2864 : BitVec 32 := Scalar.select v2862 v2863 v2857
  let c1_i32_2743 : BitVec 32 := 1#32
  let v2865 : BitVec 32 := Scalar.muli v2864 c1_i32_2743
  let v2866 : BitVec 32 := Scalar.addi c0_i32_2744 v2865
  v2866.toNat
def k0_dev91 (d0 : Dev nD) : Nat :=
  let c0_i32_2818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2806 : BitVec 32 := 12#32
  let v2926 : BitVec 32 := Scalar.addi v2 c12_i32_2806
  let c16_i32_2807 : BitVec 32 := 16#32
  let c0_i32_2808 : BitVec 32 := 0#32
  let v2927 : BitVec 1 := Scalar.cmpi .eq c16_i32_2807 c0_i32_2808
  let c1_i32_2809 : BitVec 32 := 1#32
  let v2928 : BitVec 32 := Scalar.select v2927 c1_i32_2809 c16_i32_2807
  let v2929 : BitVec 32 := Scalar.remsi v2926 v2928
  let c0_i32_2811 : BitVec 32 := 0#32
  let v2931 : BitVec 1 := Scalar.cmpi .slt v2929 c0_i32_2811
  let c0_i32_2812 : BitVec 32 := 0#32
  let v2932 : BitVec 1 := Scalar.cmpi .slt v2928 c0_i32_2812
  let v2933 : BitVec 1 := Scalar.xori v2931 v2932
  let c0_i32_2810 : BitVec 32 := 0#32
  let v2930 : BitVec 1 := Scalar.cmpi .ne v2929 c0_i32_2810
  let v2934 : BitVec 1 := Scalar.andi v2933 v2930
  let v2935 : BitVec 32 := Scalar.addi v2929 v2928
  let v2936 : BitVec 32 := Scalar.select v2934 v2935 v2929
  let c1_i32_2817 : BitVec 32 := 1#32
  let v2937 : BitVec 32 := Scalar.muli v2936 c1_i32_2817
  let v2938 : BitVec 32 := Scalar.addi c0_i32_2818 v2937
  v2938.toNat
def k0_dev92 (d0 : Dev nD) : Nat :=
  let c0_i32_2840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2828 : BitVec 32 := 13#32
  let v2952 : BitVec 32 := Scalar.addi v2 c13_i32_2828
  let c16_i32_2829 : BitVec 32 := 16#32
  let c0_i32_2830 : BitVec 32 := 0#32
  let v2953 : BitVec 1 := Scalar.cmpi .eq c16_i32_2829 c0_i32_2830
  let c1_i32_2831 : BitVec 32 := 1#32
  let v2954 : BitVec 32 := Scalar.select v2953 c1_i32_2831 c16_i32_2829
  let v2955 : BitVec 32 := Scalar.remsi v2952 v2954
  let c0_i32_2833 : BitVec 32 := 0#32
  let v2957 : BitVec 1 := Scalar.cmpi .slt v2955 c0_i32_2833
  let c0_i32_2834 : BitVec 32 := 0#32
  let v2958 : BitVec 1 := Scalar.cmpi .slt v2954 c0_i32_2834
  let v2959 : BitVec 1 := Scalar.xori v2957 v2958
  let c0_i32_2832 : BitVec 32 := 0#32
  let v2956 : BitVec 1 := Scalar.cmpi .ne v2955 c0_i32_2832
  let v2960 : BitVec 1 := Scalar.andi v2959 v2956
  let v2961 : BitVec 32 := Scalar.addi v2955 v2954
  let v2962 : BitVec 32 := Scalar.select v2960 v2961 v2955
  let c1_i32_2839 : BitVec 32 := 1#32
  let v2963 : BitVec 32 := Scalar.muli v2962 c1_i32_2839
  let v2964 : BitVec 32 := Scalar.addi c0_i32_2840 v2963
  v2964.toNat
def k0_dev93 (d0 : Dev nD) : Nat :=
  let c0_i32_2862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2850 : BitVec 32 := 14#32
  let v2978 : BitVec 32 := Scalar.addi v2 c14_i32_2850
  let c16_i32_2851 : BitVec 32 := 16#32
  let c0_i32_2852 : BitVec 32 := 0#32
  let v2979 : BitVec 1 := Scalar.cmpi .eq c16_i32_2851 c0_i32_2852
  let c1_i32_2853 : BitVec 32 := 1#32
  let v2980 : BitVec 32 := Scalar.select v2979 c1_i32_2853 c16_i32_2851
  let v2981 : BitVec 32 := Scalar.remsi v2978 v2980
  let c0_i32_2855 : BitVec 32 := 0#32
  let v2983 : BitVec 1 := Scalar.cmpi .slt v2981 c0_i32_2855
  let c0_i32_2856 : BitVec 32 := 0#32
  let v2984 : BitVec 1 := Scalar.cmpi .slt v2980 c0_i32_2856
  let v2985 : BitVec 1 := Scalar.xori v2983 v2984
  let c0_i32_2854 : BitVec 32 := 0#32
  let v2982 : BitVec 1 := Scalar.cmpi .ne v2981 c0_i32_2854
  let v2986 : BitVec 1 := Scalar.andi v2985 v2982
  let v2987 : BitVec 32 := Scalar.addi v2981 v2980
  let v2988 : BitVec 32 := Scalar.select v2986 v2987 v2981
  let c1_i32_2861 : BitVec 32 := 1#32
  let v2989 : BitVec 32 := Scalar.muli v2988 c1_i32_2861
  let v2990 : BitVec 32 := Scalar.addi c0_i32_2862 v2989
  v2990.toNat
def k0_dev94 (d0 : Dev nD) : Nat :=
  let c0_i32_2884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2872 : BitVec 32 := 15#32
  let v3004 : BitVec 32 := Scalar.addi v2 c15_i32_2872
  let c16_i32_2873 : BitVec 32 := 16#32
  let c0_i32_2874 : BitVec 32 := 0#32
  let v3005 : BitVec 1 := Scalar.cmpi .eq c16_i32_2873 c0_i32_2874
  let c1_i32_2875 : BitVec 32 := 1#32
  let v3006 : BitVec 32 := Scalar.select v3005 c1_i32_2875 c16_i32_2873
  let v3007 : BitVec 32 := Scalar.remsi v3004 v3006
  let c0_i32_2877 : BitVec 32 := 0#32
  let v3009 : BitVec 1 := Scalar.cmpi .slt v3007 c0_i32_2877
  let c0_i32_2878 : BitVec 32 := 0#32
  let v3010 : BitVec 1 := Scalar.cmpi .slt v3006 c0_i32_2878
  let v3011 : BitVec 1 := Scalar.xori v3009 v3010
  let c0_i32_2876 : BitVec 32 := 0#32
  let v3008 : BitVec 1 := Scalar.cmpi .ne v3007 c0_i32_2876
  let v3012 : BitVec 1 := Scalar.andi v3011 v3008
  let v3013 : BitVec 32 := Scalar.addi v3007 v3006
  let v3014 : BitVec 32 := Scalar.select v3012 v3013 v3007
  let c1_i32_2883 : BitVec 32 := 1#32
  let v3015 : BitVec 32 := Scalar.muli v3014 c1_i32_2883
  let v3016 : BitVec 32 := Scalar.addi c0_i32_2884 v3015
  v3016.toNat
def k0_dev95 (d0 : Dev nD) : Nat :=
  let c0_i32_2954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2942 : BitVec 32 := 8#32
  let v3072 : BitVec 32 := Scalar.addi v2 c8_i32_2942
  let c16_i32_2943 : BitVec 32 := 16#32
  let c0_i32_2944 : BitVec 32 := 0#32
  let v3073 : BitVec 1 := Scalar.cmpi .eq c16_i32_2943 c0_i32_2944
  let c1_i32_2945 : BitVec 32 := 1#32
  let v3074 : BitVec 32 := Scalar.select v3073 c1_i32_2945 c16_i32_2943
  let v3075 : BitVec 32 := Scalar.remsi v3072 v3074
  let c0_i32_2947 : BitVec 32 := 0#32
  let v3077 : BitVec 1 := Scalar.cmpi .slt v3075 c0_i32_2947
  let c0_i32_2948 : BitVec 32 := 0#32
  let v3078 : BitVec 1 := Scalar.cmpi .slt v3074 c0_i32_2948
  let v3079 : BitVec 1 := Scalar.xori v3077 v3078
  let c0_i32_2946 : BitVec 32 := 0#32
  let v3076 : BitVec 1 := Scalar.cmpi .ne v3075 c0_i32_2946
  let v3080 : BitVec 1 := Scalar.andi v3079 v3076
  let v3081 : BitVec 32 := Scalar.addi v3075 v3074
  let v3082 : BitVec 32 := Scalar.select v3080 v3081 v3075
  let c1_i32_2953 : BitVec 32 := 1#32
  let v3083 : BitVec 32 := Scalar.muli v3082 c1_i32_2953
  let v3084 : BitVec 32 := Scalar.addi c0_i32_2954 v3083
  v3084.toNat
def k0_dev96 (d0 : Dev nD) : Nat :=
  let c0_i32_2976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2964 : BitVec 32 := 9#32
  let v3098 : BitVec 32 := Scalar.addi v2 c9_i32_2964
  let c16_i32_2965 : BitVec 32 := 16#32
  let c0_i32_2966 : BitVec 32 := 0#32
  let v3099 : BitVec 1 := Scalar.cmpi .eq c16_i32_2965 c0_i32_2966
  let c1_i32_2967 : BitVec 32 := 1#32
  let v3100 : BitVec 32 := Scalar.select v3099 c1_i32_2967 c16_i32_2965
  let v3101 : BitVec 32 := Scalar.remsi v3098 v3100
  let c0_i32_2969 : BitVec 32 := 0#32
  let v3103 : BitVec 1 := Scalar.cmpi .slt v3101 c0_i32_2969
  let c0_i32_2970 : BitVec 32 := 0#32
  let v3104 : BitVec 1 := Scalar.cmpi .slt v3100 c0_i32_2970
  let v3105 : BitVec 1 := Scalar.xori v3103 v3104
  let c0_i32_2968 : BitVec 32 := 0#32
  let v3102 : BitVec 1 := Scalar.cmpi .ne v3101 c0_i32_2968
  let v3106 : BitVec 1 := Scalar.andi v3105 v3102
  let v3107 : BitVec 32 := Scalar.addi v3101 v3100
  let v3108 : BitVec 32 := Scalar.select v3106 v3107 v3101
  let c1_i32_2975 : BitVec 32 := 1#32
  let v3109 : BitVec 32 := Scalar.muli v3108 c1_i32_2975
  let v3110 : BitVec 32 := Scalar.addi c0_i32_2976 v3109
  v3110.toNat
def k0_dev97 (d0 : Dev nD) : Nat :=
  let c0_i32_2998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2986 : BitVec 32 := 10#32
  let v3124 : BitVec 32 := Scalar.addi v2 c10_i32_2986
  let c16_i32_2987 : BitVec 32 := 16#32
  let c0_i32_2988 : BitVec 32 := 0#32
  let v3125 : BitVec 1 := Scalar.cmpi .eq c16_i32_2987 c0_i32_2988
  let c1_i32_2989 : BitVec 32 := 1#32
  let v3126 : BitVec 32 := Scalar.select v3125 c1_i32_2989 c16_i32_2987
  let v3127 : BitVec 32 := Scalar.remsi v3124 v3126
  let c0_i32_2991 : BitVec 32 := 0#32
  let v3129 : BitVec 1 := Scalar.cmpi .slt v3127 c0_i32_2991
  let c0_i32_2992 : BitVec 32 := 0#32
  let v3130 : BitVec 1 := Scalar.cmpi .slt v3126 c0_i32_2992
  let v3131 : BitVec 1 := Scalar.xori v3129 v3130
  let c0_i32_2990 : BitVec 32 := 0#32
  let v3128 : BitVec 1 := Scalar.cmpi .ne v3127 c0_i32_2990
  let v3132 : BitVec 1 := Scalar.andi v3131 v3128
  let v3133 : BitVec 32 := Scalar.addi v3127 v3126
  let v3134 : BitVec 32 := Scalar.select v3132 v3133 v3127
  let c1_i32_2997 : BitVec 32 := 1#32
  let v3135 : BitVec 32 := Scalar.muli v3134 c1_i32_2997
  let v3136 : BitVec 32 := Scalar.addi c0_i32_2998 v3135
  v3136.toNat
def k0_dev98 (d0 : Dev nD) : Nat :=
  let c0_i32_3020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_3008 : BitVec 32 := 11#32
  let v3150 : BitVec 32 := Scalar.addi v2 c11_i32_3008
  let c16_i32_3009 : BitVec 32 := 16#32
  let c0_i32_3010 : BitVec 32 := 0#32
  let v3151 : BitVec 1 := Scalar.cmpi .eq c16_i32_3009 c0_i32_3010
  let c1_i32_3011 : BitVec 32 := 1#32
  let v3152 : BitVec 32 := Scalar.select v3151 c1_i32_3011 c16_i32_3009
  let v3153 : BitVec 32 := Scalar.remsi v3150 v3152
  let c0_i32_3013 : BitVec 32 := 0#32
  let v3155 : BitVec 1 := Scalar.cmpi .slt v3153 c0_i32_3013
  let c0_i32_3014 : BitVec 32 := 0#32
  let v3156 : BitVec 1 := Scalar.cmpi .slt v3152 c0_i32_3014
  let v3157 : BitVec 1 := Scalar.xori v3155 v3156
  let c0_i32_3012 : BitVec 32 := 0#32
  let v3154 : BitVec 1 := Scalar.cmpi .ne v3153 c0_i32_3012
  let v3158 : BitVec 1 := Scalar.andi v3157 v3154
  let v3159 : BitVec 32 := Scalar.addi v3153 v3152
  let v3160 : BitVec 32 := Scalar.select v3158 v3159 v3153
  let c1_i32_3019 : BitVec 32 := 1#32
  let v3161 : BitVec 32 := Scalar.muli v3160 c1_i32_3019
  let v3162 : BitVec 32 := Scalar.addi c0_i32_3020 v3161
  v3162.toNat
def k0_dev99 (d0 : Dev nD) : Nat :=
  let c0_i32_3090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3078 : BitVec 32 := 4#32
  let v3218 : BitVec 32 := Scalar.addi v2 c4_i32_3078
  let c16_i32_3079 : BitVec 32 := 16#32
  let c0_i32_3080 : BitVec 32 := 0#32
  let v3219 : BitVec 1 := Scalar.cmpi .eq c16_i32_3079 c0_i32_3080
  let c1_i32_3081 : BitVec 32 := 1#32
  let v3220 : BitVec 32 := Scalar.select v3219 c1_i32_3081 c16_i32_3079
  let v3221 : BitVec 32 := Scalar.remsi v3218 v3220
  let c0_i32_3083 : BitVec 32 := 0#32
  let v3223 : BitVec 1 := Scalar.cmpi .slt v3221 c0_i32_3083
  let c0_i32_3084 : BitVec 32 := 0#32
  let v3224 : BitVec 1 := Scalar.cmpi .slt v3220 c0_i32_3084
  let v3225 : BitVec 1 := Scalar.xori v3223 v3224
  let c0_i32_3082 : BitVec 32 := 0#32
  let v3222 : BitVec 1 := Scalar.cmpi .ne v3221 c0_i32_3082
  let v3226 : BitVec 1 := Scalar.andi v3225 v3222
  let v3227 : BitVec 32 := Scalar.addi v3221 v3220
  let v3228 : BitVec 32 := Scalar.select v3226 v3227 v3221
  let c1_i32_3089 : BitVec 32 := 1#32
  let v3229 : BitVec 32 := Scalar.muli v3228 c1_i32_3089
  let v3230 : BitVec 32 := Scalar.addi c0_i32_3090 v3229
  v3230.toNat
def k0_dev100 (d0 : Dev nD) : Nat :=
  let c0_i32_3112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_3100 : BitVec 32 := 5#32
  let v3244 : BitVec 32 := Scalar.addi v2 c5_i32_3100
  let c16_i32_3101 : BitVec 32 := 16#32
  let c0_i32_3102 : BitVec 32 := 0#32
  let v3245 : BitVec 1 := Scalar.cmpi .eq c16_i32_3101 c0_i32_3102
  let c1_i32_3103 : BitVec 32 := 1#32
  let v3246 : BitVec 32 := Scalar.select v3245 c1_i32_3103 c16_i32_3101
  let v3247 : BitVec 32 := Scalar.remsi v3244 v3246
  let c0_i32_3105 : BitVec 32 := 0#32
  let v3249 : BitVec 1 := Scalar.cmpi .slt v3247 c0_i32_3105
  let c0_i32_3106 : BitVec 32 := 0#32
  let v3250 : BitVec 1 := Scalar.cmpi .slt v3246 c0_i32_3106
  let v3251 : BitVec 1 := Scalar.xori v3249 v3250
  let c0_i32_3104 : BitVec 32 := 0#32
  let v3248 : BitVec 1 := Scalar.cmpi .ne v3247 c0_i32_3104
  let v3252 : BitVec 1 := Scalar.andi v3251 v3248
  let v3253 : BitVec 32 := Scalar.addi v3247 v3246
  let v3254 : BitVec 32 := Scalar.select v3252 v3253 v3247
  let c1_i32_3111 : BitVec 32 := 1#32
  let v3255 : BitVec 32 := Scalar.muli v3254 c1_i32_3111
  let v3256 : BitVec 32 := Scalar.addi c0_i32_3112 v3255
  v3256.toNat
def k0_dev101 (d0 : Dev nD) : Nat :=
  let c0_i32_3134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_3122 : BitVec 32 := 6#32
  let v3270 : BitVec 32 := Scalar.addi v2 c6_i32_3122
  let c16_i32_3123 : BitVec 32 := 16#32
  let c0_i32_3124 : BitVec 32 := 0#32
  let v3271 : BitVec 1 := Scalar.cmpi .eq c16_i32_3123 c0_i32_3124
  let c1_i32_3125 : BitVec 32 := 1#32
  let v3272 : BitVec 32 := Scalar.select v3271 c1_i32_3125 c16_i32_3123
  let v3273 : BitVec 32 := Scalar.remsi v3270 v3272
  let c0_i32_3127 : BitVec 32 := 0#32
  let v3275 : BitVec 1 := Scalar.cmpi .slt v3273 c0_i32_3127
  let c0_i32_3128 : BitVec 32 := 0#32
  let v3276 : BitVec 1 := Scalar.cmpi .slt v3272 c0_i32_3128
  let v3277 : BitVec 1 := Scalar.xori v3275 v3276
  let c0_i32_3126 : BitVec 32 := 0#32
  let v3274 : BitVec 1 := Scalar.cmpi .ne v3273 c0_i32_3126
  let v3278 : BitVec 1 := Scalar.andi v3277 v3274
  let v3279 : BitVec 32 := Scalar.addi v3273 v3272
  let v3280 : BitVec 32 := Scalar.select v3278 v3279 v3273
  let c1_i32_3133 : BitVec 32 := 1#32
  let v3281 : BitVec 32 := Scalar.muli v3280 c1_i32_3133
  let v3282 : BitVec 32 := Scalar.addi c0_i32_3134 v3281
  v3282.toNat
def k0_dev102 (d0 : Dev nD) : Nat :=
  let c0_i32_3156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_3144 : BitVec 32 := 7#32
  let v3296 : BitVec 32 := Scalar.addi v2 c7_i32_3144
  let c16_i32_3145 : BitVec 32 := 16#32
  let c0_i32_3146 : BitVec 32 := 0#32
  let v3297 : BitVec 1 := Scalar.cmpi .eq c16_i32_3145 c0_i32_3146
  let c1_i32_3147 : BitVec 32 := 1#32
  let v3298 : BitVec 32 := Scalar.select v3297 c1_i32_3147 c16_i32_3145
  let v3299 : BitVec 32 := Scalar.remsi v3296 v3298
  let c0_i32_3149 : BitVec 32 := 0#32
  let v3301 : BitVec 1 := Scalar.cmpi .slt v3299 c0_i32_3149
  let c0_i32_3150 : BitVec 32 := 0#32
  let v3302 : BitVec 1 := Scalar.cmpi .slt v3298 c0_i32_3150
  let v3303 : BitVec 1 := Scalar.xori v3301 v3302
  let c0_i32_3148 : BitVec 32 := 0#32
  let v3300 : BitVec 1 := Scalar.cmpi .ne v3299 c0_i32_3148
  let v3304 : BitVec 1 := Scalar.andi v3303 v3300
  let v3305 : BitVec 32 := Scalar.addi v3299 v3298
  let v3306 : BitVec 32 := Scalar.select v3304 v3305 v3299
  let c1_i32_3155 : BitVec 32 := 1#32
  let v3307 : BitVec 32 := Scalar.muli v3306 c1_i32_3155
  let v3308 : BitVec 32 := Scalar.addi c0_i32_3156 v3307
  v3308.toNat
def k0_dev103 (d0 : Dev nD) : Nat :=
  let c0_i32_3216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3204 : BitVec 32 := 1#32
  let v3356 : BitVec 32 := Scalar.addi v2 c1_i32_3204
  let c16_i32_3205 : BitVec 32 := 16#32
  let c0_i32_3206 : BitVec 32 := 0#32
  let v3357 : BitVec 1 := Scalar.cmpi .eq c16_i32_3205 c0_i32_3206
  let c1_i32_3207 : BitVec 32 := 1#32
  let v3358 : BitVec 32 := Scalar.select v3357 c1_i32_3207 c16_i32_3205
  let v3359 : BitVec 32 := Scalar.remsi v3356 v3358
  let c0_i32_3209 : BitVec 32 := 0#32
  let v3361 : BitVec 1 := Scalar.cmpi .slt v3359 c0_i32_3209
  let c0_i32_3210 : BitVec 32 := 0#32
  let v3362 : BitVec 1 := Scalar.cmpi .slt v3358 c0_i32_3210
  let v3363 : BitVec 1 := Scalar.xori v3361 v3362
  let c0_i32_3208 : BitVec 32 := 0#32
  let v3360 : BitVec 1 := Scalar.cmpi .ne v3359 c0_i32_3208
  let v3364 : BitVec 1 := Scalar.andi v3363 v3360
  let v3365 : BitVec 32 := Scalar.addi v3359 v3358
  let v3366 : BitVec 32 := Scalar.select v3364 v3365 v3359
  let c1_i32_3215 : BitVec 32 := 1#32
  let v3367 : BitVec 32 := Scalar.muli v3366 c1_i32_3215
  let v3368 : BitVec 32 := Scalar.addi c0_i32_3216 v3367
  v3368.toNat
def k0_dev104 (d0 : Dev nD) : Nat :=
  let c0_i32_3238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_3226 : BitVec 32 := 2#32
  let v3382 : BitVec 32 := Scalar.addi v2 c2_i32_3226
  let c16_i32_3227 : BitVec 32 := 16#32
  let c0_i32_3228 : BitVec 32 := 0#32
  let v3383 : BitVec 1 := Scalar.cmpi .eq c16_i32_3227 c0_i32_3228
  let c1_i32_3229 : BitVec 32 := 1#32
  let v3384 : BitVec 32 := Scalar.select v3383 c1_i32_3229 c16_i32_3227
  let v3385 : BitVec 32 := Scalar.remsi v3382 v3384
  let c0_i32_3231 : BitVec 32 := 0#32
  let v3387 : BitVec 1 := Scalar.cmpi .slt v3385 c0_i32_3231
  let c0_i32_3232 : BitVec 32 := 0#32
  let v3388 : BitVec 1 := Scalar.cmpi .slt v3384 c0_i32_3232
  let v3389 : BitVec 1 := Scalar.xori v3387 v3388
  let c0_i32_3230 : BitVec 32 := 0#32
  let v3386 : BitVec 1 := Scalar.cmpi .ne v3385 c0_i32_3230
  let v3390 : BitVec 1 := Scalar.andi v3389 v3386
  let v3391 : BitVec 32 := Scalar.addi v3385 v3384
  let v3392 : BitVec 32 := Scalar.select v3390 v3391 v3385
  let c1_i32_3237 : BitVec 32 := 1#32
  let v3393 : BitVec 32 := Scalar.muli v3392 c1_i32_3237
  let v3394 : BitVec 32 := Scalar.addi c0_i32_3238 v3393
  v3394.toNat
def k0_dev105 (d0 : Dev nD) : Nat :=
  let c0_i32_3260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_3248 : BitVec 32 := 3#32
  let v3408 : BitVec 32 := Scalar.addi v2 c3_i32_3248
  let c16_i32_3249 : BitVec 32 := 16#32
  let c0_i32_3250 : BitVec 32 := 0#32
  let v3409 : BitVec 1 := Scalar.cmpi .eq c16_i32_3249 c0_i32_3250
  let c1_i32_3251 : BitVec 32 := 1#32
  let v3410 : BitVec 32 := Scalar.select v3409 c1_i32_3251 c16_i32_3249
  let v3411 : BitVec 32 := Scalar.remsi v3408 v3410
  let c0_i32_3253 : BitVec 32 := 0#32
  let v3413 : BitVec 1 := Scalar.cmpi .slt v3411 c0_i32_3253
  let c0_i32_3254 : BitVec 32 := 0#32
  let v3414 : BitVec 1 := Scalar.cmpi .slt v3410 c0_i32_3254
  let v3415 : BitVec 1 := Scalar.xori v3413 v3414
  let c0_i32_3252 : BitVec 32 := 0#32
  let v3412 : BitVec 1 := Scalar.cmpi .ne v3411 c0_i32_3252
  let v3416 : BitVec 1 := Scalar.andi v3415 v3412
  let v3417 : BitVec 32 := Scalar.addi v3411 v3410
  let v3418 : BitVec 32 := Scalar.select v3416 v3417 v3411
  let c1_i32_3259 : BitVec 32 := 1#32
  let v3419 : BitVec 32 := Scalar.muli v3418 c1_i32_3259
  let v3420 : BitVec 32 := Scalar.addi c0_i32_3260 v3419
  v3420.toNat
abbrev stage0_0 : Fin 1 → Memref sig .tc .vmem S64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S1024x512 : Shape := ⟨2, ![1024, 512]⟩
abbrev S512x16384 : Shape := ⟨2, ![512, 16384]⟩
abbrev S16384x512 : Shape := ⟨2, ![16384, 512]⟩
abbrev S1024x16384 : Shape := ⟨2, ![1024, 16384]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x16384, .bf16⟩
  | .hbm, ⟨2, _⟩ => ⟨S16384x512, .bf16⟩
  | .hbm, ⟨3, _⟩ => ⟨S512x16384, .bf16⟩
  | .hbm, ⟨4, _⟩ => ⟨S16384x512, .bf16⟩
  | .hbm, ⟨5, _⟩ => ⟨S512x16384, .bf16⟩
  | .hbm, ⟨6, _⟩ => ⟨S16384x512, .bf16⟩
  | .hbm, ⟨7, _⟩ => ⟨S1024x16384, .f32⟩
  | .hbm, ⟨8, _⟩ => ⟨S1024x16384, .bf16⟩
  | .hbm, ⟨9, _⟩ => ⟨S_, .bf16⟩
  | .hbm, ⟨10, _⟩ => ⟨S1024x16384, .bf16⟩
  | .hbm, ⟨11, _⟩ => ⟨S1024x16384, .bf16⟩
  | .hbm, ⟨12, _⟩ => ⟨S1024x512, .f32⟩
  | .hbm, ⟨13, _⟩ => ⟨S1024x512, .bf16⟩
  | .hbm, ⟨14, _⟩ => ⟨S1024x16384, .f32⟩
  | .hbm, ⟨15, _⟩ => ⟨S1024x16384, .bf16⟩
  | .hbm, ⟨16, _⟩ => ⟨S_, .bf16⟩
  | .hbm, ⟨17, _⟩ => ⟨S1024x16384, .bf16⟩
  | .hbm, ⟨18, _⟩ => ⟨S1024x16384, .bf16⟩
  | .hbm, ⟨19, _⟩ => ⟨S1024x512, .f32⟩
  | .hbm, ⟨20, _⟩ => ⟨S1024x512, .bf16⟩
  | .hbm, ⟨21, _⟩ => ⟨S1024x16384, .f32⟩
  | .hbm, ⟨22, _⟩ => ⟨S1024x16384, .bf16⟩
  | .hbm, ⟨23, _⟩ => ⟨S_, .bf16⟩
  | .hbm, ⟨24, _⟩ => ⟨S1024x16384, .bf16⟩
  | .hbm, ⟨25, _⟩ => ⟨S1024x16384, .bf16⟩
  | .hbm, ⟨26, _⟩ => ⟨S1024x512, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.Body.lean ====
/-
# The kernel's body, written as loops

The printed body is one straight run of some five hundred operations. Here the same operations are written as the loops
they come from: the barrier, then three layers, each a loop of sends to the fifteen other devices, four groups of
(wait for four row blocks, multiply them by the weights, send each product block back), a loop of waits for the
product blocks and two loops of waits for the sends. Every step takes what runs after it as an argument.

Index conventions, all in `Fin 16` with its wrap-around addition: device `c + k` is "the peer at offset `k`"; SLOT `k`
of a device's row buffer (and of its product buffer) is the one the peer at offset `k` writes.
-/
module

public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Mlp

open Cert.KernelIdeal Cert.KernelIdeal.Gen
open Idealize.ShloMosaic Idealize.SL.Sem

variable {F : FTy → Type} [FloatOps F]

/-! ## The rectangles -/

theorem inb_x (p : Fin 2) (k : Fin 16) : ∀ a, (![p.val, 64 * k.val, 0] : Fin 3 → Nat) a + S1x64x512.size a ≤ S2x1024x512.size a := by
  revert p k; decide
theorem inb_xg (p : Fin 2) (q : Fin 4) : ∀ a, (![p.val, 256 * q.val, 0] : Fin 3 → Nat) a + S1x256x512.size a ≤ S2x1024x512.size a := by
  revert p q; decide
theorem inb_s (k : Fin 16) : ∀ a, (![k.val, 0, 0] : Fin 3 → Nat) a + S1x64x512.size a ≤ S16x64x512.size a := by
  revert k; decide
theorem inb_y (k : Fin 16) : ∀ a, (![64 * k.val, 0] : Fin 2 → Nat) a + S64x512.size a ≤ S1024x512.size a := by
  revert k; decide
theorem inb_yg (q : Fin 4) : ∀ a, (![256 * q.val, 0] : Fin 2 → Nat) a + S256x512.size a ≤ S1024x512.size a := by
  revert q; decide
theorem inb_sem (k : Fin 16) : ∀ a, (![k.val] : Fin 1 → Nat) a + S1.size a ≤ S16.size a := by
  revert k; decide

/-- Slot `k` of plane `p` of the row buffer. -/
abbrev xR (p : Fin 2) (k : Fin 16) : Rect S2x1024x512 := Rect.unit (s := S2x1024x512) ![p.val, 64 * k.val, 0] S1x64x512.size (inb_x p k)
/-- Slots `4q … 4q+3` of plane `p` of the row buffer. -/
abbrev xgR (p : Fin 2) (q : Fin 4) : Rect S2x1024x512 := Rect.unit (s := S2x1024x512) ![p.val, 256 * q.val, 0] S1x256x512.size (inb_xg p q)
/-- Slot `k` of a sixteen-slot buffer. -/
abbrev sR (k : Fin 16) : Rect S16x64x512 := Rect.unit (s := S16x64x512) ![k.val, 0, 0] S1x64x512.size (inb_s k)
/-- Slots `1 … 15` of a sixteen-slot buffer. -/
abbrev restR : Rect S16x64x512 := Rect.unit (s := S16x64x512) ![1, 0, 0] S15x64x512.size inb_S16x64x512_S15x64x512_1_0_0
/-- Row block `k` of the product. -/
abbrev yR (k : Fin 16) : Rect S1024x512 := Rect.unit (s := S1024x512) ![64 * k.val, 0] S64x512.size (inb_y k)
/-- Row blocks `4q … 4q+3` of the product. -/
abbrev ygR (q : Fin 4) : Rect S1024x512 := Rect.unit (s := S1024x512) ![256 * q.val, 0] S256x512.size (inb_yg q)

theorem words_x (p : Fin 2) (k : Fin 16) : (xR p k).WholeWords (EltTy.packing .bf16) := by revert p k; decide
theorem words_s (k : Fin 16) : (sR k).WholeWords (EltTy.packing .bf16) := by revert k; decide
theorem packed_x (p : Fin 2) (k : Fin 16) : (xR p k).PackedRows (EltTy.packing .bf16) := by revert p k; decide
theorem packed_s (k : Fin 16) : (sR k).PackedRows (EltTy.packing .bf16) := by revert k; decide

/-! ## The buffers and the semaphores -/

/-- The row buffer: two planes of sixteen row blocks. -/
abbrev XF : Memref sig .tc .vmem S2x1024x512 .bf16 := Memref.whole cc0_scratch0
/-- The product. -/
abbrev YP : Memref sig .tc .vmem S1024x512 .f32 := Memref.whole cc0_scratch1
/-- The product blocks on their way out. -/
abbrev SB : Memref sig .tc .vmem S16x64x512 .bf16 := Memref.whole cc0_scratch2
/-- The product blocks that arrived. -/
abbrev RB : Memref sig .tc .vmem S16x64x512 .bf16 := Memref.whole cc0_scratch3
abbrev XIN : Memref sig .tc .vmem S64x512 .bf16 := Memref.whole cc0_stg0_0
abbrev OUT : Memref sig .tc .vmem S64x512 .f32 := Memref.whole cc0_stg7_0
/-- Layer `l`'s two weight blocks. -/
abbrev WI : Fin 3 → Memref sig .tc .vmem S512x1024 .bf16 := ![Memref.whole cc0_stg1_0, Memref.whole cc0_stg3_0, Memref.whole cc0_stg5_0]
abbrev WO : Fin 3 → Memref sig .tc .vmem S1024x512 .bf16 := ![Memref.whole cc0_stg2_0, Memref.whole cc0_stg4_0, Memref.whole cc0_stg6_0]

abbrev xS (p : Fin 2) (k : Fin 16) : Memref sig .tc .vmem S64x512 .bf16 := (XF.slice (xR p k) (fun _ => rfl)).squeeze S64x512 squeezes_S1x64x512_S64x512
abbrev sS (k : Fin 16) : Memref sig .tc .vmem S64x512 .bf16 := (SB.slice (sR k) (fun _ => rfl)).squeeze S64x512 squeezes_S1x64x512_S64x512
abbrev rS (k : Fin 16) : Memref sig .tc .vmem S64x512 .bf16 := (RB.slice (sR k) (fun _ => rfl)).squeeze S64x512 squeezes_S1x64x512_S64x512

theorem xS_words (p : Fin 2) (k : Fin 16) : (xS p k).view.WordExact := ((Memref.isWhole_whole cc0_scratch0).wordExact_slice rfl _ (words_x p k)).reshape _ _
theorem sS_words (k : Fin 16) : (sS k).view.WordExact := ((Memref.isWhole_whole cc0_scratch2).wordExact_slice rfl _ (words_s k)).reshape _ _
theorem rS_words (k : Fin 16) : (rS k).view.WordExact := ((Memref.isWhole_whole cc0_scratch3).wordExact_slice rfl _ (words_s k)).reshape _ _

abbrev semAt (a : DmaSems sig S16) (k : Fin 16) : DmaSem sig := ((a.slice (Rect.unit (s := S16) ![k.val] S1.size (inb_sem k))).squeeze S_ squeezes_S1_S_).sem

/-! ## The devices the printed words name -/

/-- The device each of the printed hundred and five device words names, in program order: fifteen signals, then per
    layer fifteen row sends and fifteen product sends. -/
def devTab : Fin 105 → Dev nD → Dev nD :=
  ![
    fun c => ⟨k0_dev1 c, k0_dev1_lt c⟩, fun c => ⟨k0_dev2 c, k0_dev2_lt c⟩, fun c => ⟨k0_dev3 c, k0_dev3_lt c⟩, fun c => ⟨k0_dev4 c, k0_dev4_lt c⟩, fun c => ⟨k0_dev5 c, k0_dev5_lt c⟩, fun c => ⟨k0_dev6 c, k0_dev6_lt c⟩, fun c => ⟨k0_dev7 c, k0_dev7_lt c⟩, fun c => ⟨k0_dev8 c, k0_dev8_lt c⟩, fun c => ⟨k0_dev9 c, k0_dev9_lt c⟩, fun c => ⟨k0_dev10 c, k0_dev10_lt c⟩, fun c => ⟨k0_dev11 c, k0_dev11_lt c⟩, fun c => ⟨k0_dev12 c, k0_dev12_lt c⟩, fun c => ⟨k0_dev13 c, k0_dev13_lt c⟩, fun c => ⟨k0_dev14 c, k0_dev14_lt c⟩, fun c => ⟨k0_dev15 c, k0_dev15_lt c⟩,
    fun c => ⟨k0_dev16 c, k0_dev16_lt c⟩, fun c => ⟨k0_dev17 c, k0_dev17_lt c⟩, fun c => ⟨k0_dev18 c, k0_dev18_lt c⟩, fun c => ⟨k0_dev19 c, k0_dev19_lt c⟩, fun c => ⟨k0_dev20 c, k0_dev20_lt c⟩, fun c => ⟨k0_dev21 c, k0_dev21_lt c⟩, fun c => ⟨k0_dev22 c, k0_dev22_lt c⟩, fun c => ⟨k0_dev23 c, k0_dev23_lt c⟩, fun c => ⟨k0_dev24 c, k0_dev24_lt c⟩, fun c => ⟨k0_dev25 c, k0_dev25_lt c⟩, fun c => ⟨k0_dev26 c, k0_dev26_lt c⟩, fun c => ⟨k0_dev27 c, k0_dev27_lt c⟩, fun c => ⟨k0_dev28 c, k0_dev28_lt c⟩, fun c => ⟨k0_dev29 c, k0_dev29_lt c⟩, fun c => ⟨k0_dev30 c, k0_dev30_lt c⟩,
    fun c => ⟨k0_dev31 c, k0_dev31_lt c⟩, fun c => ⟨k0_dev32 c, k0_dev32_lt c⟩, fun c => ⟨k0_dev33 c, k0_dev33_lt c⟩, fun c => ⟨k0_dev34 c, k0_dev34_lt c⟩, fun c => ⟨k0_dev35 c, k0_dev35_lt c⟩, fun c => ⟨k0_dev36 c, k0_dev36_lt c⟩, fun c => ⟨k0_dev37 c, k0_dev37_lt c⟩, fun c => ⟨k0_dev38 c, k0_dev38_lt c⟩, fun c => ⟨k0_dev39 c, k0_dev39_lt c⟩, fun c => ⟨k0_dev40 c, k0_dev40_lt c⟩, fun c => ⟨k0_dev41 c, k0_dev41_lt c⟩, fun c => ⟨k0_dev42 c, k0_dev42_lt c⟩, fun c => ⟨k0_dev43 c, k0_dev43_lt c⟩, fun c => ⟨k0_dev44 c, k0_dev44_lt c⟩, fun c => ⟨k0_dev45 c, k0_dev45_lt c⟩,
    fun c => ⟨k0_dev46 c, k0_dev46_lt c⟩, fun c => ⟨k0_dev47 c, k0_dev47_lt c⟩, fun c => ⟨k0_dev48 c, k0_dev48_lt c⟩, fun c => ⟨k0_dev49 c, k0_dev49_lt c⟩, fun c => ⟨k0_dev50 c, k0_dev50_lt c⟩, fun c => ⟨k0_dev51 c, k0_dev51_lt c⟩, fun c => ⟨k0_dev52 c, k0_dev52_lt c⟩, fun c => ⟨k0_dev53 c, k0_dev53_lt c⟩, fun c => ⟨k0_dev54 c, k0_dev54_lt c⟩, fun c => ⟨k0_dev55 c, k0_dev55_lt c⟩, fun c => ⟨k0_dev56 c, k0_dev56_lt c⟩, fun c => ⟨k0_dev57 c, k0_dev57_lt c⟩, fun c => ⟨k0_dev58 c, k0_dev58_lt c⟩, fun c => ⟨k0_dev59 c, k0_dev59_lt c⟩, fun c => ⟨k0_dev60 c, k0_dev60_lt c⟩,
    fun c => ⟨k0_dev61 c, k0_dev61_lt c⟩, fun c => ⟨k0_dev62 c, k0_dev62_lt c⟩, fun c => ⟨k0_dev63 c, k0_dev63_lt c⟩, fun c => ⟨k0_dev64 c, k0_dev64_lt c⟩, fun c => ⟨k0_dev65 c, k0_dev65_lt c⟩, fun c => ⟨k0_dev66 c, k0_dev66_lt c⟩, fun c => ⟨k0_dev67 c, k0_dev67_lt c⟩, fun c => ⟨k0_dev68 c, k0_dev68_lt c⟩, fun c => ⟨k0_dev69 c, k0_dev69_lt c⟩, fun c => ⟨k0_dev70 c, k0_dev70_lt c⟩, fun c => ⟨k0_dev71 c, k0_dev71_lt c⟩, fun c => ⟨k0_dev72 c, k0_dev72_lt c⟩, fun c => ⟨k0_dev73 c, k0_dev73_lt c⟩, fun c => ⟨k0_dev74 c, k0_dev74_lt c⟩, fun c => ⟨k0_dev75 c, k0_dev75_lt c⟩,
    fun c => ⟨k0_dev76 c, k0_dev76_lt c⟩, fun c => ⟨k0_dev77 c, k0_dev77_lt c⟩, fun c => ⟨k0_dev78 c, k0_dev78_lt c⟩, fun c => ⟨k0_dev79 c, k0_dev79_lt c⟩, fun c => ⟨k0_dev80 c, k0_dev80_lt c⟩, fun c => ⟨k0_dev81 c, k0_dev81_lt c⟩, fun c => ⟨k0_dev82 c, k0_dev82_lt c⟩, fun c => ⟨k0_dev83 c, k0_dev83_lt c⟩, fun c => ⟨k0_dev84 c, k0_dev84_lt c⟩, fun c => ⟨k0_dev85 c, k0_dev85_lt c⟩, fun c => ⟨k0_dev86 c, k0_dev86_lt c⟩, fun c => ⟨k0_dev87 c, k0_dev87_lt c⟩, fun c => ⟨k0_dev88 c, k0_dev88_lt c⟩, fun c => ⟨k0_dev89 c, k0_dev89_lt c⟩, fun c => ⟨k0_dev90 c, k0_dev90_lt c⟩,
    fun c => ⟨k0_dev91 c, k0_dev91_lt c⟩, fun c => ⟨k0_dev92 c, k0_dev92_lt c⟩, fun c => ⟨k0_dev93 c, k0_dev93_lt c⟩, fun c => ⟨k0_dev94 c, k0_dev94_lt c⟩, fun c => ⟨k0_dev95 c, k0_dev95_lt c⟩, fun c => ⟨k0_dev96 c, k0_dev96_lt c⟩, fun c => ⟨k0_dev97 c, k0_dev97_lt c⟩, fun c => ⟨k0_dev98 c, k0_dev98_lt c⟩, fun c => ⟨k0_dev99 c, k0_dev99_lt c⟩, fun c => ⟨k0_dev100 c, k0_dev100_lt c⟩, fun c => ⟨k0_dev101 c, k0_dev101_lt c⟩, fun c => ⟨k0_dev102 c, k0_dev102_lt c⟩, fun c => ⟨k0_dev103 c, k0_dev103_lt c⟩, fun c => ⟨k0_dev104 c, k0_dev104_lt c⟩, fun c => ⟨k0_dev105 c, k0_dev105_lt c⟩]

/-- Where in a layer's fifteen product sends the one to offset `k` stands. -/
def rsPos : Fin 16 → Fin 15 := ![0, 12, 13, 14, 8, 9, 10, 11, 4, 5, 6, 7, 0, 1, 2, 3]

def devSig (d : Fin 16) : Dev nD → Dev nD := devTab ⟨d.val - 1, by omega⟩
def devAg (l : Fin 3) (d : Fin 16) : Dev nD → Dev nD := devTab ⟨15 + 30 * l.val + (d.val - 1), by omega⟩
def devRs (l : Fin 3) (k : Fin 16) : Dev nD → Dev nD := devTab ⟨30 + 30 * l.val + (rsPos k).val, by omega⟩

/-! ## The loops -/

/-- Run `f x` for each `x` of a list in order, then `k`. -/
def eachK {α : Type} {β : Type 1} : List α → (α → β → β) → β → β
  | [], _, k => k
  | x :: xs, f, k => f x (eachK xs f k)

/-- The fifteen offsets, ascending. -/
abbrev offs : List (Fin 16) := [1, 2, 3, 4, 5, 6, 7, 8, 9, 10, 11, 12, 13, 14, 15]
/-- The groups in the order they are computed. -/
abbrev grps : List (Fin 4) := [3, 2, 1, 0]
/-- Group `q`'s product sends in order (block 0 is the device's own). -/
def grpOut : Fin 4 → List (Fin 16) := ![[1, 2, 3], [4, 5, 6, 7], [8, 9, 10, 11], [12, 13, 14, 15]]
/-- The slots group `q` waits for, in order. -/
def grpIn : Fin 4 → List (Fin 16) := ![[3, 2, 1], [7, 6, 5, 4], [11, 10, 9, 8], [15, 14, 13, 12]]
/-- The product sends of a layer in program order. -/
abbrev outs : List (Fin 16) := [12, 13, 14, 15, 8, 9, 10, 11, 4, 5, 6, 7, 1, 2, 3]

/-- The plane layer `l` reads its rows from. -/
def pl : Fin 3 → Fin 2 := ![0, 1, 0]

variable (F) in
abbrev Pg : Type 1 := Prog (TpuEff nD τ sig (Elt F) Λ₀ .tc) PUnit

section Steps
variable (c : Dev nD) (l : Fin 3)

def signalK (d : Fin 16) (k : Pg F) : Pg F := Prog.op (.semSignal (devSig d c, .tc) (SemArray.scalar (sig.barrier 0 rfl) : Sems sig S_).sem (1#32 : BitVec 32).toInt) fun _ => k
def readyK (k : Pg F) : Pg F := Prog.op (.semWait (SemArray.scalar (sig.barrier 0 rfl) : Sems sig S_).sem (15#32 : BitVec 32).toInt) fun _ => k

def agSendK (d : Fin 16) (k : Pg F) : Pg F :=
  Prog.op (.enqueueDma (xS (pl l) 0) (.remote (Dev.tc (devAg l d c)) (xS (pl l) (-d)) (.dma (semAt cc0_scratch4 d))) (.dma (semAt cc0_scratch5 d))
    (xS_words _ _) (xS_words _ _) ⟨⟨rfl, Or.inl rfl⟩, trivial⟩) fun _ => k
def agWaitK (s : Fin 16) (k : Pg F) : Pg F :=
  Prog.op (.waitDma2 (semAt cc0_scratch5 (-s)) (xS (pl l) s) (xS (pl l) s) (xS_words _ _) (xS_words _ _)) fun _ => k
def rsSendK (d : Fin 16) (k : Pg F) : Pg F :=
  Prog.op (.enqueueDma (sS d) (.remote (Dev.tc (devRs l d c)) (rS (-d)) (.dma (semAt cc0_scratch6 d))) (.dma (semAt cc0_scratch7 d))
    (sS_words _) (rS_words _) ⟨⟨rfl, Or.inl rfl⟩, trivial⟩) fun _ => k
def rsWaitK (d : Fin 16) (k : Pg F) : Pg F :=
  Prog.op (.waitDma2 (semAt cc0_scratch7 d) (rS (-d)) (rS (-d)) (rS_words _) (rS_words _)) fun _ => k
def agDoneK (d : Fin 16) (k : Pg F) : Pg F :=
  Prog.op (.waitDma2 (semAt cc0_scratch4 d) (xS (pl l) (-d)) (xS (pl l) 0) (xS_words _ _) (xS_words _ _)) fun _ => k
def rsDoneK (d : Fin 16) (k : Pg F) : Pg F :=
  Prog.op (.waitDma2 (semAt cc0_scratch6 d) (rS (-d)) (sS d) (rS_words _) (sS_words _)) fun _ => k

/-- Block `d` of the product, rounded, into its slot and off to the peer at offset `d`. -/
def outK (d : Fin 16) (k : Pg F) : Pg F :=
  Prog.op (.load YP (yR d).toLoadRect (View.loadsAt_vmem h_S64x512)) fun v =>
  Prog.op (.load SB (sR d).toLoadRect (View.loadsAt_vmem h_S1x64x512)) fun _ =>
  Prog.op (.store SB (sR d) (k0_pay5 v) Finset.univ
    (View.stores_vmem h_S1x64x512 ((Memref.isWhole_whole cc0_scratch2).storeExact_slice rfl _ (packed_s d)) (fun _ => rfl)) (.inl rfl)) fun _ =>
  rsSendK c l d k

/-- Group `q`: wait for its rows, multiply them by the weights, send the product's blocks. -/
def groupK (wi : FVec F S512x1024 .bf16) (wo : FVec F S1024x512 .bf16) (q : Fin 4) (k : Pg F) : Pg F :=
  eachK (grpIn q) (agWaitK l) <|
  Prog.op (.load XF (xgR (pl l) q).toLoadRect (View.loadsAt_vmem h_S1x256x512)) fun v =>
  Prog.op (.load YP (ygR q).toLoadRect (View.loadsAt_vmem h_S256x512)) fun _ =>
  Prog.op (.store YP (ygR q) (k0_pay4 wi wo v) Finset.univ (View.stores_vmem_bits_univ h_S256x512 rfl) (.inl rfl)) fun _ =>
  eachK (grpOut q) (outK c l) k

/-- Layer `l`, handing on the sum of the sixteen devices' product blocks. -/
def layerK (k : FVec F S64x512 .f32 → Pg F) : Pg F :=
  eachK offs (agSendK c l) <|
  Prog.op (.load (WI l) (Rect.unit (s := S512x1024) ![0, 0] S512x1024.size inb_S512x1024_S512x1024_0_0).toLoadRect (View.loadsAt_vmem h_S512x1024)) fun wi =>
  Prog.op (.load (WO l) (Rect.unit (s := S1024x512) ![0, 0] S1024x512.size inb_S1024x512_S1024x512_0_0).toLoadRect (View.loadsAt_vmem h_S1024x512)) fun wo =>
  eachK grps (groupK c l (k0_pay2 wi) (k0_pay3 wo)) <|
  eachK offs rsWaitK <|
  Prog.op (.load YP (yR 0).toLoadRect (View.loadsAt_vmem h_S64x512)) fun y =>
  Prog.op (.load RB restR.toLoadRect (View.loadsAt_vmem h_S15x64x512)) fun r =>
  eachK offs (agDoneK l) <|
  eachK outs rsDoneK <|
  k (k0_pay24 y r)

/-- Rows `v` into slot 0 of plane `p`. -/
def putK (p : Fin 2) (v : FVec F S1x64x512 .bf16) (k : Pg F) : Pg F :=
  Prog.op (.load XF (xR p 0).toLoadRect (View.loadsAt_vmem h_S1x64x512)) fun _ =>
  Prog.op (.store XF (xR p 0) v Finset.univ
    (View.stores_vmem h_S1x64x512 ((Memref.isWhole_whole cc0_scratch0).storeExact_slice rfl _ (packed_x p 0)) (fun _ => rfl)) (.inl rfl)) fun _ => k

abbrev fullR : Rect S64x512 := Rect.unit (s := S64x512) ![0, 0] S64x512.size inb_S64x512_S64x512_0_0

end Steps

variable (F) in
/-- The whole body. -/
def body : Pg F :=
  Prog.op .deviceId fun c =>
  eachK offs (signalK c) <| readyK <|
  Prog.op (.load XIN fullR.toLoadRect (View.loadsAt_vmem h_S64x512)) fun x =>
  putK 0 (k0_pay1 x) <|
  layerK c 0 fun a => putK 1 (k0_pay25 a) <|
  layerK c 1 fun a => putK 0 (k0_pay25 a) <|
  layerK c 2 fun a =>
  Prog.op (.load OUT fullR.toLoadRect (View.loadsAt_vmem h_S64x512)) fun _ =>
  Prog.op (.store OUT fullR a Finset.univ (View.stores_vmem_bits_univ h_S64x512 rfl) (.inl rfl)) fun _ =>
  .ret ⟨⟩

set_option maxRecDepth 65536 in
/-- The printed body is the loops above. -/
theorem body_eq (t : Fin cfg0.N) : bodyAt0 (F := F) t = body F := by
  rw [fin_N0 t]
  exact (rfl : bodyAt0 (F := F) t0_0 = body F)

end Cert.KernelIdeal.Mlp
-- ==== Proof.Cells.lean ====
/-
# The peers, the semaphores and what a row block's copy is worth

Every peer of device `c` is `c + d` for an offset `d` of `Fin 16`, its addition wrapping around; the printed device words are
those sums. Sixty-four transfer semaphores a device, in four families of sixteen (row sends, row arrivals, product sends,
product arrivals) of which number 0 is never used, and the runtime's barrier semaphore.
-/
module

public import proofs.«01_k».proof.Proof.Body
public import Idealize.ShloMosaic.Lib.Pipeline.Launch
public import Idealize.ShloMosaic.Lib.Pipeline.Kit
public import Idealize.ShloMosaic.Lib.Tactic

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 16)
abbrev UU : Type := UR sig nD τ × UB

local notation "𝕄" => MT nD τ sig (Fin 3) (Elt F) ℕ UU ℕ

abbrev EP : Emb (UR sig nD τ) (MT nD τ sig (Fin 3) (Elt F) ℕ UU ℕ) := embL
abbrev ER : Emb UB (MT nD τ sig (Fin 3) (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The device words -/

theorem devSig_eq (d : Fin 16) (hd : d ≠ 0) (c : Dev nD) : devSig d c = c + d := by revert d c; decide +kernel
theorem devAg_eq (l : Fin 3) (d : Fin 16) (hd : d ≠ 0) (c : Dev nD) : devAg l d c = c + d := by revert l d c; decide +kernel
theorem devRs_eq (l : Fin 3) (d : Fin 16) (hd : d ≠ 0) (c : Dev nD) : devRs l d c = c + d := by revert l d c; decide +kernel

theorem dev_back (c : Dev nD) (d : Fin 16) : c + d + -d = c := by revert c d; decide
theorem dev_fwd (c : Dev nD) (d : Fin 16) : c + -d + d = c := by revert c d; decide
theorem dev_zero (c : Dev nD) : c + (0 : Fin 16) = c := by revert c; decide
theorem dev_sub (c : Dev nD) (d : Fin 16) : c + d - d = c := by revert c d; decide
theorem dev_sub_neg (c : Dev nD) (d : Fin 16) : c - -d = c + d := by revert c d; decide
theorem dev_sub_eq (c : Dev nD) (d : Fin 16) : c - d = c + -d := by revert c d; decide
theorem off_neg_neg (d : Fin 16) : - -d = d := by revert d; decide
theorem off_neg_ne {d : Fin 16} (h : d ≠ 0) : -d ≠ 0 := by revert d; decide

/-- Every offset but zero. -/
abbrev E : Finset (Fin 16) := Finset.univ.erase 0
theorem mem_E {d : Fin 16} : d ∈ E ↔ d ≠ 0 := by simp [E]
theorem offs_E : offs.toFinset = E := by decide
theorem outs_E : outs.toFinset = E := by decide

/-! ## The cells -/

/-- The four families, in order. -/
abbrev fam : Fin 4 → DmaSems sig S16 := ![cc0_scratch4, cc0_scratch5, cc0_scratch6, cc0_scratch7]
abbrev osem (x : Fin 4 × Fin 16) : SemLoc sig := .dma (semAt (fam x.1) x.2)
abbrev dcell (c : Dev nD) (a : Fin 4) (k : Fin 16) : GSem nD τ sig := ((c : Thread nD τ), osem (a, k))
abbrev barS : Sem sig := (SemArray.scalar (sig.barrier 0 rfl) : Sems sig S_).sem
abbrev bcell (c : Dev nD) : GSem nD τ sig := ((c : Thread nD τ), .reg barS)

/-- Which family and number a transfer semaphore is. -/
def decode : SemLoc sig → Option (Fin 4 × Fin 16)
  | .reg _ => none
  | .dma s => if h : 8 ≤ s.val then some (⟨(s.val - 8) / 16 % 4, Nat.mod_lt _ (by decide)⟩, ⟨(s.val - 8) % 16, Nat.mod_lt _ (by decide)⟩) else none

theorem decode_osem (x : Fin 4 × Fin 16) : decode (osem x) = some x := by revert x; decide

theorem decode_fam (a : Fin 4) (k : Fin 16) : decode (.dma (semAt (fam a) k)) = some (a, k) := decode_osem (a, k)

/-- A slot's credit, in the row buffer and in the product buffers. -/
abbrev N : ℕ := (xS 0 0).view.dmaCredit
theorem N_pos : 0 < N := View.dmaCredit_pos _ (by decide)
theorem N_x (p : Fin 2) (k : Fin 16) : (xS p k).view.dmaCredit = N := by rfl
theorem N_s (k : Fin 16) : (sS k).view.dmaCredit = N := by rfl
theorem N_r (k : Fin 16) : (rS k).view.dmaCredit = N := by rfl

end Cert.KernelIdeal.Mlp
-- ==== Proof.Sched.lean ====
/-
# The schedule: which semaphore is waited on by whom, credited by whom, and what each landing hands over

Sixty-four transfer semaphores a device, in four families of sixteen (row sends, row arrivals, product sends, product
arrivals) of which number 0 is never used, and the runtime's barrier semaphore.

* The barrier: every other device signals it once. The signal from the device at offset `-d` hands over that device's
  slot `d` of row plane 0.
* Row arrival `d`, layer `l`: the copy comes from the device at offset `-d`. It hands over slot `-d` of the row plane,
  holding that device's rows, and that device's slot `d` of the product buffer, to write the answer to.
* Product arrival `k`, layer `l`: the copy comes from the device at offset `-k`. It hands over slot `-k` of the product
  buffer, holding that device's product block, and (but for the last layer) that device's slot `k` of the next row plane.
* The two send families give the source back.
-/
module

public import proofs.«01_k».proof.Proof.Cells

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 3) (Elt F) ℕ UU ℕ

variable (m : (ℓ : Loc nD τ sig) → Buf (Elt F) ℓ) (ρ : Dev nD → PrngReg)

/-! ## What the buffers hold -/

abbrev Rows (F : FTy → Type) : Type := Vec F S1x64x512 .bf16

/-- Index `(0, i, j)` of a row block. -/
def ix (i j : ℕ) (hi : i < 64) (hj : j < 512) : S1x64x512.Idx
  | ⟨0, _⟩ => ⟨0, Nat.one_pos⟩
  | ⟨1, _⟩ => ⟨i, hi⟩
  | ⟨2, _⟩ => ⟨j, hj⟩

/-- Device `c`'s block of the input. -/
def xIn (c : Dev nD) : Vec F S64x512 .bf16 := (win0_0.blk (0 : Fin 1)).view.read (Elt F) (m ((c : Thread nD τ).loc main_arg0))
/-- Device `c`'s blocks of layer `l`'s weights. -/
def wIn (l : Fin 3) (c : Dev nD) : Vec F S512x1024 .bf16 :=
  ![(win0_1.blk (0 : Fin 1)).view.read (Elt F) (m ((c : Thread nD τ).loc main_arg1)),
    (win0_3.blk (0 : Fin 1)).view.read (Elt F) (m ((c : Thread nD τ).loc main_arg3)),
    (win0_5.blk (0 : Fin 1)).view.read (Elt F) (m ((c : Thread nD τ).loc main_arg5))] l
def wOut (l : Fin 3) (c : Dev nD) : Vec F S1024x512 .bf16 :=
  ![(win0_2.blk (0 : Fin 1)).view.read (Elt F) (m ((c : Thread nD τ).loc main_arg2)),
    (win0_4.blk (0 : Fin 1)).view.read (Elt F) (m ((c : Thread nD τ).loc main_arg4)),
    (win0_6.blk (0 : Fin 1)).view.read (Elt F) (m ((c : Thread nD τ).loc main_arg6))] l

section Layer

variable (X : Dev nD → Rows F) (l : Fin 3)

/-- The row buffer of device `c` when all sixteen row blocks are in: slot `k` of either plane holds device `c + k`'s. -/
def xallOf (c : Dev nD) : (cc0_scratch0 : Ref sig .tc).ty.Contents (Elt F) := fun i =>
  X (c + (⟨(i 1).val / 64, by have := (i 1).isLt; change _ < 1024 at this; omega⟩ : Fin 16))
    (ix ((i 1).val % 64) (i 2).val (Nat.mod_lt _ (by decide)) (i 2).isLt)

/-- Row group `q` of it. -/
def xgOf (c : Dev nD) (q : Fin 4) : Vec F S1x256x512 .bf16 := fun i =>
  X (c + (⟨(256 * q.val + (i 1).val) / 64, by have := (i 1).isLt; change _ < 256 at this; omega⟩ : Fin 16))
    (ix ((256 * q.val + (i 1).val) % 64) (i 2).val (Nat.mod_lt _ (by decide)) (i 2).isLt)

/-- Index `(i, j)` of a row group of the product. -/
def iy (i j : ℕ) (hi : i < 256) (hj : j < 512) : S256x512.Idx
  | ⟨0, _⟩ => ⟨i, hi⟩
  | ⟨1, _⟩ => ⟨j, hj⟩

/-- Row group `q` of device `c`'s product. -/
def ygOf (c : Dev nD) (q : Fin 4) : FVec F S256x512 .f32 := k0_pay4 (k0_pay2 (wIn m l c)) (k0_pay3 (wOut m l c)) (xgOf X c q)

/-- Device `c`'s product. -/
def yallOf (c : Dev nD) : (cc0_scratch1 : Ref sig .tc).ty.Contents (Elt F) := fun i =>
  ygOf m X l c ⟨(i 0).val / 256, by have := (i 0).isLt; change _ < 1024 at this; omega⟩
    (iy ((i 0).val % 256) (i 1).val (Nat.mod_lt _ (by decide)) (i 1).isLt)

/-- Block `k` of device `c`'s product, as it goes out. -/
def pOf (c : Dev nD) (k : Fin 16) : Rows F := k0_pay5 (YP.view.readAt (Elt F) (yR k).toLoadRect (yallOf m X l c))

/-- The slot an index of a sixteen-slot buffer lies in. -/
def slotOf (i : S16x64x512.Idx) : Fin 16 := i 0

/-- The outgoing blocks. -/
def sallOf (c : Dev nD) : (cc0_scratch2 : Ref sig .tc).ty.Contents (Elt F) := fun i =>
  pOf m X l c (slotOf i) (ix (i 1).val (i 2).val (i 1).isLt (i 2).isLt)

/-- The blocks that arrived: slot `k` holds device `c + k`'s block for `c`. -/
def rallOf (c : Dev nD) : (cc0_scratch3 : Ref sig .tc).ty.Contents (Elt F) := fun i =>
  pOf m X l (c + slotOf i) (-slotOf i) (ix (i 1).val (i 2).val (i 1).isLt (i 2).isLt)

/-- The layer's result on device `c`. -/
def accOf (c : Dev nD) : FVec F S64x512 .f32 :=
  k0_pay24 (YP.view.readAt (Elt F) (yR 0).toLoadRect (yallOf m X l c)) (RB.view.readAt (Elt F) restR.toLoadRect (rallOf m X l c))

end Layer

/-- Layer number `n`. -/
abbrev lay (n : ℕ) : Fin 3 := Fin.ofNat 3 n
theorem lay_val (l : Fin 3) : lay l.val = l := by revert l; decide

/-- The rows before layer `n`. -/
def X : ℕ → Dev nD → Rows F
  | 0, c => k0_pay1 (xIn m c)
  | n + 1, c => k0_pay25 (accOf m (X n) (lay n) c)

abbrev xall (l : Fin 3) (c : Dev nD) := xallOf (X m l.val) c
abbrev yall (l : Fin 3) (c : Dev nD) := yallOf m (X m l.val) l c
abbrev blkP (l : Fin 3) (c : Dev nD) (k : Fin 16) := pOf m (X m l.val) l c k
abbrev sall (l : Fin 3) (c : Dev nD) := sallOf m (X m l.val) l c
abbrev rall (l : Fin 3) (c : Dev nD) := rallOf m (X m l.val) l c
abbrev acc (l : Fin 3) (c : Dev nD) := accOf m (X m l.val) l c

theorem X_next (l : Fin 3) (c : Dev nD) : X m (l.val + 1) c = k0_pay25 (acc m l c) := by
  show k0_pay25 (accOf m (X m l.val) (lay l.val) c) = _
  rw [lay_val]

/-! ## The pieces -/

abbrev xLoc (c : Dev nD) : Loc nD τ sig := (c : Thread nD τ).loc cc0_scratch0
abbrev yLoc (c : Dev nD) : Loc nD τ sig := (c : Thread nD τ).loc cc0_scratch1
abbrev sLoc (c : Dev nD) : Loc nD τ sig := (c : Thread nD τ).loc cc0_scratch2
abbrev rLoc (c : Dev nD) : Loc nD τ sig := (c : Thread nD τ).loc cc0_scratch3

/-- Slot `k` of plane `p` of `c`'s row buffer, at share `sh`. -/
def xs (c : Dev nD) (p : Fin 2) (k : Fin 16) (sh : PosShare TreeShare) (f : (cc0_scratch0 : Ref sig .tc).ty.Contents (Elt F)) : sProp 𝕄 :=
  (xLoc c) ↦[(xR p k).set]{sh} f
def ss (c : Dev nD) (k : Fin 16) (f : (cc0_scratch2 : Ref sig .tc).ty.Contents (Elt F)) : sProp 𝕄 :=
  (sLoc c) ↦[(sR k).set]{fullShare} f
def rs (c : Dev nD) (k : Fin 16) (f : (cc0_scratch3 : Ref sig .tc).ty.Contents (Elt F)) : sProp 𝕄 :=
  (rLoc c) ↦[(sR k).set]{fullShare} f
def ys (c : Dev nD) (q : Fin 4) (f : (cc0_scratch1 : Ref sig .tc).ty.Contents (Elt F)) : sProp 𝕄 :=
  (yLoc c) ↦[(ygR q).set]{fullShare} f
/-- The same at some contents. -/
def xsE (c : Dev nD) (p : Fin 2) (k : Fin 16) : sProp 𝕄 := iprop(∃ f, xs c p k fullShare f)
def ssE (c : Dev nD) (k : Fin 16) : sProp 𝕄 := iprop(∃ f, ss c k f)
def rsE (c : Dev nD) (k : Fin 16) : sProp 𝕄 := iprop(∃ f, rs c k f)
def ysE (c : Dev nD) (q : Fin 4) : sProp 𝕄 := iprop(∃ f, ys c q f)

omit [FloatOps F] in
instance xs_storable (c p k sh f) : BI.Storable (upEmb : UEmb _ 𝕄) (xs (F := F) c p k sh f) := by unfold xs; infer_instance
omit [FloatOps F] in
instance ss_storable (c k f) : BI.Storable (upEmb : UEmb _ 𝕄) (ss (F := F) c k f) := by unfold ss; infer_instance
omit [FloatOps F] in
instance rs_storable (c k f) : BI.Storable (upEmb : UEmb _ 𝕄) (rs (F := F) c k f) := by unfold rs; infer_instance
omit [FloatOps F] in
instance xsE_storable (c p k) : BI.Storable (upEmb : UEmb _ 𝕄) (xsE (F := F) c p k) := by unfold xsE; infer_instance
omit [FloatOps F] in
instance rsE_storable (c k) : BI.Storable (upEmb : UEmb _ 𝕄) (rsE (F := F) c k) := by unfold rsE; infer_instance

/-! ## The schedule -/

/-- The other plane. -/
def opl (l : Fin 3) : Fin 2 := ![1, 0, 1] l

/-- The share of its own rows that a device lends to the copy to offset `d`. -/
abbrev lendSh (d : Fin 16) : PosShare TreeShare := Transfers.dealOf fullShare.left E d

/-- The next layer's landing place, and the news that its semaphore is ready — nothing after the last layer. `i` is the
    device that will be written, `k` the slot. -/
def nextPay (i : Dev nD) (l : Fin 3) (k : Fin 16) : sProp 𝕄 :=
  if l.val < 2 then iprop(xsE i (opl l) k ∗ reached ER (dcell i 1 (-k)) (l.val + 1)) else iprop(emp)

def pay (c : Dev nD) (l : Fin 3) (d : Fin 16) : Option (Fin 4 × Fin 16) → sProp 𝕄
  | none => xsE (c - d) 0 d
  | some (a, k) =>
    if a = 0 then xs c (pl l) 0 (lendSh k) (xall m l c)
    else if a = 1 then iprop(xs c (pl l) (-k) fullShare (xall m l c) ∗ rsE (c - k) k ∗ reached ER (dcell (c - k) 3 (-k)) l.val)
    else if a = 2 then ss c k (sall m l c)
    else iprop(rs c (-k) (rall m l c) ∗ nextPay (c - k) l k)

def dut (r : ℕ) : Option (Fin 4 × Fin 16) → Finset (Fin 16)
  | none => if r = 0 then E else ∅
  | some (_, k) => if k ≠ 0 ∧ r < 3 then {0} else ∅

def amt : Option (Fin 4 × Fin 16) → ℕ
  | none => 1
  | some _ => N

def Rd : Rounds.Schedule (GSem nD τ sig) (Fin 16) 𝕄 where
  duties g r := if g.1.2 = .tc ∧ (g.2 = .reg barS ∨ (decode g.2).isSome) then dut r (decode g.2) else ∅
  unitless _ := False
  amount g _ _ := amt (decode g.2)
  payload g r d := pay m g.1.1 (lay r) d (decode g.2)
  amount_pos g _ _ _ := by
    cases decode g.2 with
    | none => exact Nat.one_pos
    | some x => exact N_pos

instance nextPay_storable (i : Dev nD) (l k) : BI.Storable (upEmb : UEmb _ 𝕄) (nextPay (F := F) i l k) := by
  unfold nextPay; split <;> infer_instance

instance Rd_storable (g : GSem nD τ sig) (r : ℕ) (d : Fin 16) : BI.Storable (upEmb : UEmb _ 𝕄) ((Rd (F := F) m).payload g r d) := by
  show BI.Storable upEmb (pay m g.1.1 (lay r) d (decode g.2))
  cases decode g.2 with
  | none => unfold pay; infer_instance
  | some x => obtain ⟨a, k⟩ := x; unfold pay; dsimp only; (repeat' split) <;> infer_instance

section Tables
variable (c : Dev nD) (a : Fin 4) (k : Fin 16) (l : Fin 3)

theorem duties_bar : (Rd (F := F) m).duties (bcell c) 0 = E := by
  dsimp only [Rd]; rw [if_pos ⟨rfl, .inl rfl⟩]; rfl
theorem duties_bar_later : ∀ r, 1 ≤ r → (Rd (F := F) m).duties (bcell c) r = ∅ := fun r hr => by
  dsimp only [Rd]; rw [if_pos ⟨rfl, .inl rfl⟩]; exact if_neg (by omega)
theorem duties_raw (r : ℕ) : (Rd (F := F) m).duties (dcell c a k) r = if k ≠ 0 ∧ r < 3 then {0} else ∅ := by
  dsimp only [Rd]; rw [decode_osem, if_pos ⟨rfl, .inr rfl⟩]; rfl
theorem duties_at (hk : k ≠ 0) : (Rd (F := F) m).duties (dcell c a k) l.val = {0} := by
  rw [duties_raw, if_pos ⟨hk, l.isLt⟩]
theorem duties_later (R : ℕ) (hR : k = 0 ∨ 3 ≤ R) : ∀ r, R ≤ r → (Rd (F := F) m).duties (dcell c a k) r = ∅ := fun r hr => by
  rw [duties_raw, if_neg]; rintro ⟨h, h'⟩; rcases hR with hR | hR
  · exact h hR
  · omega
theorem amount_bar (r : ℕ) (d : Fin 16) : (Rd (F := F) m).amount (bcell c) r d = 1 := rfl
theorem amount_dma (r : ℕ) (d : Fin 16) : (Rd (F := F) m).amount (dcell c a k) r d = N := by
  dsimp only [Rd]; rw [decode_osem]; rfl
theorem expect_bar : (Rd (F := F) m).expect (bcell c) 0 = 15 := by
  unfold Schedule.expect Schedule.amountOf; rw [duties_bar]; rfl
theorem expect_dma (hk : k ≠ 0) : (Rd (F := F) m).expect (dcell c a k) l.val = N := by
  unfold Schedule.expect Schedule.amountOf; rw [duties_at m c a k l hk, Finset.sum_singleton, amount_dma]
theorem payload_bar (d : Fin 16) : (Rd (F := F) m).payload (bcell c) 0 d = xsE (c - d) 0 d := rfl
theorem payload_raw (d : Fin 16) : (Rd (F := F) m).payload (dcell c a k) l.val d = pay m c l d (some (a, k)) := by
  dsimp only [Rd]; rw [decode_osem, lay_val]
theorem payload_0 : (Rd (F := F) m).payload (dcell c 0 k) l.val 0 = xs c (pl l) 0 (lendSh k) (xall m l c) := by
  rw [payload_raw]; rfl
theorem payload_1 : (Rd (F := F) m).payload (dcell c 1 k) l.val 0
    = iprop(xs c (pl l) (-k) fullShare (xall m l c) ∗ rsE (c - k) k ∗ reached ER (dcell (c - k) 3 (-k)) l.val) := by
  rw [payload_raw]; rfl
theorem payload_2 : (Rd (F := F) m).payload (dcell c 2 k) l.val 0 = ss c k (sall m l c) := by
  rw [payload_raw]; rfl
theorem payload_3 : (Rd (F := F) m).payload (dcell c 3 k) l.val 0 = iprop(rs c (-k) (rall m l c) ∗ nextPay (c - k) l k) := by
  rw [payload_raw]; rfl

theorem rest_bar : bigSep ((Rd (F := F) m).duties (bcell c) 0 \ ∅) (fun d => (Rd (F := F) m).payload (bcell c) 0 d) = bigSep E fun d => xsE (c - d) 0 d := by
  rw [Finset.sdiff_empty, duties_bar]; rfl
theorem rest_dma (hk : k ≠ 0) : bigSep ((Rd (F := F) m).duties (dcell c a k) l.val \ ∅) (fun d => (Rd (F := F) m).payload (dcell c a k) l.val d)
    = (Rd (F := F) m).payload (dcell c a k) l.val 0 := by
  rw [Finset.sdiff_empty, duties_at m c a k l hk, bigSep_singleton]

end Tables

/-! ## What is owed, and the order of waits -/

def L (g : GSem nD τ sig) : Finset (Fin 3) := if g.1.2 = .tc then Finset.univ else ∅
/-- The barrier, then layer by layer the row arrivals and the product arrivals; a wait for one's own sends or for the
    staging comes below them all. -/
def lv (g : GSem nD τ sig) (ι : Fin 3) : ℕ :=
  if g.2 = .reg barS then 1 else
  match decode g.2 with
  | none => 0
  | some (a, k) => if k = 0 then 0 else if a = 1 then 2 + 2 * ι.val else if a = 3 then 3 + 2 * ι.val else 0
theorem L_of_ne (g : GSem nD τ sig) (h : g.1.2 ≠ .tc) : L g = ∅ := if_neg h

theorem lv_bar (c : Dev nD) (ι : Fin 3) : lv (bcell c) ι = 1 := if_pos rfl
theorem lv_dma (c : Dev nD) (a : Fin 4) (k : Fin 16) (hk : k ≠ 0) (ι : Fin 3) :
    lv (dcell c a k) ι = if a = 1 then 2 + 2 * ι.val else if a = 3 then 3 + 2 * ι.val else 0 := by
  unfold lv; rw [if_neg (fun h => by cases h), decode_osem]; dsimp only; rw [if_neg hk]

/-- Everything owed is owed at a level above `n`. -/
def Above (n : ℕ) (O : CellTallies nD τ sig (Fin 3)) : Prop := ∀ g ι, 0 < O g ι → g.1.2 = .tc ∧ n < lv g ι

theorem Above.zero (n : ℕ) : Above n 0 := fun g ι h => absurd h (Nat.lt_irrefl 0)
theorem Above.add {n : ℕ} {O O' : CellTallies nD τ sig (Fin 3)} (h : Above n O) (h' : Above n O') : Above n (O + O') := fun g ι hp => by
  rw [Pi.add_apply, Finsupp.add_apply] at hp
  rcases Nat.eq_zero_or_pos (O g ι) with h0 | h0
  · exact h' g ι (by omega)
  · exact h g ι h0
theorem Above.tally {n : ℕ} {g : GSem nD τ sig} {ι : Fin 3} {k : ℕ} (hg : g.1.2 = .tc) (h : n < lv g ι) : Above n (tallyAt g ι k) := fun g' ι' hp => by
  rw [tallyAt_apply] at hp
  by_cases he : g' = g ∧ ι' = ι
  · rw [he.1, he.2]; exact ⟨hg, h⟩
  · rw [if_neg he] at hp; exact absurd hp (Nat.lt_irrefl 0)
theorem Above.mono {n n' : ℕ} (hn : n' ≤ n) {O : CellTallies nD τ sig (Fin 3)} (h : Above n O) : Above n' O := fun g ι hp =>
  ⟨(h g ι hp).1, lt_of_le_of_lt hn (h g ι hp).2⟩

/-- The tallies of a list of sends. -/
def owedL {α : Type} (t : α → CellTallies nD τ sig (Fin 3)) (xs : List α) : CellTallies nD τ sig (Fin 3) := (xs.map t).sum
theorem owedL_nil {α : Type} (t : α → CellTallies nD τ sig (Fin 3)) : owedL t [] = 0 := rfl
theorem owedL_cons {α : Type} (t : α → CellTallies nD τ sig (Fin 3)) (x : α) (xs : List α) : owedL t (x :: xs) = t x + owedL t xs := List.sum_cons
theorem owedL_append {α : Type} (t : α → CellTallies nD τ sig (Fin 3)) (xs ys : List α) : owedL t (xs ++ ys) = owedL t xs + owedL t ys := by
  unfold owedL; rw [List.map_append, List.sum_append]
theorem Above.list {α : Type} {n : ℕ} {t : α → CellTallies nD τ sig (Fin 3)} : ∀ {xs : List α}, (∀ x ∈ xs, Above n (t x)) → Above n (owedL t xs)
  | [], _ => Above.zero n
  | x :: xs, h => by
    rw [owedL_cons]
    exact (h x List.mem_cons_self).add (Above.list fun y hy => h y (List.mem_cons_of_mem _ hy))

omit [FloatOps F] in
theorem mayWait (c : Dev nD) (sm : SemLoc sig) (ι : Fin 3) (n : ℕ) (O : CellTallies nD τ sig (Fin 3)) (hl : lv ((c : Thread nD τ), sm) ι ≤ n) (hO : Above n O) :
    (levAts L lv : sProp 𝕄) ⊢ MayWait (c : Thread nD τ) sm ι O :=
  MayOwe.of_cut (L := L) (lev := lv) n
    (fun p hp => by rw [Finset.mem_singleton.mp hp]; exact Finset.mem_univ _)
    (fun g u hg => by unfold L; rw [if_pos (hO g u hg).1]; exact Finset.mem_univ _)
    (fun p hp => by rw [Finset.mem_singleton.mp hp]; exact hl)
    (fun g u hg => (hO g u hg).2)

/-- The three kinds of credit device `c` owes. -/
abbrev tBar (c : Dev nD) (d : Fin 16) : CellTallies nD τ sig (Fin 3) := tallyAt (bcell (c + d)) 0 1
abbrev tAg (c : Dev nD) (l : Fin 3) (d : Fin 16) : CellTallies nD τ sig (Fin 3) := tallyAt (dcell (c + d) 1 d) l N
abbrev tRs (c : Dev nD) (l : Fin 3) (d : Fin 16) : CellTallies nD τ sig (Fin 3) := tallyAt (dcell (c + d) 3 d) l N

/-- What the sends of layer `l` owe. -/
def oLay (c : Dev nD) (l : Fin 3) : CellTallies nD τ sig (Fin 3) := owedL (tAg c l) offs + owedL (tRs c l) outs
def O₀ (c : Dev nD) : CellTallies nD τ sig (Fin 3) := owedL (tBar c) offs + (oLay c 0 + (oLay c 1 + oLay c 2))

theorem above_bar (c : Dev nD) (xs : List (Fin 16)) : Above 0 (owedL (tBar c) xs) :=
  Above.list fun d _ => Above.tally rfl (by rw [lv_bar]; exact Nat.one_pos)
theorem above_ag (c : Dev nD) (l : Fin 3) (xs : List (Fin 16)) (h : ∀ d ∈ xs, d ≠ 0) : Above (1 + 2 * l.val) (owedL (tAg c l) xs) :=
  Above.list fun d hd => Above.tally rfl (by rw [lv_dma _ _ _ (h d hd), if_pos rfl]; omega)
theorem above_rs (c : Dev nD) (l : Fin 3) (xs : List (Fin 16)) (h : ∀ d ∈ xs, d ≠ 0) : Above (2 + 2 * l.val) (owedL (tRs c l) xs) :=
  Above.list fun d hd => Above.tally rfl (by rw [lv_dma _ _ _ (h d hd), if_neg (by decide), if_pos rfl]; omega)
theorem above_lay (c : Dev nD) (l : Fin 3) : Above (1 + 2 * l.val) (oLay c l) :=
  (above_ag c l _ (by decide)).add ((above_rs c l _ (by decide)).mono (by omega))
theorem above_O₀ (c : Dev nD) : Above 0 (O₀ c) :=
  (above_bar c _).add (((above_lay c 0).mono (by omega)).add (((above_lay c 1).mono (by omega)).add ((above_lay c 2).mono (by omega))))

end Cert.KernelIdeal.Mlp
-- ==== Proof.Pieces.lean ====
/-
# The buffers cut into their pieces

Which elements each rectangle has, how the pieces of a buffer fit together, and what the named contents read as through the
rectangles and slots the body uses.
-/
module

public import proofs.«01_k».proof.Proof.Sched
public import Idealize.ShloMosaic.Lib.Pipeline.Value

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-! ## Element sets -/

abbrev x0 (i : S2x1024x512.Idx) : ℕ := (i 0).val
abbrev x1 (i : S2x1024x512.Idx) : ℕ := (i 1).val
abbrev x2 (i : S2x1024x512.Idx) : ℕ := (i 2).val

theorem mem_xR {p : Fin 2} {k : Fin 16} {i : S2x1024x512.Idx} :
    i ∈ (xR p k).set ↔ x0 i = p.val ∧ 64 * k.val ≤ x1 i ∧ x1 i < 64 * k.val + 64 := by
  rw [Rect.mem_set_unit]
  constructor
  · intro h
    have h0 : p.val ≤ x0 i ∧ x0 i < p.val + 1 := h 0
    exact ⟨by omega, h 1⟩
  · rintro ⟨h0, h1⟩ a
    match a with
    | ⟨0, _⟩ => exact (show p.val ≤ x0 i ∧ x0 i < p.val + 1 from by omega)
    | ⟨1, _⟩ => exact h1
    | ⟨2, _⟩ => exact ⟨Nat.zero_le _, (show x2 i < 0 + 512 from by have : x2 i < 512 := (i 2).isLt; omega)⟩

theorem mem_xgR {p : Fin 2} {q : Fin 4} {i : S2x1024x512.Idx} :
    i ∈ (xgR p q).set ↔ x0 i = p.val ∧ 256 * q.val ≤ x1 i ∧ x1 i < 256 * q.val + 256 := by
  rw [Rect.mem_set_unit]
  constructor
  · intro h
    have h0 : p.val ≤ x0 i ∧ x0 i < p.val + 1 := h 0
    exact ⟨by omega, h 1⟩
  · rintro ⟨h0, h1⟩ a
    match a with
    | ⟨0, _⟩ => exact (show p.val ≤ x0 i ∧ x0 i < p.val + 1 from by omega)
    | ⟨1, _⟩ => exact h1
    | ⟨2, _⟩ => exact ⟨Nat.zero_le _, (show x2 i < 0 + 512 from by have : x2 i < 512 := (i 2).isLt; omega)⟩

theorem mem_sR {k : Fin 16} {i : S16x64x512.Idx} : i ∈ (sR k).set ↔ slotOf i = k := by
  rw [Rect.mem_set_unit]
  constructor
  · intro h
    have h0 : k.val ≤ (slotOf i).val ∧ (slotOf i).val < k.val + 1 := h 0
    exact Fin.ext (by omega)
  · rintro rfl a
    match a with
    | ⟨0, _⟩ => exact (show (slotOf i).val ≤ (slotOf i).val ∧ (slotOf i).val < (slotOf i).val + 1 from by omega)
    | ⟨1, _⟩ => exact ⟨Nat.zero_le _, (show (i 1).val < 0 + 64 from by have : (i 1).val < 64 := (i 1).isLt; omega)⟩
    | ⟨2, _⟩ => exact ⟨Nat.zero_le _, (show (i 2).val < 0 + 512 from by have : (i 2).val < 512 := (i 2).isLt; omega)⟩

theorem mem_restR {i : S16x64x512.Idx} : i ∈ restR.set → slotOf i ≠ 0 := by
  rw [Rect.mem_set_unit]
  intro h
  have h0 : 1 ≤ (slotOf i).val := (h 0).1
  intro h'; rw [h'] at h0; exact absurd h0 (by decide)

abbrev y0 (i : S1024x512.Idx) : ℕ := (i 0).val

theorem mem_yR {k : Fin 16} {i : S1024x512.Idx} : i ∈ (yR k).set ↔ 64 * k.val ≤ y0 i ∧ y0 i < 64 * k.val + 64 := by
  rw [Rect.mem_set_unit]
  constructor
  · intro h; exact h 0
  · intro h a
    match a with
    | ⟨0, _⟩ => exact h
    | ⟨1, _⟩ => exact ⟨Nat.zero_le _, (show (i 1).val < 0 + 512 from by have : (i 1).val < 512 := (i 1).isLt; omega)⟩

theorem mem_ygR {q : Fin 4} {i : S1024x512.Idx} : i ∈ (ygR q).set ↔ 256 * q.val ≤ y0 i ∧ y0 i < 256 * q.val + 256 := by
  rw [Rect.mem_set_unit]
  constructor
  · intro h; exact h 0
  · intro h a
    match a with
    | ⟨0, _⟩ => exact h
    | ⟨1, _⟩ => exact ⟨Nat.zero_le _, (show (i 1).val < 0 + 512 from by have : (i 1).val < 512 := (i 1).isLt; omega)⟩

/-- The slots of group `q`. -/
def grp (q : Fin 4) : Finset (Fin 16) := Finset.univ.filter fun k => k.val / 4 = q.val
theorem mem_grp {q : Fin 4} {k : Fin 16} : k ∈ grp q ↔ k.val / 4 = q.val := by simp [grp]

theorem xR_disj {p p' : Fin 2} {k k' : Fin 16} (h : (p, k) ≠ (p', k')) : Disjoint (xR p k).set (xR p' k').set := by
  rw [Finset.disjoint_left]
  intro i h1 h2
  rw [mem_xR] at h1 h2
  exact h (Prod.ext (Fin.ext (by dsimp only; omega)) (Fin.ext (by dsimp only; omega)))
theorem sR_disj {k k' : Fin 16} (h : k ≠ k') : Disjoint (sR k).set (sR k').set := by
  rw [Finset.disjoint_left]
  intro i h1 h2
  rw [mem_sR] at h1 h2
  exact h (h1.symm.trans h2)
theorem ygR_disj {q q' : Fin 4} (h : q ≠ q') : Disjoint (ygR q).set (ygR q').set := by
  rw [Finset.disjoint_left]
  intro i h1 h2
  rw [mem_ygR] at h1 h2
  exact h (Fin.ext (by omega))
theorem xgR_sub (p : Fin 2) (q : Fin 4) : (xgR p q).set ⊆ (grp q).biUnion fun k => (xR p k).set := fun i hi => by
  rw [mem_xgR] at hi
  have : x1 i < 1024 := (i 1).isLt
  exact Finset.mem_biUnion.mpr ⟨⟨x1 i / 64, by omega⟩, mem_grp.mpr (show x1 i / 64 / 4 = q.val by omega), mem_xR.mpr ⟨hi.1, by dsimp only; omega⟩⟩
theorem yR_sub {k : Fin 16} {q : Fin 4} (h : k ∈ grp q) : (yR k).set ⊆ (ygR q).set := fun i hi => by
  rw [mem_yR] at hi; rw [mem_grp] at h; rw [mem_ygR]; omega
theorem restR_sub : restR.set ⊆ E.biUnion fun k => (sR k).set := fun i hi =>
  Finset.mem_biUnion.mpr ⟨slotOf i, mem_E.mpr (mem_restR hi), mem_sR.mpr rfl⟩
theorem xR_cover : (Finset.univ : Finset (Fin 2 × Fin 16)).biUnion (fun b => (xR b.1 b.2).set) = Finset.univ := by
  refine Finset.eq_univ_of_forall fun i => Finset.mem_biUnion.mpr ?_
  have h1 : x1 i < 1024 := (i 1).isLt
  exact ⟨(⟨x0 i, (i 0).isLt⟩, ⟨x1 i / 64, by omega⟩), Finset.mem_univ _, mem_xR.mpr ⟨rfl, by dsimp only; omega⟩⟩
theorem sR_cover : (Finset.univ : Finset (Fin 16)).biUnion (fun k => (sR k).set) = Finset.univ :=
  Finset.eq_univ_of_forall fun i => Finset.mem_biUnion.mpr ⟨slotOf i, Finset.mem_univ _, mem_sR.mpr rfl⟩
theorem ygR_cover : (Finset.univ : Finset (Fin 4)).biUnion (fun q => (ygR q).set) = Finset.univ := by
  refine Finset.eq_univ_of_forall fun i => Finset.mem_biUnion.mpr ?_
  have h1 : y0 i < 1024 := (i 0).isLt
  exact ⟨⟨y0 i / 256, by omega⟩, Finset.mem_univ _, mem_ygR.mpr (by dsimp only; omega)⟩

theorem xS_set (p : Fin 2) (k : Fin 16) : (xS p k).view.set = (xR p k).set :=
  (View.set_reshape _ _).trans (View.set_slice_whole _ _)
theorem sS_set (k : Fin 16) : (sS k).view.set = (sR k).set := (View.set_reshape _ _).trans (View.set_slice_whole _ _)
theorem rS_set (k : Fin 16) : (rS k).view.set = (sR k).set := (View.set_reshape _ _).trans (View.set_slice_whole _ _)

/-! ## What the contents read as -/

section Reads
variable (X : Dev nD → Rows F) (l : Fin 3) (c : Dev nD)

theorem read_x (p : Fin 2) (k : Fin 16) : XF.view.readAt (Elt F) (xR p k).toLoadRect (xallOf X c) = X (c + k) := by
  funext (j : S1x64x512.Idx)
  rw [View.readAt_apply]
  have h1 : (j 1).val < 64 := (j 1).isLt
  show X (c + ⟨(64 * k.val + 1 * (j 1).val) / 64, _⟩) (ix ((64 * k.val + 1 * (j 1).val) % 64) (0 + 1 * (j 2).val) _ _) = _
  have hk : (⟨(64 * k.val + 1 * (j 1).val) / 64, by omega⟩ : Fin 16) = k := Fin.ext (by dsimp only; omega)
  rw [hk]
  refine congrArg (X (c + k)) (funext fun a => ?_)
  match a with
  | ⟨0, _⟩ => exact Fin.ext (show 0 = (j 0).val by have : (j 0).val < 1 := (j 0).isLt; omega)
  | ⟨1, _⟩ => exact Fin.ext (show (64 * k.val + 1 * (j 1).val) % 64 = (j 1).val by omega)
  | ⟨2, _⟩ => exact Fin.ext (show 0 + 1 * (j 2).val = (j 2).val by omega)

theorem ix_congr {i i' j j' : ℕ} (hi : i = i') (hj : j = j') (h1 h2 h3 h4) : ix i j h1 h2 = ix i' j' h3 h4 := by subst hi hj; rfl

theorem read_xg (p : Fin 2) (q : Fin 4) : XF.view.readAt (Elt F) (xgR p q).toLoadRect (xallOf X c) = xgOf X c q := by
  funext (j : S1x256x512.Idx)
  rw [View.readAt_apply]
  have h1 : (j 1).val < 256 := (j 1).isLt
  show X (c + ⟨(256 * q.val + 1 * (j 1).val) / 64, _⟩) (ix ((256 * q.val + 1 * (j 1).val) % 64) (0 + 1 * (j 2).val) _ _)
    = X (c + ⟨(256 * q.val + (j 1).val) / 64, _⟩) (ix ((256 * q.val + (j 1).val) % 64) (j 2).val _ _)
  simp only [Nat.one_mul]
  exact congrArg _ (ix_congr (by omega) (by omega) _ _ _ _)

theorem read_yg (q : Fin 4) : YP.view.readAt (Elt F) (ygR q).toLoadRect (yallOf m X l c) = ygOf m X l c q := by
  funext (j : S256x512.Idx)
  rw [View.readAt_apply]
  have h0 : (j 0).val < 256 := (j 0).isLt
  show ygOf m X l c ⟨(256 * q.val + 1 * (j 0).val) / 256, _⟩ (iy ((256 * q.val + 1 * (j 0).val) % 256) (0 + 1 * (j 1).val) _ _) = _
  have hq : (⟨(256 * q.val + 1 * (j 0).val) / 256, by omega⟩ : Fin 4) = q := Fin.ext (by dsimp only; omega)
  rw [hq]
  refine congrArg (ygOf m X l c q) (funext fun a => ?_)
  match a with
  | ⟨0, _⟩ => exact Fin.ext (show (256 * q.val + 1 * (j 0).val) % 256 = (j 0).val by omega)
  | ⟨1, _⟩ => exact Fin.ext (show 0 + 1 * (j 1).val = (j 1).val by omega)

theorem ix_slot (k : Fin 16) (j : S1x64x512.Idx) (h1 h2) : ix ((((sR k).idx j : S16x64x512.Idx) 1).val) ((((sR k).idx j : S16x64x512.Idx) 2).val) h1 h2 = j := by
  funext a
  match a with
  | ⟨0, _⟩ => exact Fin.ext (show 0 = (j 0).val by have : (j 0).val < 1 := (j 0).isLt; omega)
  | ⟨1, _⟩ => exact Fin.ext (show 0 + 1 * (j 1).val = (j 1).val by omega)
  | ⟨2, _⟩ => exact Fin.ext (show 0 + 1 * (j 2).val = (j 2).val by omega)
theorem slotOf_idx (k : Fin 16) (j : S1x64x512.Idx) : slotOf ((sR k).idx j) = k :=
  mem_sR.mp ((sR k).toLoadRect.idx_mem j)

theorem read_s (k : Fin 16) : SB.view.readAt (Elt F) (sR k).toLoadRect (sallOf m X l c) = pOf m X l c k := by
  funext (j : S1x64x512.Idx)
  rw [View.readAt_apply]
  exact congr (congrArg (pOf m X l c) (slotOf_idx k j)) (ix_slot k j _ _)

theorem read_r (k : Fin 16) : RB.view.readAt (Elt F) (sR k).toLoadRect (rallOf m X l c) = pOf m X l (c + k) (-k) := by
  funext (j : S1x64x512.Idx)
  rw [View.readAt_apply]
  exact congr (congrArg (fun s : Fin 16 => pOf m X l (c + s) (-s)) (slotOf_idx k j)) (ix_slot k j _ _)

/-- A row copy lands as the receiver's named contents. -/
theorem land_x (p : Fin 2) (d : Fin 16) : (xS p (-d)).view.read (Elt F) (xallOf X (c + d)) = (xS p 0).view.read (Elt F) (xallOf X c) := by
  have h (k : Fin 16) (c' : Dev nD) : (xS p k).view.read (Elt F) (xallOf X c') = shapeCast S64x512 (X (c' + k)) shapeCasts_S1x64x512_S64x512 := by
    rw [← read_x X c' p k]; exact Memref.read_squeeze_slice XF (xR p k) _ squeezes_S1x64x512_S64x512 _ _
  rw [h, h, dev_back, dev_zero]

/-- A product copy likewise. -/
theorem land_r (k : Fin 16) : (rS (-k)).view.read (Elt F) (rallOf m X l (c + k)) = (sS k).view.read (Elt F) (sallOf m X l c) := by
  have h : (rS (-k)).view.read (Elt F) (rallOf m X l (c + k)) = shapeCast S64x512 (pOf m X l (c + k + -k) (- -k)) shapeCasts_S1x64x512_S64x512 := by
    rw [← read_r m X l (c + k) (-k)]; exact Memref.read_squeeze_slice RB (sR (-k)) _ squeezes_S1x64x512_S64x512 _ _
  have h' : (sS k).view.read (Elt F) (sallOf m X l c) = shapeCast S64x512 (pOf m X l c k) shapeCasts_S1x64x512_S64x512 := by
    rw [← read_s m X l c k]; exact Memref.read_squeeze_slice SB (sR k) _ squeezes_S1x64x512_S64x512 _ _
  rw [h, h', dev_back, off_neg_neg]

end Reads

/-- What was written through a view agrees, under it, with any contents that read the payload. -/
theorem write_agree {κ : Kind} {sp : Space} {s : Shape} {e : EltTy} (v : View sig κ sp s e) (f g : v.ty.Contents (Elt F)) (w : s.Idx → Elt F e)
    (h : v.read (Elt F) g = w) : ∀ i ∈ v.set, v.write (Elt F) f w Finset.univ i = g i := by
  intro i hi
  obtain ⟨x, -, rfl⟩ := Finset.mem_map.mp hi
  rw [View.write_emb_of_mem _ _ (Finset.mem_univ x), ← h, View.read_apply, cast_cast, cast_eq]

end Cert.KernelIdeal.Mlp
-- ==== Proof.Steps.lean ====
/-
# One step of each kind

For each operation of the body: what the device gives up, what it has afterwards. Then the rule for a loop.
-/
module

public import proofs.«01_k».proof.Proof.Pieces

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 3) (Elt F) ℕ UU ℕ

variable (m : (ℓ : Loc nD τ sig) → Buf (Elt F) ℓ)

abbrev 𝒱₀ : Variants := Variants.none

/-- The weakest precondition of a program run on device `c`. -/
abbrev wpc (c : Dev nD) (p : Pg F) (Q : PUnit.{1} → sProp 𝕄) : sProp 𝕄 :=
  wp frame (wpE (defs₀ (F := F)) 𝒱₀ (c : Thread nD τ) none) Set.univ p Q

/-! ## The records every device shares -/

/-- Every device's cells: the barrier, and the sixty-four transfer semaphores. -/
abbrev kcell (x : Dev nD × Option (Fin 4 × Fin 16)) : GSem nD τ sig :=
  ((x.1 : Thread nD τ), match x.2 with | none => .reg barS | some y => osem y)

/-- Every cell's invariant, and that every cell has reached round 0. -/
def records (K : Dev nD × Option (Fin 4 × Fin 16) → ℕ) : sProp 𝕄 :=
  bigSep Finset.univ fun x => iprop(cellInv ER (Rd m) (K x) (kcell x) ∗ reached ER (kcell x) 0)

instance records_persistent (K) : BI.Persistent (records (F := F) m K) := by unfold records; infer_instance

variable (K : Dev nD × Option (Fin 4 × Fin 16) → ℕ)

theorem rec_dma (c : Dev nD) (a : Fin 4) (k : Fin 16) : records (F := F) m K ⊢ cellInv ER (Rd m) (K (c, some (a, k))) (dcell c a k) :=
  (bigSep_elim (Finset.mem_univ (c, some (a, k)))).trans
    (show iprop(cellInv ER (Rd m) (K (c, some (a, k))) (dcell c a k) ∗ reached ER (dcell c a k) 0) ⊢ _ from by iintro ⟨H, -⟩; iexact H)
theorem rec_bar (c : Dev nD) : records (F := F) m K ⊢ cellInv ER (Rd m) (K (c, none)) (bcell c) :=
  (bigSep_elim (Finset.mem_univ (c, (none : Option (Fin 4 × Fin 16))))).trans
    (show iprop(cellInv ER (Rd m) (K (c, none)) (bcell c) ∗ reached ER (bcell c) 0) ⊢ _ from by iintro ⟨H, -⟩; iexact H)
theorem rec_dma0 (c : Dev nD) (a : Fin 4) (k : Fin 16) : records (F := F) m K ⊢ reached ER (dcell c a k) 0 :=
  (bigSep_elim (Finset.mem_univ (c, some (a, k)))).trans
    (show iprop(cellInv ER (Rd m) (K (c, some (a, k))) (dcell c a k) ∗ reached ER (dcell c a k) 0) ⊢ _ from by iintro ⟨-, H⟩; iexact H)
theorem rec_bar0 (c : Dev nD) : records (F := F) m K ⊢ reached ER (bcell c) 0 :=
  (bigSep_elim (Finset.mem_univ (c, (none : Option (Fin 4 × Fin 16))))).trans
    (show iprop(cellInv ER (Rd m) (K (c, none)) (bcell c) ∗ reached ER (bcell c) 0) ⊢ _ from by iintro ⟨-, H⟩; iexact H)

/-- What the device still owes. -/
def own (c : Dev nD) (O : CellTallies nD τ sig (Fin 3)) : sProp 𝕄 := iprop(∃ W, owes (c : Thread nD τ) O W)

/-! ## Loops -/

/-- A loop whose every step turns `P x` into `P' x`, with `R` carried along the list of what is left. -/
theorem wp_eachK {α : Type} [DecidableEq α] (c : Dev nD) (f : α → Pg F → Pg F) (P P' : α → sProp 𝕄) (R : List α → sProp 𝕄) (Q : PUnit.{1} → sProp 𝕄) (k : Pg F) :
    ∀ xs : List α, xs.Nodup →
      (∀ x ∈ xs, ∀ (ys : List α) (k' : Pg F), iprop(P x ∗ R (x :: ys)) ⊢ iprop(((P' x ∗ R ys) -∗ wpc c k' Q) -∗ wpc c (f x k') Q)) →
      (iprop(bigSep xs.toFinset P ∗ R xs) ⊢ iprop(((bigSep xs.toFinset P' ∗ R []) -∗ wpc c k Q) -∗ wpc c (eachK xs f k) Q))
  | [], _, _ => by
    rw [List.toFinset_nil, bigSep_empty, bigSep_empty]
    iintro H Hk
    iapply Hk; iexact H
  | x :: xs, hn, step => by
    have hx : x ∉ xs.toFinset := fun h => (List.nodup_cons.mp hn).1 (List.mem_toFinset.mp h)
    rw [List.toFinset_cons, bigSep_insert hx, bigSep_insert hx]
    refine (show iprop((P x ∗ bigSep xs.toFinset P) ∗ R (x :: xs)) ⊢ iprop((((P' x ∗ bigSep xs.toFinset P') ∗ R []) -∗ wpc c k Q) -∗ wpc c (f x (eachK xs f k)) Q) from ?_)
    iintro ⟨⟨Hx, Hxs⟩, HR⟩ Hk
    iapply (step x List.mem_cons_self xs (eachK xs f k)) $$ [Hx HR]
    · isplitl [Hx] <;> iassumption
    iintro ⟨Hx, HR⟩
    iapply (wp_eachK c f P P' R Q k xs (List.nodup_cons.mp hn).2 (fun y hy => step y (List.mem_cons_of_mem _ hy))) $$ [Hxs HR]
    · isplitl [Hxs] <;> iassumption
    iintro ⟨Hxs, HR⟩
    iapply Hk
    isplitl [Hx Hxs]
    · isplitl [Hx] <;> iassumption
    iexact HR

/-! ## The barrier -/

section Step
variable (c : Dev nD) (l : Fin 3) (O : CellTallies nD τ sig (Fin 3))

theorem wp_signalK (Q : PUnit.{1} → sProp 𝕄) (k : Pg F) (d : Fin 16) (hd : d ≠ 0) :
    iprop(records m K ∗ own c (O + tBar c d) ∗ dutyTok ER (bcell (c + d)) 0 d ∗ xsE c 0 d)
      ⊢ iprop((own c O -∗ wpc c k Q) -∗ wpc c (signalK c d k) Q) := by
  unfold signalK own
  rw [devSig_eq d hd c]
  iintro ⟨#HK, ⟨%W, HO⟩, Ht, Hx⟩ Hk
  iapply (Rounds.wp_signal 𝒱₀ ER (Rd m) (c : Thread nD τ) none (dst := ((c + d : Dev nD) : Thread nD τ)) (κ := K (c + d, none)) (r := 0) (d := d)
      (by rw [duties_bar]; exact mem_E.mpr hd) ((amount_bar m (c + d) 0 d).trans (by decide)) 0 O rfl) $$ [HO Ht Hx]
  · isplitr; · iapply (rec_bar m K (c + d)); iexact HK
    isplitl [HO]; · iexact HO
    isplitl [Ht]; · iexact Ht
    isplitl [Hx]
    · rw [payload_bar, dev_sub]; iexact Hx
    · iapply (rec_bar0 m K (c + d)); iexact HK
  iintro HO
  iapply Hk
  iexists W; iexact HO

theorem wp_readyK (Q : PUnit.{1} → sProp 𝕄) (k : Pg F) (hO : Above 1 O) :
    iprop(records m K ∗ levAts L lv ∗ own c O ∗ cred (tallyAt (bcell c) 0 15) ∗ atPos ER (bcell c) 0 ∅ 0)
      ⊢ iprop(((own c O ∗ atPos ER (bcell c) 1 ∅ 0 ∗ bigSep E fun d => xsE (c - d) 0 d) -∗ wpc c k Q) -∗ wpc c (readyK k) Q) := by
  unfold readyK own
  iintro ⟨#HK, #Hlev, ⟨%W, HO⟩, Hc, Hat⟩ Hk
  iapply (Rounds.wp_wait_rest_token 𝒱₀ ER (Rd m) (c : Thread nD τ) none (κ := K (c, none))
      (wpE_semWait_eq 𝒱₀ (c : Thread nD τ) none Set.univ) (Set.mem_univ _) 0 (O := O) (W := W) (R := 0) (m := 0) (T := ∅)
      (by rw [expect_bar]; decide)) $$ [Hc HO Hat]
  · isplitr; · iapply (rec_bar m K c); iexact HK
    isplitl [Hc]; · iexact Hc
    isplitl [HO]; · iexact HO
    isplitr; · iapply (mayWait c _ 0 1 O (by rw [lv_bar]) hO); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-! ## Copies -/

/-- The row send and the product send with the device named. -/
def agSendTo (n : Dev nD) (l : Fin 3) (d : Fin 16) (k : Pg F) : Pg F :=
  Prog.op (.enqueueDma (xS (pl l) 0) (.remote (Dev.tc n) (xS (pl l) (-d)) (.dma (semAt cc0_scratch4 d))) (.dma (semAt cc0_scratch5 d))
    (xS_words _ _) (xS_words _ _) ⟨⟨rfl, Or.inl rfl⟩, trivial⟩) fun _ => k
def rsSendTo (n : Dev nD) (d : Fin 16) (k : Pg F) : Pg F :=
  Prog.op (.enqueueDma (sS d) (.remote (Dev.tc n) (rS (-d)) (.dma (semAt cc0_scratch6 d))) (.dma (semAt cc0_scratch7 d))
    (sS_words _) (rS_words _) ⟨⟨rfl, Or.inl rfl⟩, trivial⟩) fun _ => k

theorem wp_agSendK (Q : PUnit.{1} → sProp 𝕄) (k : Pg F) (d : Fin 16) (hd : d ≠ 0) :
    iprop(records m K ∗ own c (O + tAg c l d) ∗ xs c (pl l) 0 (lendSh d) (xall m l c) ∗ xsE (c + d) (pl l) (-d)
        ∗ rsE c d ∗ reached ER (dcell c 3 (-d)) l.val
        ∗ dutyTok ER (dcell c 0 d) l.val 0 ∗ reached ER (dcell c 0 d) l.val
        ∗ dutyTok ER (dcell (c + d) 1 d) l.val 0 ∗ reached ER (dcell (c + d) 1 d) l.val)
      ⊢ iprop(((own c O ∗ cred (tallyAt (dcell c 0 d) l N)) -∗ wpc c k Q) -∗ wpc c (agSendK c l d k) Q) := by
  rw [show agSendK c l d k = agSendTo (c + d) l d k from (devAg_eq l d hd c) ▸ rfl]
  unfold agSendTo own xsE
  iintro ⟨#HK, ⟨%W, HO⟩, Hsrc, ⟨%fd, Hdst⟩, Hr, HrR, Ht0, Hr0, Ht1, Hr1⟩ Hk
  iapply (Rounds.wp_send_pointsTo_with 𝒱₀ ER (Rd m) (c : Thread nD τ) none (κ₁ := K (c, some (0, d))) (κ₂ := K (c + d, some (1, d)))
    (c' := ((c + d : Dev nD) : Thread nD τ)) (src := xS (pl l) 0) (dst := xS (pl l) (-d)) (q := lendSh d) (fs := xall m l c) (fd := fd)
    (F := iprop(rsE c d ∗ reached ER (dcell c 3 (-d)) l.val))
    (r₁ := l.val) (r₂ := l.val) (d₁ := 0) (d₂ := 0)
    (by rw [duties_at m c 0 d l hd]; exact Finset.mem_singleton_self _) (by rw [duties_at m (c + d) 1 d l hd]; exact Finset.mem_singleton_self _)
    l l N rfl (amount_dma m c 0 d _ _) (amount_dma m (c + d) 1 d _ _) O rfl (W := W)
    (by rw [payload_0, xS_set]; unfold xs; exact BI.Entails.refl _)
    (by
      rw [payload_1, dev_sub, xS_set]; unfold xs
      refine sep_mono_left (Entails.of_eq (pointsTo_congr fun i hi => ?_))
      exact write_agree (xS (pl l) (-d)).view fd (xall m l (c + d)) _ (land_x (X m l.val) c (pl l) d) i (by rw [xS_set]; exact hi)))
    $$ [HO Hsrc Hdst Hr HrR Ht0 Hr0 Ht1 Hr1]
  · isplitr; · iapply (rec_dma m K c 0 d); iexact HK
    isplitr; · iapply (rec_dma m K (c + d) 1 d); iexact HK
    isplitl [Hsrc]; · rw [xS_set]; unfold xs; iexact Hsrc
    isplitl [Hdst Hr HrR]
    · isplitl [Hdst]; · rw [xS_set]; unfold xs; iexact Hdst
      isplitl [Hr] <;> iassumption
    isplitl [HO]; · iexact HO
    isplitl [Ht0]; · iexact Ht0
    isplitl [Hr0]; · iexact Hr0
    isplitl [Ht1]; · iexact Ht1
    iexact Hr1
  iintro ⟨Hc, HO⟩
  iapply Hk
  isplitl [HO]; · iexists _; iexact HO
  iexact Hc

theorem wp_rsSendK (Q : PUnit.{1} → sProp 𝕄) (k : Pg F) (d : Fin 16) (hd : d ≠ 0) :
    iprop(records m K ∗ own c (O + tRs c l d) ∗ ss c d (sall m l c) ∗ rsE (c + d) (-d) ∗ nextPay c l d
        ∗ dutyTok ER (dcell c 2 d) l.val 0 ∗ reached ER (dcell c 2 d) l.val
        ∗ dutyTok ER (dcell (c + d) 3 d) l.val 0 ∗ reached ER (dcell (c + d) 3 d) l.val)
      ⊢ iprop(((own c O ∗ cred (tallyAt (dcell c 2 d) l N)) -∗ wpc c k Q) -∗ wpc c (rsSendK c l d k) Q) := by
  rw [show rsSendK c l d k = rsSendTo (c + d) d k from (devRs_eq l d hd c) ▸ rfl]
  unfold rsSendTo own rsE
  iintro ⟨#HK, ⟨%W, HO⟩, Hsrc, ⟨%fd, Hdst⟩, Hn, Ht0, Hr0, Ht1, Hr1⟩ Hk
  iapply (Rounds.wp_send_pointsTo_with 𝒱₀ ER (Rd m) (c : Thread nD τ) none (κ₁ := K (c, some (2, d))) (κ₂ := K (c + d, some (3, d)))
    (c' := ((c + d : Dev nD) : Thread nD τ)) (src := sS d) (dst := rS (-d)) (q := fullShare) (fs := sall m l c) (fd := fd)
    (F := nextPay c l d)
    (r₁ := l.val) (r₂ := l.val) (d₁ := 0) (d₂ := 0)
    (by rw [duties_at m c 2 d l hd]; exact Finset.mem_singleton_self _) (by rw [duties_at m (c + d) 3 d l hd]; exact Finset.mem_singleton_self _)
    l l N rfl (amount_dma m c 2 d _ _) (amount_dma m (c + d) 3 d _ _) O rfl (W := W)
    (by rw [payload_2, sS_set]; unfold ss; exact BI.Entails.refl _)
    (by
      rw [payload_3, dev_sub, rS_set]; unfold rs
      refine sep_mono_left (Entails.of_eq (pointsTo_congr fun i hi => ?_))
      exact write_agree (rS (-d)).view fd (rall m l (c + d)) _ (land_r m (X m l.val) l c d) i (by rw [rS_set]; exact hi)))
    $$ [HO Hsrc Hdst Hn Ht0 Hr0 Ht1 Hr1]
  · isplitr; · iapply (rec_dma m K c 2 d); iexact HK
    isplitr; · iapply (rec_dma m K (c + d) 3 d); iexact HK
    isplitl [Hsrc]; · rw [sS_set]; unfold ss; iexact Hsrc
    isplitl [Hdst Hn]
    · isplitl [Hdst]; · rw [rS_set]; unfold rs; iexact Hdst
      iexact Hn
    isplitl [HO]; · iexact HO
    isplitl [Ht0]; · iexact Ht0
    isplitl [Hr0]; · iexact Hr0
    isplitl [Ht1]; · iexact Ht1
    iexact Hr1
  iintro ⟨Hc, HO⟩
  iapply Hk
  isplitl [HO]; · iexists _; iexact HO
  iexact Hc

/-! ## Waits for copies -/

/-- A wait for a whole slot on cell `k` of family `a`, in round `l`. -/
theorem wp_dmaWait (Q : PUnit.{1} → sProp 𝕄) (k : Pg F) (a : Fin 4) (d : Fin 16) (hd : d ≠ 0) (n : ℕ) (hl : lv (dcell c a d) l ≤ n) (hO : Above n O)
    {sp sp' : Space} {s s' : Shape} {e e' : EltTy} {src : Memref sig .tc sp' s' e'} {dst : Memref sig .tc sp s e}
    {hsrc : src.view.WordExact} {hdst : dst.view.WordExact} (hN : dst.view.dmaCredit = N) {sem : DmaSem sig} (hs : sem = semAt (fam a) d) :
    iprop(records m K ∗ levAts L lv ∗ own c O ∗ cred (tallyAt (dcell c a d) l N) ∗ atPos ER (dcell c a d) l.val ∅ 0)
      ⊢ iprop(((own c O ∗ atPos ER (dcell c a d) (l.val + 1) ∅ 0 ∗ reached ER (dcell c a d) (l.val + 1) ∗ (Rd m).payload (dcell c a d) l.val 0)
          -∗ wpc c k Q) -∗ wpc c (Prog.op (.waitDma2 sem src dst hsrc hdst) fun _ => k) Q) := by
  subst hs
  unfold own
  iintro ⟨#HK, #Hlev, ⟨%W, HO⟩, Hc, Hat⟩ Hk
  iapply (Rounds.wp_wait_rest_token 𝒱₀ ER (Rd m) (c : Thread nD τ) none (κ := K (c, some (a, d)))
      (wpE_waitDma2_eq 𝒱₀ (c : Thread nD τ) none Set.univ) (Set.mem_univ _) l (O := O) (W := W) (R := l.val) (m := 0) (T := ∅)
      (by rw [Nat.zero_add, hN]; exact (expect_dma m c a d l hd).symm)) $$ [Hc HO Hat]
  · isplitr; · iapply (rec_dma m K c a d); iexact HK
    isplitl [Hc]; · rw [hN]; iexact Hc
    isplitl [HO]; · iexact HO
    isplitr; · iapply (mayWait c (osem (a, d)) l n O hl hO); iexact Hlev
    iexact Hat
  iintro ⟨HO, Hat, Hr, Hpay⟩
  ihave Hp := (Entails.of_eq (rest_dma m c a d l hd)) $$ Hpay
  iapply Hk
  isplitl [HO]; · iexists _; iexact HO
  isplitl [Hat]; · iexact Hat
  isplitl [Hr]; · iexact Hr
  iexact Hp

theorem wp_agWaitK (Q : PUnit.{1} → sProp 𝕄) (k : Pg F) (s : Fin 16) (hs : s ≠ 0) (hO : Above (2 + 2 * l.val) O) :
    iprop(records m K ∗ levAts L lv ∗ own c O ∗ cred (tallyAt (dcell c 1 (-s)) l N) ∗ atPos ER (dcell c 1 (-s)) l.val ∅ 0)
      ⊢ iprop(((own c O ∗ atPos ER (dcell c 1 (-s)) (l.val + 1) ∅ 0 ∗ reached ER (dcell c 1 (-s)) (l.val + 1)
          ∗ xs c (pl l) s fullShare (xall m l c) ∗ rsE (c + s) (-s) ∗ reached ER (dcell (c + s) 3 s) l.val) -∗ wpc c k Q) -∗ wpc c (agWaitK l s k) Q) := by
  have h := wp_dmaWait m K c l O Q k 1 (-s) (off_neg_ne hs) (2 + 2 * l.val) (by rw [lv_dma _ _ _ (off_neg_ne hs), if_pos rfl]) hO
    (hsrc := xS_words (pl l) s) (hdst := xS_words (pl l) s) (N_x (pl l) s) (sem := semAt cc0_scratch5 (-s)) rfl
  rw [payload_1, off_neg_neg, dev_sub_neg] at h
  exact h

theorem wp_rsWaitK (Q : PUnit.{1} → sProp 𝕄) (k : Pg F) (d : Fin 16) (hd : d ≠ 0) (hO : Above (3 + 2 * l.val) O) :
    iprop(records m K ∗ levAts L lv ∗ own c O ∗ cred (tallyAt (dcell c 3 d) l N) ∗ atPos ER (dcell c 3 d) l.val ∅ 0)
      ⊢ iprop(((own c O ∗ atPos ER (dcell c 3 d) (l.val + 1) ∅ 0 ∗ reached ER (dcell c 3 d) (l.val + 1)
          ∗ rs c (-d) (rall m l c) ∗ nextPay (c - d) l d) -∗ wpc c k Q) -∗ wpc c (rsWaitK d k) Q) := by
  have h := wp_dmaWait m K c l O Q k 3 d hd (3 + 2 * l.val) (by rw [lv_dma _ _ _ hd, if_neg (by decide), if_pos rfl]) hO
    (hsrc := rS_words (-d)) (hdst := rS_words (-d)) (N_r (-d)) (sem := semAt cc0_scratch7 d) rfl
  rw [payload_3] at h
  exact h

theorem wp_agDoneK (Q : PUnit.{1} → sProp 𝕄) (k : Pg F) (d : Fin 16) (hd : d ≠ 0) (hO : Above 0 O) :
    iprop(records m K ∗ levAts L lv ∗ own c O ∗ cred (tallyAt (dcell c 0 d) l N) ∗ atPos ER (dcell c 0 d) l.val ∅ 0)
      ⊢ iprop(((own c O ∗ atPos ER (dcell c 0 d) (l.val + 1) ∅ 0 ∗ reached ER (dcell c 0 d) (l.val + 1)
          ∗ xs c (pl l) 0 (lendSh d) (xall m l c)) -∗ wpc c k Q) -∗ wpc c (agDoneK l d k) Q) := by
  have h := wp_dmaWait m K c l O Q k 0 d hd 0 (by rw [lv_dma _ _ _ hd, if_neg (by decide), if_neg (by decide)]) hO
    (hsrc := xS_words (pl l) (-d)) (hdst := xS_words (pl l) 0) (N_x (pl l) 0) (sem := semAt cc0_scratch4 d) rfl
  rw [payload_0] at h
  exact h

theorem wp_rsDoneK (Q : PUnit.{1} → sProp 𝕄) (k : Pg F) (d : Fin 16) (hd : d ≠ 0) (hO : Above 0 O) :
    iprop(records m K ∗ levAts L lv ∗ own c O ∗ cred (tallyAt (dcell c 2 d) l N) ∗ atPos ER (dcell c 2 d) l.val ∅ 0)
      ⊢ iprop(((own c O ∗ atPos ER (dcell c 2 d) (l.val + 1) ∅ 0 ∗ reached ER (dcell c 2 d) (l.val + 1)
          ∗ ss c d (sall m l c)) -∗ wpc c k Q) -∗ wpc c (rsDoneK d k) Q) := by
  have h := wp_dmaWait m K c l O Q k 2 d hd 0 (by rw [lv_dma _ _ _ hd, if_neg (by decide), if_neg (by decide)]) hO
    (hsrc := rS_words (-d)) (hdst := sS_words d) (N_s d) (sem := semAt cc0_scratch6 d) rfl
  rw [payload_2] at h
  exact h

/-! ## Loads and stores -/

theorem setOn_whole (b : Ref sig .tc) (M : Finset b.ty.shape.Idx) : (View.whole b).setOn M = M := Finset.map_refl

/-- Rows stored into slot 0. -/
theorem wp_putK (Q : PUnit.{1} → sProp 𝕄) (k : Pg F) (p : Fin 2) (n : ℕ) :
    (xsE c p 0 : sProp 𝕄) ⊢ iprop((xs c p 0 fullShare (xallOf (X m n) c) -∗ wpc c k Q) -∗ wpc c (putK p (X m n c) k) Q) := by
  unfold putK xsE xs
  iintro ⟨%f, Hx⟩ Hk
  iapply (wp_load 𝒱₀ (c : Thread nD τ) none Set.univ (m := XF) (S := (xR p 0).set) (by exact (setOn_whole _ _).subset)) $$ Hx
  iintro Hx
  iapply (wp_store 𝒱₀ (c : Thread nD τ) none Set.univ (m := XF) (r := xR p 0) (Mk := Finset.univ) (S := (xR p 0).set)
    (by rw [View.setOn_univ]; exact (View.set_slice_whole _ _).subset)) $$ Hx
  iintro Hx
  iapply Hk
  iapply (Entails.of_eq (pointsTo_congr fun i hi => ?_)) $$ Hx
  refine write_agree (XF.access (xR p 0)) f (xallOf (X m n) c) _ ?_ i (by rw [show (XF.access (xR p 0)).set = (xR p 0).set from View.set_slice_whole _ _]; exact hi)
  exact (read_x (X m n) c p 0).trans (by rw [dev_zero])

/-- A block of the product stored into its outgoing slot. -/
theorem wp_slot (Q : PUnit.{1} → sProp 𝕄) (k : Pg F) (d : Fin 16) (w : Rows F) (hw : w = blkP m l c d) :
    (ssE c d : sProp 𝕄) ⊢ iprop((ss c d (sall m l c) -∗ wpc c k Q) -∗ wpc c
      (Prog.op (.load SB (sR d).toLoadRect (View.loadsAt_vmem h_S1x64x512)) fun _ =>
       Prog.op (.store SB (sR d) w Finset.univ
        (View.stores_vmem h_S1x64x512 ((Memref.isWhole_whole cc0_scratch2).storeExact_slice rfl _ (packed_s d)) (fun _ => rfl)) (.inl rfl)) fun _ => k) Q) := by
  unfold ssE ss
  iintro ⟨%f, Hs⟩ Hk
  iapply (wp_load 𝒱₀ (c : Thread nD τ) none Set.univ (m := SB) (S := (sR d).set) (by exact (setOn_whole _ _).subset)) $$ Hs
  iintro Hs
  iapply (wp_store 𝒱₀ (c : Thread nD τ) none Set.univ (m := SB) (r := sR d) (Mk := Finset.univ) (S := (sR d).set)
    (by rw [View.setOn_univ]; exact (View.set_slice_whole _ _).subset)) $$ Hs
  iintro Hs
  iapply Hk
  iapply (Entails.of_eq (pointsTo_congr fun i hi => ?_)) $$ Hs
  refine write_agree (SB.access (sR d)) f (sallOf m (X m l.val) l c) _ ?_ i (by rw [show (SB.access (sR d)).set = (sR d).set from View.set_slice_whole _ _]; exact hi)
  exact (read_s m (X m l.val) l c d).trans hw.symm

/-- Block `d` of the product read. -/
theorem wp_block (Q : PUnit.{1} → sProp 𝕄) (k : FVec F S64x512 .f32 → Pg F) (q : Fin 4) (d : Fin 16) (hq : d ∈ grp q) (f : (cc0_scratch1 : Ref sig .tc).ty.Contents (Elt F)) :
    (ys c q f : sProp 𝕄) ⊢ iprop((ys c q f -∗ wpc c (k (YP.view.readAt (Elt F) (yR d).toLoadRect f)) Q)
      -∗ wpc c (Prog.op (.load YP (yR d).toLoadRect (View.loadsAt_vmem h_S64x512)) fun v => by exact k v) Q) := by
  unfold ys
  exact wp_load 𝒱₀ (c : Thread nD τ) none Set.univ (m := YP) (S := (ygR q).set) (by exact (setOn_whole _ _).subset.trans (yR_sub hq))

/-- A block of the product into its outgoing slot and off. -/
theorem wp_outK (Q : PUnit.{1} → sProp 𝕄) (k : Pg F) (q : Fin 4) (d : Fin 16) (hd : d ≠ 0) (hq : d ∈ grp q) :
    iprop(records m K ∗ own c (O + tRs c l d) ∗ ys c q (yall m l c) ∗ ssE c d ∗ rsE (c + d) (-d) ∗ nextPay c l d
        ∗ dutyTok ER (dcell c 2 d) l.val 0 ∗ reached ER (dcell c 2 d) l.val
        ∗ dutyTok ER (dcell (c + d) 3 d) l.val 0 ∗ reached ER (dcell (c + d) 3 d) l.val)
      ⊢ iprop(((own c O ∗ ys c q (yall m l c) ∗ cred (tallyAt (dcell c 2 d) l N)) -∗ wpc c k Q) -∗ wpc c (outK c l d k) Q) := by
  unfold outK
  iintro ⟨#HK, HO, Hy, Hs, H⟩ Hk
  iapply (wp_block c Q _ q d hq (yall m l c)) $$ Hy
  iintro Hy
  iapply (wp_slot m c l Q (rsSendK c l d k) d _ rfl) $$ Hs
  iintro Hs
  iapply (wp_rsSendK m K c l O Q k d hd) $$ [HO Hs H]
  · isplitr; · iexact HK
    isplitl [HO]; · iexact HO
    isplitl [Hs]; · iexact Hs
    iexact H
  iintro ⟨HO, Hc⟩
  iapply Hk
  isplitl [HO]; · iexact HO
  isplitl [Hy] <;> iassumption

/-- Every block that arrived read, the slots held apart. -/
theorem wp_rest (Q : PUnit.{1} → sProp 𝕄) (k : FVec F S15x64x512 .bf16 → Pg F) (f : (cc0_scratch3 : Ref sig .tc).ty.Contents (Elt F)) :
    (bigSep E fun d => rs c d f : sProp 𝕄) ⊢ iprop(((bigSep E fun d => rs c d f) -∗ wpc c (k (RB.view.readAt (Elt F) restR.toLoadRect f)) Q)
      -∗ wpc c (Prog.op (.load RB restR.toLoadRect (View.loadsAt_vmem h_S15x64x512)) fun v => by exact k v) Q) := by
  have h := pointsTo_biUnion (Ix := Fin 3) (Val := Elt F) (Name := ℕ) (U := UU) (Lvl := ℕ) (ℓ := rLoc c) (q := fullShare) (f := f) E (fun d => (sR d).set) fun t _ t' _ h => sR_disj h
  rw [show (bigSep E fun d => rs c d f : sProp 𝕄) = _ from h.symm]
  exact wp_load 𝒱₀ (c : Thread nD τ) none Set.univ (m := RB) (by exact (setOn_whole _ _).subset.trans fun i hi => Finset.mem_biUnion.mpr (Finset.mem_biUnion.mp (restR_sub hi)))

/-- A row group read, its slots held apart at one share. -/
theorem wp_rows (Q : PUnit.{1} → sProp 𝕄) (k : FVec F S1x256x512 .bf16 → Pg F) (p : Fin 2) (q : Fin 4) (sh : PosShare TreeShare) (Y : Dev nD → Rows F) :
    (bigSep (grp q) fun d => xs c p d sh (xallOf Y c) : sProp 𝕄) ⊢ iprop(((bigSep (grp q) fun d => xs c p d sh (xallOf Y c)) -∗ wpc c (k (xgOf Y c q)) Q)
      -∗ wpc c (Prog.op (.load XF (xgR p q).toLoadRect (View.loadsAt_vmem h_S1x256x512)) fun v => by exact k v) Q) := by
  rw [← read_xg Y c p q]
  have h := pointsTo_biUnion (Ix := Fin 3) (Val := Elt F) (Name := ℕ) (U := UU) (Lvl := ℕ) (ℓ := xLoc c) (q := sh) (f := xallOf Y c) (grp q) (fun d => (xR p d).set) fun t _ t' _ h => xR_disj fun h' => h (congrArg Prod.snd h')
  rw [show (bigSep (grp q) fun d => xs c p d sh (xallOf Y c) : sProp 𝕄) = _ from h.symm]
  exact wp_load 𝒱₀ (c : Thread nD τ) none Set.univ (m := XF) (by exact (setOn_whole _ _).subset.trans fun i hi => Finset.mem_biUnion.mpr (Finset.mem_biUnion.mp (xgR_sub p q hi)))

/-- A row group of the product stored. -/
theorem wp_prod (Q : PUnit.{1} → sProp 𝕄) (k : Pg F) (q : Fin 4) (w : FVec F S256x512 .f32) (hw : w = ygOf m (X m l.val) l c q) :
    (ysE c q : sProp 𝕄) ⊢ iprop((ys c q (yall m l c) -∗ wpc c k Q) -∗ wpc c
      (Prog.op (.load YP (ygR q).toLoadRect (View.loadsAt_vmem h_S256x512)) fun _ =>
       Prog.op (.store YP (ygR q) w Finset.univ (View.stores_vmem_bits_univ h_S256x512 rfl) (.inl rfl)) fun _ => k) Q) := by
  unfold ysE ys
  iintro ⟨%f, Hy⟩ Hk
  iapply (wp_load 𝒱₀ (c : Thread nD τ) none Set.univ (m := YP) (S := (ygR q).set) (by exact (setOn_whole _ _).subset)) $$ Hy
  iintro Hy
  iapply (wp_store 𝒱₀ (c : Thread nD τ) none Set.univ (m := YP) (r := ygR q) (Mk := Finset.univ) (S := (ygR q).set)
    (by rw [View.setOn_univ]; exact (View.set_slice_whole _ _).subset)) $$ Hy
  iintro Hy
  iapply Hk
  iapply (Entails.of_eq (pointsTo_congr fun i hi => ?_)) $$ Hy
  refine write_agree (YP.access (ygR q)) f (yallOf m (X m l.val) l c) _ ?_ i (by rw [show (YP.access (ygR q)).set = (ygR q).set from View.set_slice_whole _ _]; exact hi)
  exact (read_yg m (X m l.val) l c q).trans hw.symm

end Step

end Cert.KernelIdeal.Mlp
-- ==== Proof.Layer.lean ====
/-
# One layer

What a device holds when a layer starts, what it holds when the layer ends, and the run of the layer between. The layer
number is a variable: the three layers are one proof.
-/
module

public import proofs.«01_k».proof.Proof.Steps

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 3) (Elt F) ℕ UU ℕ

variable (m : (ℓ : Loc nD τ sig) → Buf (Elt F) ℓ)
variable (K : Dev nD × Option (Fin 4 × Fin 16) → ℕ)

/-! ## Slots by groups -/

/-- The slots of group `q` that come from peers, and the one that does not. -/
def G (q : Fin 4) : Finset (Fin 16) := (grp q).erase 0
def S (q : Fin 4) : Finset (Fin 16) := (grp q).filter (· = 0)

theorem grpIn_G (q : Fin 4) : (grpIn q).toFinset = G q := by revert q; decide
theorem grpOut_G (q : Fin 4) : (grpOut q).toFinset = G q := by revert q; decide
theorem grpIn_nodup (q : Fin 4) : (grpIn q).Nodup := by revert q; decide
theorem grpOut_nodup (q : Fin 4) : (grpOut q).Nodup := by revert q; decide
theorem grpIn_ne (q : Fin 4) : ∀ d ∈ grpIn q, d ≠ 0 := by revert q; decide
theorem grpOut_ne (q : Fin 4) : ∀ d ∈ grpOut q, d ≠ 0 := by revert q; decide
theorem grpOut_grp (q : Fin 4) : ∀ d ∈ grpOut q, d ∈ grp q := by revert q; decide
theorem grp_union (q : Fin 4) : grp q = G q ∪ S q := by revert q; decide
theorem grp_disj (q : Fin 4) : Disjoint (G q) (S q) := by revert q; decide
theorem G_cover : (Finset.univ : Finset (Fin 4)).biUnion G = E := by decide
theorem S_cover : (Finset.univ : Finset (Fin 4)).biUnion S = {0} := by decide
theorem grps_univ : grps.toFinset = Finset.univ := by decide
theorem grps_outs : grps.flatMap grpOut = outs := by decide
theorem G_disj : ∀ q q' : Fin 4, q ≠ q' → Disjoint (G q) (G q') := by decide
theorem S_disj : ∀ q q' : Fin 4, q ≠ q' → Disjoint (S q) (S q') := by decide

omit [FloatOps F] in
/-- A product over disjoint parts, part by part. -/
theorem bigSep_parts (t : Fin 4 → Finset (Fin 16)) (hd : ∀ q q', q ≠ q' → Disjoint (t q) (t q')) (Φ : Fin 16 → sProp 𝕄) (s : Finset (Fin 4)) :
    bigSep (s.biUnion t) Φ = bigSep s fun q => bigSep (t q) Φ := by
  induction s using Finset.induction_on with
  | empty => rfl
  | insert q s hq ih =>
    rw [Finset.biUnion_insert, bigSep_insert hq, bigSep_union, ih]
    exact (Finset.disjoint_biUnion_right _ _ _).mpr fun q' hq' => hd q q' fun h => hq (h ▸ hq')

omit [FloatOps F] in
theorem bigSep_groups (Φ : Fin 16 → sProp 𝕄) : bigSep Finset.univ (fun q => bigSep (G q) Φ) = bigSep E Φ := by
  rw [← bigSep_parts G G_disj, G_cover]
omit [FloatOps F] in
theorem bigSep_zero (Φ : Fin 16 → sProp 𝕄) : bigSep Finset.univ (fun q => bigSep (S q) Φ) = Φ 0 := by
  rw [← bigSep_parts S S_disj, S_cover, bigSep_singleton]

/-- Turning the offsets round. -/
def negE : Fin 16 ↪ Fin 16 := ⟨fun d => -d, by decide⟩
theorem negE_E : E.map negE = E := by decide
omit [FloatOps F] in
theorem bigSep_neg (Φ : Fin 16 → sProp 𝕄) : bigSep E (fun d => Φ (-d)) = bigSep E Φ := by
  conv_rhs => rw [← negE_E, bigSep_map]
  rfl

/-! ## A slot's shares -/

omit [FloatOps F] in
theorem xs_halves (c : Dev nD) (p : Fin 2) (k : Fin 16) (f : (cc0_scratch0 : Ref sig .tc).ty.Contents (Elt F)) :
    (xs c p k fullShare f : sProp 𝕄) = iprop(xs c p k fullShare.left f ∗ xs c p k fullShare.right f) := by
  unfold xs
  have h := pointsTo_share (Ix := Fin 3) (Val := Elt F) (Name := ℕ) (U := UU) (Lvl := ℕ) (ℓ := xLoc c) (I := (xR p k).set) (f := f) (PosShare.mem_left_op_right fullShare)
  exact BI.Entails.antisymm h.1 h.2

omit [FloatOps F] in
theorem xs_deal (c : Dev nD) (p : Fin 2) (k : Fin 16) (f : (cc0_scratch0 : Ref sig .tc).ty.Contents (Elt F)) :
    (xs c p k fullShare.left f : sProp 𝕄) = bigSep E fun d => xs c p k (lendSh d) f := by
  unfold xs
  exact Transfers.pointsTo_deal (Ix := Fin 3) (Name := ℕ) (U := UU) (Lvl := ℕ) E ⟨1, by decide⟩ fullShare.left

/-! ## What a device holds -/

section Held
variable (c : Dev nD) (l : Fin 3)

/-- A slot of the other plane, kept over the last layer and handed on in the others. -/
def keep (d : Fin 16) : sProp 𝕄 := if l.val < 2 then iprop(emp) else xsE c (opl l) d

/-- For offset `d` when layer `l` starts. -/
def start (d : Fin 16) : sProp 𝕄 :=
  iprop(xsE (c + d) (pl l) (-d) ∗ rsE c d ∗ ssE c d ∗ xsE c (opl l) d
    ∗ atPos ER (dcell c 0 d) l.val ∅ 0 ∗ atPos ER (dcell c 1 (-d)) l.val ∅ 0 ∗ atPos ER (dcell c 2 d) l.val ∅ 0 ∗ atPos ER (dcell c 3 d) l.val ∅ 0
    ∗ reached ER (dcell c 0 d) l.val ∗ reached ER (dcell c 2 d) l.val ∗ reached ER (dcell c 3 (-d)) l.val ∗ reached ER (dcell (c + d) 1 d) l.val)

/-- For offset `d`, the duties of layer `l` and the credit for its waits. -/
def toks (d : Fin 16) : sProp 𝕄 :=
  iprop(dutyTok ER (dcell c 0 d) l.val 0 ∗ dutyTok ER (dcell (c + d) 1 d) l.val 0 ∗ dutyTok ER (dcell c 2 d) l.val 0 ∗ dutyTok ER (dcell (c + d) 3 d) l.val 0
    ∗ cred (tallyAt (dcell c 1 (-d)) l N) ∗ cred (tallyAt (dcell c 3 d) l N))

/-- For offset `d` when layer `l` ends. -/
def finish (d : Fin 16) : sProp 𝕄 :=
  iprop(xs c (pl l) d fullShare (xall m l c) ∗ rsE c d ∗ ssE c d ∗ keep c l d ∗ nextPay (c + d) l (-d)
    ∗ atPos ER (dcell c 0 d) (l.val + 1) ∅ 0 ∗ atPos ER (dcell c 1 (-d)) (l.val + 1) ∅ 0 ∗ atPos ER (dcell c 2 d) (l.val + 1) ∅ 0 ∗ atPos ER (dcell c 3 d) (l.val + 1) ∅ 0
    ∗ reached ER (dcell c 0 d) (l.val + 1) ∗ reached ER (dcell c 2 d) (l.val + 1) ∗ reached ER (dcell c 3 (-d)) (l.val + 1))

/-! ### The parts of it each loop uses -/

def sendIn (d : Fin 16) : sProp 𝕄 :=
  iprop(xsE (c + d) (pl l) (-d) ∗ rsE c d ∗ reached ER (dcell c 3 (-d)) l.val
    ∗ dutyTok ER (dcell c 0 d) l.val 0 ∗ reached ER (dcell c 0 d) l.val
    ∗ dutyTok ER (dcell (c + d) 1 d) l.val 0 ∗ reached ER (dcell (c + d) 1 d) l.val)
def waitIn (s : Fin 16) : sProp 𝕄 := iprop(cred (tallyAt (dcell c 1 (-s)) l N) ∗ atPos ER (dcell c 1 (-s)) l.val ∅ 0)
def waitOut (s : Fin 16) : sProp 𝕄 :=
  iprop(atPos ER (dcell c 1 (-s)) (l.val + 1) ∅ 0 ∗ reached ER (dcell c 1 (-s)) (l.val + 1)
    ∗ xs c (pl l) s fullShare (xall m l c) ∗ rsE (c + s) (-s) ∗ reached ER (dcell (c + s) 3 s) l.val)
def outIn (d : Fin 16) : sProp 𝕄 :=
  iprop(ssE c d ∗ xsE c (opl l) d ∗ dutyTok ER (dcell c 2 d) l.val 0 ∗ reached ER (dcell c 2 d) l.val ∗ dutyTok ER (dcell (c + d) 3 d) l.val 0)
def outMid (d : Fin 16) : sProp 𝕄 :=
  iprop(ssE c d ∗ rsE (c + d) (-d) ∗ nextPay c l d
    ∗ dutyTok ER (dcell c 2 d) l.val 0 ∗ reached ER (dcell c 2 d) l.val
    ∗ dutyTok ER (dcell (c + d) 3 d) l.val 0 ∗ reached ER (dcell (c + d) 3 d) l.val)
def got (d : Fin 16) : sProp 𝕄 := iprop(atPos ER (dcell c 1 (-d)) (l.val + 1) ∅ 0 ∗ keep c l d)
def arrIn (d : Fin 16) : sProp 𝕄 := iprop(cred (tallyAt (dcell c 3 d) l N) ∗ atPos ER (dcell c 3 d) l.val ∅ 0)
def arrOut (e : Fin 16) : sProp 𝕄 :=
  iprop(reached ER (dcell c 3 (-e)) (l.val + 1) ∗ nextPay (c + e) l (-e))

theorem start_parts (d : Fin 16) : iprop(start (F := F) c l d ∗ toks c l d)
    ⊢ iprop(sendIn c l d ∗ (waitIn c l d ∗ outIn c l d) ∗ arrIn c l d ∗ atPos ER (dcell c 0 d) l.val ∅ 0 ∗ atPos ER (dcell c 2 d) l.val ∅ 0) := by
  unfold start toks sendIn waitIn outIn arrIn
  iintro ⟨⟨H1, H2, H3, H4, A0, A1, A2, A3, R0, R2, R3, R1⟩, ⟨T0, T1, T2, T3, C1, C3⟩⟩
  isplitl [H1 H2 R3 T0 R0 T1 R1]
  · isplitl [H1]; · iexact H1
    isplitl [H2]; · iexact H2
    isplitl [R3]; · iexact R3
    isplitl [T0]; · iexact T0
    isplitl [R0]; · iexact R0
    isplitl [T1] <;> iassumption
  isplitl [C1 A1 H3 H4 T2 R2 T3]
  · isplitl [C1 A1]
    · isplitl [C1] <;> iassumption
    isplitl [H3]; · iexact H3
    isplitl [H4]; · iexact H4
    isplitl [T2]; · iexact T2
    isplitl [R2] <;> iassumption
  isplitl [C3 A3]
  · isplitl [C3] <;> iassumption
  isplitl [A0] <;> iassumption

/-- The slot of the other plane goes along with the product, or stays in the last layer. -/
theorem hand_on (d : Fin 16) : iprop(xsE (F := F) c (opl l) d ∗ reached ER (dcell c 1 (-d)) (l.val + 1)) ⊢ iprop(keep c l d ∗ nextPay c l d) := by
  unfold keep nextPay
  by_cases h : l.val < 2
  · rw [if_pos h, if_pos h]
    iintro H
    isplitr; · iempintro
    iexact H
  · rw [if_neg h, if_neg h]
    iintro ⟨H, -⟩
    isplitl [H]; · iexact H
    iempintro

/-- Once a slot's rows are in, what its product send needs is there. -/
theorem out_ready (d : Fin 16) : iprop(waitOut m c l d ∗ outIn c l d) ⊢ iprop((xs c (pl l) d fullShare (xall m l c) ∗ got c l d) ∗ outMid (F := F) c l d) := by
  unfold waitOut outIn got outMid
  iintro ⟨⟨A, R1, X, Rr, R3⟩, ⟨H3, H4, T2, R2, T3⟩⟩
  ihave H := (hand_on (F := F) c l d) $$ [H4 R1]
  · isplitl [H4] <;> iassumption
  icases H with ⟨Hk, Hn⟩
  isplitl [A X Hk]
  · isplitl [X]; · iexact X
    isplitl [A] <;> iassumption
  isplitl [H3]; · iexact H3
  isplitl [Rr]; · iexact Rr
  isplitl [Hn]; · iexact Hn
  isplitl [T2]; · iexact T2
  isplitl [R2]; · iexact R2
  isplitl [T3] <;> iassumption

end Held

/-! ## The loops -/

section Loops
variable (c : Dev nD) (l : Fin 3) (O : CellTallies nD τ sig (Fin 3))

theorem wp_sends (Q : PUnit.{1} → sProp 𝕄) (k : Pg F) :
    iprop(bigSep offs.toFinset (fun d => iprop(xs c (pl l) 0 (lendSh d) (xall m l c) ∗ sendIn c l d)) ∗ (records m K ∗ own c (owedL (tAg c l) offs + O)))
      ⊢ iprop(((bigSep offs.toFinset (fun d => cred (tallyAt (dcell c 0 d) l N)) ∗ (records m K ∗ own c (owedL (tAg c l) [] + O))) -∗ wpc c k Q)
        -∗ wpc c (eachK offs (agSendK c l) k) Q) :=
  wp_eachK c (agSendK c l) (fun d => iprop(xs c (pl l) 0 (lendSh d) (xall m l c) ∗ sendIn c l d)) (fun d => cred (tallyAt (dcell c 0 d) l N))
    (fun ds => iprop(records m K ∗ own c (owedL (tAg c l) ds + O))) Q k offs (by decide) fun d hd ds k' => by
    have hd0 : d ≠ 0 := by revert d; decide
    rw [owedL_cons, add_comm (tAg c l d), add_assoc, add_comm (tAg c l d), ← add_assoc]
    unfold sendIn
    iintro ⟨⟨X, X', Rr, R3, T0, R0, T1, R1⟩, #HK, HO⟩ Hk
    iapply (wp_agSendK m K c l (owedL (tAg c l) ds + O) Q k' d hd0) $$ [X X' Rr R3 T0 R0 T1 R1 HO]
    · isplitr; · iexact HK
      isplitl [HO]; · iexact HO
      isplitl [X]; · iexact X
      isplitl [X']; · iexact X'
      isplitl [Rr]; · iexact Rr
      isplitl [R3]; · iexact R3
      isplitl [T0]; · iexact T0
      isplitl [R0]; · iexact R0
      isplitl [T1] <;> iassumption
    iintro ⟨HO, Hc⟩
    iapply Hk
    isplitl [Hc]; · iexact Hc
    isplitr; · iexact HK
    iexact HO

theorem wp_arrivals (Q : PUnit.{1} → sProp 𝕄) (k : Pg F) (hO : Above (3 + 2 * l.val) O) :
    iprop(bigSep offs.toFinset (arrIn c l) ∗ (records m K ∗ levAts L lv ∗ own c O))
      ⊢ iprop(((bigSep offs.toFinset (fun d => iprop(atPos ER (dcell c 3 d) (l.val + 1) ∅ 0 ∗ reached ER (dcell c 3 d) (l.val + 1) ∗ rs c (-d) (rall m l c) ∗ nextPay (c - d) l d))
          ∗ (records m K ∗ levAts L lv ∗ own c O)) -∗ wpc c k Q)
        -∗ wpc c (eachK offs rsWaitK k) Q) :=
  wp_eachK c rsWaitK (arrIn c l) (fun d => iprop(atPos ER (dcell c 3 d) (l.val + 1) ∅ 0 ∗ reached ER (dcell c 3 d) (l.val + 1) ∗ rs c (-d) (rall m l c) ∗ nextPay (c - d) l d))
    (fun ds => iprop(records m K ∗ levAts L lv ∗ own c O)) Q k offs (by decide) fun d hd ds k' => by
    have hd0 : d ≠ 0 := by revert d; decide
    unfold arrIn
    iintro ⟨⟨Hc, A⟩, #HK, #Hlev, HO⟩ Hk
    iapply (wp_rsWaitK m K c l O Q k' d hd0 hO) $$ [Hc A HO]
    · isplitr; · iexact HK
      isplitr; · iexact Hlev
      isplitl [HO]; · iexact HO
      isplitl [Hc] <;> iassumption
    iintro ⟨HO, H⟩
    iapply Hk
    isplitl [H]; · iexact H
    isplitr; · iexact HK
    isplitr; · iexact Hlev
    iexact HO

theorem wp_sent (Q : PUnit.{1} → sProp 𝕄) (k : Pg F) (hO : Above 0 O) :
    iprop(bigSep offs.toFinset (fun d => iprop(cred (tallyAt (dcell c 0 d) l N) ∗ atPos ER (dcell c 0 d) l.val ∅ 0)) ∗ (records m K ∗ levAts L lv ∗ own c O))
      ⊢ iprop(((bigSep offs.toFinset (fun d => iprop(atPos ER (dcell c 0 d) (l.val + 1) ∅ 0 ∗ reached ER (dcell c 0 d) (l.val + 1) ∗ xs c (pl l) 0 (lendSh d) (xall m l c)))
          ∗ (records m K ∗ levAts L lv ∗ own c O)) -∗ wpc c k Q)
        -∗ wpc c (eachK offs (agDoneK l) k) Q) :=
  wp_eachK c (agDoneK l) (fun d => iprop(cred (tallyAt (dcell c 0 d) l N) ∗ atPos ER (dcell c 0 d) l.val ∅ 0))
    (fun d => iprop(atPos ER (dcell c 0 d) (l.val + 1) ∅ 0 ∗ reached ER (dcell c 0 d) (l.val + 1) ∗ xs c (pl l) 0 (lendSh d) (xall m l c)))
    (fun ds => iprop(records m K ∗ levAts L lv ∗ own c O)) Q k offs (by decide) fun d hd ds k' => by
    have hd0 : d ≠ 0 := by revert d; decide
    iintro ⟨⟨Hc, A⟩, #HK, #Hlev, HO⟩ Hk
    iapply (wp_agDoneK m K c l O Q k' d hd0 hO) $$ [Hc A HO]
    · isplitr; · iexact HK
      isplitr; · iexact Hlev
      isplitl [HO]; · iexact HO
      isplitl [Hc] <;> iassumption
    iintro ⟨HO, H⟩
    iapply Hk
    isplitl [H]; · iexact H
    isplitr; · iexact HK
    isplitr; · iexact Hlev
    iexact HO

theorem wp_outSent (Q : PUnit.{1} → sProp 𝕄) (k : Pg F) (hO : Above 0 O) :
    iprop(bigSep outs.toFinset (fun d => iprop(cred (tallyAt (dcell c 2 d) l N) ∗ atPos ER (dcell c 2 d) l.val ∅ 0)) ∗ (records m K ∗ levAts L lv ∗ own c O))
      ⊢ iprop(((bigSep outs.toFinset (fun d => iprop(atPos ER (dcell c 2 d) (l.val + 1) ∅ 0 ∗ reached ER (dcell c 2 d) (l.val + 1) ∗ ss c d (sall m l c)))
          ∗ (records m K ∗ levAts L lv ∗ own c O)) -∗ wpc c k Q)
        -∗ wpc c (eachK outs rsDoneK k) Q) :=
  wp_eachK c rsDoneK (fun d => iprop(cred (tallyAt (dcell c 2 d) l N) ∗ atPos ER (dcell c 2 d) l.val ∅ 0))
    (fun d => iprop(atPos ER (dcell c 2 d) (l.val + 1) ∅ 0 ∗ reached ER (dcell c 2 d) (l.val + 1) ∗ ss c d (sall m l c)))
    (fun ds => iprop(records m K ∗ levAts L lv ∗ own c O)) Q k outs (by decide) fun d hd ds k' => by
    have hd0 : d ≠ 0 := by revert d; decide
    iintro ⟨⟨Hc, A⟩, #HK, #Hlev, HO⟩ Hk
    iapply (wp_rsDoneK m K c l O Q k' d hd0 hO) $$ [Hc A HO]
    · isplitr; · iexact HK
      isplitr; · iexact Hlev
      isplitl [HO]; · iexact HO
      isplitl [Hc] <;> iassumption
    iintro ⟨HO, H⟩
    iapply Hk
    isplitl [H]; · iexact H
    isplitr; · iexact HK
    isplitr; · iexact Hlev
    iexact HO

/-- A group's waits. -/
theorem wp_waits (Q : PUnit.{1} → sProp 𝕄) (k : Pg F) (q : Fin 4) (hO : Above (2 + 2 * l.val) O) :
    iprop(bigSep (grpIn q).toFinset (waitIn c l) ∗ (records m K ∗ levAts L lv ∗ own c O))
      ⊢ iprop(((bigSep (grpIn q).toFinset (waitOut m c l) ∗ (records m K ∗ levAts L lv ∗ own c O)) -∗ wpc c k Q)
        -∗ wpc c (eachK (grpIn q) (agWaitK l) k) Q) :=
  wp_eachK c (agWaitK l) (waitIn c l) (waitOut m c l) (fun ds => iprop(records m K ∗ levAts L lv ∗ own c O)) Q k (grpIn q) (grpIn_nodup q) fun d hd ds k' => by
    have hd0 : d ≠ 0 := grpIn_ne q d hd
    unfold waitIn waitOut
    iintro ⟨⟨Hc, A⟩, #HK, #Hlev, HO⟩ Hk
    iapply (wp_agWaitK m K c l O Q k' d hd0 hO) $$ [Hc A HO]
    · isplitr; · iexact HK
      isplitr; · iexact Hlev
      isplitl [HO]; · iexact HO
      isplitl [Hc] <;> iassumption
    iintro ⟨HO, H⟩
    iapply Hk
    isplitl [H]; · iexact H
    isplitr; · iexact HK
    isplitr; · iexact Hlev
    iexact HO

/-- A group's product sends. -/
theorem wp_outs (Q : PUnit.{1} → sProp 𝕄) (k : Pg F) (q : Fin 4) :
    iprop(bigSep (grpOut q).toFinset (outMid c l) ∗ (records m K ∗ ys c q (yall m l c) ∗ own c (owedL (tRs c l) (grpOut q) + O)))
      ⊢ iprop(((bigSep (grpOut q).toFinset (fun d => cred (tallyAt (dcell c 2 d) l N)) ∗ (records m K ∗ ys c q (yall m l c) ∗ own c (owedL (tRs c l) [] + O))) -∗ wpc c k Q)
        -∗ wpc c (eachK (grpOut q) (outK c l) k) Q) :=
  wp_eachK c (outK c l) (outMid c l) (fun d => cred (tallyAt (dcell c 2 d) l N))
    (fun ds => iprop(records m K ∗ ys c q (yall m l c) ∗ own c (owedL (tRs c l) ds + O))) Q k (grpOut q) (grpOut_nodup q) fun d hd ds k' => by
    have hd0 : d ≠ 0 := grpOut_ne q d hd
    rw [owedL_cons, add_comm (tRs c l d), add_assoc, add_comm (tRs c l d), ← add_assoc]
    unfold outMid
    iintro ⟨H, #HK, Hy, HO⟩ Hk
    iapply (wp_outK m K c l (owedL (tRs c l) ds + O) Q k' q d hd0 (grpOut_grp q d hd)) $$ [H Hy HO]
    · isplitr; · iexact HK
      isplitl [HO]; · iexact HO
      isplitl [Hy] <;> iassumption
    iintro ⟨HO, Hy, Hc⟩
    iapply Hk
    isplitl [Hc]; · iexact Hc
    isplitr; · iexact HK
    isplitl [Hy] <;> iassumption

end Loops

end Cert.KernelIdeal.Mlp
-- ==== Proof.Group.lean ====
/-
# A row group, and the layer

A group waits for its rows, multiplies them and sends the blocks of the product. A layer sends its rows, runs the four
groups, waits for the peers' blocks, adds them up and waits for its own sends.
-/
module

public import Idealize.ShloMosaic.Lib.VecWindow
public import proofs.«01_k».proof.Proof.Layer

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 3) (Elt F) ℕ UU ℕ

variable (m : (ℓ : Loc nD τ sig) → Buf (Elt F) ℓ)
variable (K : Dev nD × Option (Fin 4 × Fin 16) → ℕ)

omit [FloatOps F] in
theorem sep_assoc_eq (A B C : sProp 𝕄) : iprop((A ∗ B) ∗ C) = iprop(A ∗ B ∗ C) :=
  BI.Entails.antisymm
    (show iprop((A ∗ B) ∗ C) ⊢ iprop(A ∗ B ∗ C) from by
      iintro ⟨⟨HA, HB⟩, HC⟩
      isplitl [HA]; · iexact HA
      isplitl [HB] <;> iassumption)
    (show iprop(A ∗ B ∗ C) ⊢ iprop((A ∗ B) ∗ C) from by
      iintro ⟨HA, HB, HC⟩
      isplitl [HA HB]
      · isplitl [HA] <;> iassumption
      iexact HC)

section Group
variable (c : Dev nD) (l : Fin 3) (O : CellTallies nD τ sig (Fin 3))

omit [FloatOps F] in
/-- A group's rows at one half share, from the slots that came and the one that was there. -/
theorem rows_half (p : Fin 2) (q : Fin 4) (f : (cc0_scratch0 : Ref sig .tc).ty.Contents (Elt F)) :
    iprop(bigSep (G q) (fun d => xs c p d fullShare f) ∗ bigSep (S q) (fun d => xs c p d fullShare.right f))
      = (iprop(bigSep (G q) (fun d => xs c p d fullShare.left f) ∗ bigSep (grp q) (fun d => xs c p d fullShare.right f)) : sProp 𝕄) := by
  have hu (Φ : Fin 16 → sProp 𝕄) : bigSep (G q ∪ S q) Φ = iprop(bigSep (G q) Φ ∗ bigSep (S q) Φ) := bigSep_union (grp_disj q)
  rw [grp_union, hu, bigSep_congr fun d _ => xs_halves c p d f, bigSep_sep' (G q), sep_assoc_eq]

/-- What a group takes, and what it leaves. -/
def grpPre (q : Fin 4) : sProp 𝕄 :=
  iprop(ysE c q ∗ bigSep (S q) (fun d => xs c (pl l) d fullShare.right (xall m l c)) ∗ bigSep (G q) (fun d => iprop(waitIn c l d ∗ outIn c l d)))
def grpPost (q : Fin 4) : sProp 𝕄 :=
  iprop(ys c q (yall m l c) ∗ bigSep (S q) (fun d => xs c (pl l) d fullShare.right (xall m l c))
    ∗ bigSep (G q) (fun d => iprop((xs c (pl l) d fullShare (xall m l c) ∗ got c l d) ∗ cred (tallyAt (dcell c 2 d) l N))))

theorem wp_groupK (Q : PUnit.{1} → sProp 𝕄) (k : Pg F) (q : Fin 4) (hO : Above (2 + 2 * l.val) O) :
    iprop(grpPre m c l q ∗ (records m K ∗ levAts L lv ∗ own c (owedL (tRs c l) (grpOut q) + O)))
      ⊢ iprop(((grpPost m c l q ∗ (records m K ∗ levAts L lv ∗ own c O)) -∗ wpc c k Q)
        -∗ wpc c (groupK c l (k0_pay2 (wIn m l c)) (k0_pay3 (wOut m l c)) q k) Q) := by
  unfold grpPre grpPost groupK
  have hO' : Above (2 + 2 * l.val) (owedL (tRs c l) (grpOut q) + O) := (above_rs c l _ (grpOut_ne q)).add hO
  have hw := fun k' => wp_waits m K c l (owedL (tRs c l) (grpOut q) + O) Q k' q hO'
  have ho := wp_outs m K c l O Q k q
  rw [grpIn_G] at hw
  rw [grpOut_G, owedL_nil, zero_add] at ho
  have s1 := bigSep_sep' (G q) (waitIn (F := F) c l) (outIn c l)
  have s2 := bigSep_sep' (G q) (waitOut m c l) (outIn c l)
  have s3 := bigSep_sep' (G q) (fun d => iprop(xs c (pl l) d fullShare (xall m l c) ∗ got c l d)) (outMid (F := F) c l)
  have s4 := bigSep_sep' (G q) (fun d => iprop(xs c (pl l) d fullShare (xall m l c) ∗ got c l d)) (fun d => cred (tallyAt (dcell c 2 d) l N))
  have s5 := bigSep_sep' (G q) (fun d => (xs c (pl l) d fullShare (xall m l c) : sProp 𝕄)) (got c l)
  rw [s1, s4, s5]
  rw [s5] at s3
  have mid : iprop(bigSep (G q) (waitOut m c l) ∗ bigSep (G q) (outIn c l)) ⊢ iprop((bigSep (G q) (fun d => xs c (pl l) d fullShare (xall m l c)) ∗ bigSep (G q) (got c l)) ∗ bigSep (G q) (outMid (F := F) c l)) :=
    (Entails.of_eq s2.symm).trans ((bigSep_mono fun d _ => out_ready m c l d).trans (Entails.of_eq s3))
  iintro ⟨⟨Hy, HS, Hw, Ho⟩, #HK, #Hlev, HO⟩ Hk
  iapply (hw _) $$ [Hw HO]
  · isplitl [Hw]; · iexact Hw
    isplitr; · iexact HK
    isplitr; · iexact Hlev
    iexact HO
  iintro ⟨Hw, -, -, HO⟩
  ihave H := mid $$ [Hw Ho]
  · isplitl [Hw] <;> iassumption
  icases H with ⟨⟨Hx, Hg⟩, Hm⟩
  ihave Hr := (Entails.of_eq (rows_half c (pl l) q (xall m l c))) $$ [Hx HS]
  · isplitl [Hx] <;> iassumption
  icases Hr with ⟨Hleft, Hright⟩
  iapply (wp_rows c Q _ (pl l) q fullShare.right (X m l.val)) $$ Hright
  iintro Hright
  ihave Hr := (Entails.of_eq (rows_half c (pl l) q (xall m l c)).symm) $$ [Hleft Hright]
  · isplitl [Hleft] <;> iassumption
  icases Hr with ⟨Hx, HS⟩
  iapply (wp_prod m c l Q (eachK (grpOut q) (outK c l) k) q _ rfl) $$ Hy
  iintro Hy
  iapply ho $$ [Hm Hy HO]
  · isplitl [Hm]; · iexact Hm
    isplitr; · iexact HK
    isplitl [Hy] <;> iassumption
  iintro ⟨Hc, -, Hy, HO⟩
  iapply Hk
  isplitl [Hy HS Hx Hg Hc]
  · isplitl [Hy]; · iexact Hy
    isplitl [HS]; · iexact HS
    isplitl [Hx Hg]
    · isplitl [Hx] <;> iassumption
    iexact Hc
  isplitr; · iexact HK
  isplitr; · iexact Hlev
  iexact HO

/-- The four groups. -/
theorem wp_groups (Q : PUnit.{1} → sProp 𝕄) (k : Pg F) (hO : Above (2 + 2 * l.val) O) :
    iprop(bigSep grps.toFinset (grpPre m c l) ∗ (records m K ∗ levAts L lv ∗ own c (owedL (tRs c l) (grps.flatMap grpOut) + O)))
      ⊢ iprop(((bigSep grps.toFinset (grpPost m c l) ∗ (records m K ∗ levAts L lv ∗ own c (owedL (tRs c l) (([] : List (Fin 4)).flatMap grpOut) + O))) -∗ wpc c k Q)
        -∗ wpc c (eachK grps (groupK c l (k0_pay2 (wIn m l c)) (k0_pay3 (wOut m l c))) k) Q) :=
  wp_eachK c (groupK c l (k0_pay2 (wIn m l c)) (k0_pay3 (wOut m l c))) (grpPre m c l) (grpPost m c l)
    (fun qs => iprop(records m K ∗ levAts L lv ∗ own c (owedL (tRs c l) (qs.flatMap grpOut) + O))) Q k grps (by decide) fun q hq qs k' => by
    have hO' : Above (2 + 2 * l.val) (owedL (tRs c l) (qs.flatMap grpOut) + O) :=
      (above_rs c l _ fun d hd => by obtain ⟨q', -, h⟩ := List.mem_flatMap.mp hd; exact grpOut_ne q' d h).add hO
    have h := wp_groupK m K c l (owedL (tRs c l) (qs.flatMap grpOut) + O) Q k' q hO'
    rw [List.flatMap_cons, owedL_append, add_assoc]
    exact h

end Group

/-! ## The layer -/

section Layer
variable (c : Dev nD) (l : Fin 3) (O : CellTallies nD τ sig (Fin 3))

/-- A whole window read. -/
theorem wp_window (Q : PUnit.{1} → sProp 𝕄) {s : Shape} {e : EltTy} (M : Memref sig .tc .vmem s e) (x : s.Idx → Elt F e) (k : (s.Idx → Elt F e) → Pg F)
    {off : Fin s.rank → ℕ} (inb : ∀ a, off a + s.size a ≤ s.size a) {hl : M.view.LoadsAt (Rect.unit off s.size inb).toLoadRect} :
    (owns (c : Thread nD τ) M fullShare x : sProp 𝕄) ⊢ iprop((owns (c : Thread nD τ) M fullShare x -∗ wpc c (k x) Q)
      -∗ wpc c (Prog.op (.load M (Rect.unit off s.size inb).toLoadRect hl) fun v => by exact k v) Q) := by
  unfold owns
  iintro ⟨%f, %hf, Hm⟩ Hk
  iapply (wp_load 𝒱₀ (c : Thread nD τ) none Set.univ (m := M) (S := M.view.set) (View.setOn_subset_set _ _)) $$ Hm
  iintro Hm
  rw [show M.view.readAt (Elt F) (Rect.unit off s.size inb).toLoadRect f = x from (View.readAt_full M.view f inb).trans hf]
  iapply Hk
  iexists f
  isplitr; · ipureintro; exact hf
  iexact Hm

/-- The two weight blocks of layer `l`. -/
def weights : sProp 𝕄 := iprop(owns (c : Thread nD τ) (WI l) fullShare (wIn m l c) ∗ owns (c : Thread nD τ) (WO l) fullShare (wOut m l c))

/-- The slots that came, the blocks that arrived and what came with them, the places in the rounds. -/
def lastly (d : Fin 16) : sProp 𝕄 :=
  iprop((xs c (pl l) d fullShare (xall m l c) ∗ got c l d) ∗ (atPos ER (dcell c 3 d) (l.val + 1) ∅ 0 ∗ rs c d (rall m l c) ∗ arrOut c l d)
    ∗ (atPos ER (dcell c 0 d) (l.val + 1) ∅ 0 ∗ reached ER (dcell c 0 d) (l.val + 1)) ∗ atPos ER (dcell c 2 d) (l.val + 1) ∅ 0 ∗ reached ER (dcell c 2 d) (l.val + 1) ∗ ss c d (sall m l c))

theorem finish_parts (d : Fin 16) : lastly m c l d ⊢ finish m c l d := by
  unfold lastly finish got arrOut
  iintro ⟨⟨X, A1, Hk⟩, ⟨A3, Hr, R3, Hn⟩, ⟨A0, R0⟩, A2, R2, Hs⟩
  isplitl [X]; · iexact X
  isplitl [Hr]; · unfold rsE; iexists _; iexact Hr
  isplitl [Hs]; · unfold ssE; iexists _; iexact Hs
  isplitl [Hk]; · iexact Hk
  isplitl [Hn]; · iexact Hn
  isplitl [A0]; · iexact A0
  isplitl [A1]; · iexact A1
  isplitl [A2]; · iexact A2
  isplitl [A3]; · iexact A3
  isplitl [R0]; · iexact R0
  isplitl [R2] <;> iassumption

/-- The arrivals, turned round: by the device that sent instead of the one it is to be sent on to. -/
theorem arrivals_turn :
    (bigSep E fun d => iprop(atPos ER (dcell c 3 d) (l.val + 1) ∅ 0 ∗ reached ER (dcell c 3 d) (l.val + 1) ∗ rs c (-d) (rall m l c) ∗ nextPay (c - d) l d))
      ⊢ iprop(bigSep E (fun d => rs c d (rall m l c)) ∗ bigSep E (fun d => atPos ER (dcell c 3 d) (l.val + 1) ∅ 0) ∗ bigSep E (arrOut (F := F) c l)) := by
  have h1 := bigSep_sep' E (fun d => (atPos ER (dcell c 3 d) (l.val + 1) ∅ 0 : sProp 𝕄)) (fun d => iprop(rs c (-d) (rall m l c) ∗ arrOut c l (-d)))
  have h2 := bigSep_sep' E (fun d => (rs c (-d) (rall m l c) : sProp 𝕄)) (fun d => arrOut c l (-d))
  have h3 := bigSep_neg (fun d => (rs c d (rall m l c) : sProp 𝕄))
  have h4 := bigSep_neg (arrOut (F := F) c l)
  have step (d : Fin 16) : iprop(atPos ER (dcell c 3 d) (l.val + 1) ∅ 0 ∗ reached ER (dcell c 3 d) (l.val + 1) ∗ rs c (-d) (rall m l c) ∗ nextPay (c - d) l d)
      ⊢ iprop(atPos ER (dcell c 3 d) (l.val + 1) ∅ 0 ∗ rs c (-d) (rall m l c) ∗ arrOut (F := F) c l (-d)) := by
    unfold arrOut
    rw [off_neg_neg, dev_sub_eq]
    iintro ⟨A, R, H, Hn⟩
    isplitl [A]; · iexact A
    isplitl [H]; · iexact H
    isplitl [R] <;> iassumption
  refine (bigSep_mono fun d _ => step d).trans ?_
  rw [h1, h2, h3, h4]
  exact (show iprop(bigSep E (fun d => atPos ER (dcell c 3 d) (l.val + 1) ∅ 0) ∗ bigSep E (fun d => rs c d (rall m l c)) ∗ bigSep E (arrOut (F := F) c l)) ⊢ _ from by
    iintro ⟨A, B, C⟩
    isplitl [B]; · iexact B
    isplitl [A] <;> iassumption)

/-- The source slot dealt over the sends, the other half share kept for the load. -/
theorem source_deal : (xs c (pl l) 0 fullShare (xall m l c) : sProp 𝕄)
    = iprop(bigSep E (fun d => xs c (pl l) 0 (lendSh d) (xall m l c)) ∗ bigSep Finset.univ (fun q => bigSep (S q) fun d => xs c (pl l) d fullShare.right (xall m l c))) := by
  rw [xs_halves, xs_deal, bigSep_zero]

/-- What a layer needs beside the weights, and what it leaves. -/
def layPre : sProp 𝕄 := iprop(bigSep E (fun d => iprop(start c l d ∗ toks c l d)) ∗ xs c (pl l) 0 fullShare (xall m l c) ∗ bigSep Finset.univ (ysE c))
def layPost : sProp 𝕄 := iprop(bigSep E (finish m c l) ∗ xs c (pl l) 0 fullShare (xall m l c) ∗ bigSep Finset.univ (ysE c))

theorem layPre_parts : layPre m c l ⊢ iprop(bigSep E (fun d => iprop(xs c (pl l) 0 (lendSh d) (xall m l c) ∗ sendIn c l d)) ∗ bigSep Finset.univ (grpPre m c l)
    ∗ bigSep E (arrIn c l) ∗ bigSep E (fun d => atPos ER (dcell c 0 d) l.val ∅ 0) ∗ bigSep E (fun d => atPos ER (dcell c 2 d) l.val ∅ 0)) := by
  unfold layPre grpPre
  have hs := bigSep_sep' E (fun d => (xs c (pl l) 0 (lendSh d) (xall m l c) : sProp 𝕄)) (sendIn c l)
  have h1 := bigSep_sep' Finset.univ (ysE (F := F) c) (fun q => iprop(bigSep (S q) (fun d => xs c (pl l) d fullShare.right (xall m l c)) ∗ bigSep (G q) (fun d => iprop(waitIn c l d ∗ outIn c l d))))
  have h2 := bigSep_sep' Finset.univ (fun q => (bigSep (S q) (fun d => xs c (pl l) d fullShare.right (xall m l c)) : sProp 𝕄)) (fun q => bigSep (G q) (fun d => iprop(waitIn c l d ∗ outIn c l d)))
  have p1 := bigSep_sep' E (sendIn (F := F) c l) (fun d => iprop((waitIn c l d ∗ outIn c l d) ∗ arrIn c l d ∗ atPos ER (dcell c 0 d) l.val ∅ 0 ∗ atPos ER (dcell c 2 d) l.val ∅ 0))
  have p2 := bigSep_sep' E (fun d => iprop(waitIn (F := F) c l d ∗ outIn c l d)) (fun d => iprop(arrIn c l d ∗ atPos ER (dcell c 0 d) l.val ∅ 0 ∗ atPos ER (dcell c 2 d) l.val ∅ 0))
  have p3 := bigSep_sep' E (arrIn (F := F) c l) (fun d => iprop(atPos ER (dcell c 0 d) l.val ∅ 0 ∗ atPos ER (dcell c 2 d) l.val ∅ 0))
  have p4 := bigSep_sep' E (fun d => (atPos ER (dcell c 0 d) l.val ∅ 0 : sProp 𝕄)) (fun d => atPos ER (dcell c 2 d) l.val ∅ 0)
  have g := bigSep_groups (fun d => iprop(waitIn (F := F) c l d ∗ outIn c l d))
  rw [hs, h1, h2, g, source_deal]
  have st : bigSep E (fun d => iprop(start (F := F) c l d ∗ toks c l d)) ⊢ _ := (bigSep_mono fun d _ => start_parts c l d).trans (Entails.of_eq (p1.trans (by rw [p2, p3, p4])))
  iintro ⟨H, ⟨Hl, Hr⟩, Hy⟩
  ihave H := st $$ H
  icases H with ⟨H1, H2, H3, H4, H5⟩
  isplitl [Hl H1]
  · isplitl [Hl] <;> iassumption
  isplitl [Hy Hr H2]
  · isplitl [Hy]; · iexact Hy
    isplitl [Hr] <;> iassumption
  isplitl [H3]; · iexact H3
  isplitl [H4] <;> iassumption

theorem grpPost_parts : (bigSep Finset.univ (grpPost m c l) : sProp 𝕄)
    = iprop(bigSep Finset.univ (fun q => ys c q (yall m l c)) ∗ bigSep Finset.univ (fun q => bigSep (S q) fun d => xs c (pl l) d fullShare.right (xall m l c))
      ∗ bigSep E (fun d => iprop(xs c (pl l) d fullShare (xall m l c) ∗ got c l d)) ∗ bigSep E (fun d => cred (tallyAt (dcell c 2 d) l N))) := by
  unfold grpPost
  have h1 := bigSep_sep' Finset.univ (fun q => (ys c q (yall m l c) : sProp 𝕄))
    (fun q => iprop(bigSep (S q) (fun d => xs c (pl l) d fullShare.right (xall m l c)) ∗ bigSep (G q) (fun d => iprop((xs c (pl l) d fullShare (xall m l c) ∗ got c l d) ∗ cred (tallyAt (dcell c 2 d) l N)))))
  have h2 := bigSep_sep' Finset.univ (fun q => (bigSep (S q) (fun d => xs c (pl l) d fullShare.right (xall m l c)) : sProp 𝕄))
    (fun q => bigSep (G q) (fun d => iprop((xs c (pl l) d fullShare (xall m l c) ∗ got c l d) ∗ cred (tallyAt (dcell c 2 d) l N))))
  have g := bigSep_groups (fun d => iprop((xs c (pl l) d fullShare (xall m l c) ∗ got (F := F) c l d) ∗ cred (tallyAt (dcell c 2 d) l N)))
  have h3 := bigSep_sep' E (fun d => iprop(xs c (pl l) d fullShare (xall m l c) ∗ got (F := F) c l d)) (fun d => cred (tallyAt (dcell c 2 d) l N))
  rw [h1, h2, g, h3]

theorem layPost_parts :
    iprop(bigSep E (fun d => iprop(xs c (pl l) d fullShare (xall m l c) ∗ got c l d)) ∗ (bigSep E (fun d => rs c d (rall m l c)) ∗ bigSep E (fun d => atPos ER (dcell c 3 d) (l.val + 1) ∅ 0) ∗ bigSep E (arrOut (F := F) c l))
        ∗ bigSep E (fun d => iprop(atPos ER (dcell c 0 d) (l.val + 1) ∅ 0 ∗ reached ER (dcell c 0 d) (l.val + 1) ∗ xs c (pl l) 0 (lendSh d) (xall m l c)))
        ∗ bigSep E (fun d => iprop(atPos ER (dcell c 2 d) (l.val + 1) ∅ 0 ∗ reached ER (dcell c 2 d) (l.val + 1) ∗ ss c d (sall m l c)))
        ∗ bigSep Finset.univ (fun q => bigSep (S q) fun d => xs c (pl l) d fullShare.right (xall m l c)) ∗ bigSep Finset.univ (fun q => ys c q (yall m l c)))
      ⊢ layPost m c l := by
  unfold layPost
  have p1 := bigSep_sep' E (fun d => iprop(xs c (pl l) d fullShare (xall m l c) ∗ got (F := F) c l d))
    (fun d => iprop((atPos ER (dcell c 3 d) (l.val + 1) ∅ 0 ∗ rs c d (rall m l c) ∗ arrOut c l d)
      ∗ (atPos ER (dcell c 0 d) (l.val + 1) ∅ 0 ∗ reached ER (dcell c 0 d) (l.val + 1)) ∗ atPos ER (dcell c 2 d) (l.val + 1) ∅ 0 ∗ reached ER (dcell c 2 d) (l.val + 1) ∗ ss c d (sall m l c)))
  have p2 := bigSep_sep' E (fun d => iprop(atPos ER (dcell c 3 d) (l.val + 1) ∅ 0 ∗ rs c d (rall m l c) ∗ arrOut (F := F) c l d))
    (fun d => iprop((atPos ER (dcell c 0 d) (l.val + 1) ∅ 0 ∗ reached ER (dcell c 0 d) (l.val + 1)) ∗ atPos ER (dcell c 2 d) (l.val + 1) ∅ 0 ∗ reached ER (dcell c 2 d) (l.val + 1) ∗ ss c d (sall m l c)))
  have p3 := bigSep_sep' E (fun d => (iprop(atPos ER (dcell c 0 d) (l.val + 1) ∅ 0 ∗ reached ER (dcell c 0 d) (l.val + 1)) : sProp 𝕄))
    (fun d => iprop(atPos ER (dcell c 2 d) (l.val + 1) ∅ 0 ∗ reached ER (dcell c 2 d) (l.val + 1) ∗ ss c d (sall m l c)))
  have p4 := bigSep_sep' E (fun d => (atPos ER (dcell c 3 d) (l.val + 1) ∅ 0 : sProp 𝕄)) (fun d => iprop(rs c d (rall m l c) ∗ arrOut c l d))
  have p5 := bigSep_sep' E (fun d => (rs c d (rall m l c) : sProp 𝕄)) (arrOut c l)
  have p6 := bigSep_sep' E (fun d => (iprop(atPos ER (dcell c 0 d) (l.val + 1) ∅ 0 ∗ reached ER (dcell c 0 d) (l.val + 1)) : sProp 𝕄)) (fun d => xs c (pl l) 0 (lendSh d) (xall m l c))
  have y1 (q : Fin 4) : (ys c q (yall m l c) : sProp 𝕄) ⊢ ysE c q := by
    unfold ysE
    iintro H
    iexists _
    iexact H
  have yd : bigSep Finset.univ (fun q => (ys c q (yall m l c) : sProp 𝕄)) ⊢ bigSep Finset.univ (ysE c) := bigSep_mono fun q _ => y1 q
  have fin : bigSep E (lastly m c l) ⊢ bigSep E (finish m c l) := bigSep_mono fun d _ => finish_parts m c l d
  unfold lastly at fin
  rw [p1, p2, p3, p4, p5] at fin
  rw [source_deal, show (bigSep E fun d => (iprop(atPos ER (dcell c 0 d) (l.val + 1) ∅ 0 ∗ reached ER (dcell c 0 d) (l.val + 1) ∗ xs c (pl l) 0 (lendSh d) (xall m l c)) : sProp 𝕄)) = _ from
    (bigSep_congr fun d _ => (sep_assoc_eq _ _ _).symm).trans p6]
  iintro ⟨H1, ⟨Hr, H3, Ha⟩, ⟨H4, Hl⟩, H5, HS, Hy⟩
  isplitl [H1 Hr H3 Ha H4 H5]
  · iapply fin
    isplitl [H1]; · iexact H1
    isplitl [Hr H3 Ha]
    · isplitl [H3]; · iexact H3
      isplitl [Hr] <;> iassumption
    isplitl [H4] <;> iassumption
  isplitl [Hl HS]
  · isplitl [Hl] <;> iassumption
  iapply yd $$ Hy

/-- The layer: `k` is given the rows of the next one. -/
theorem wp_layerK (Q : PUnit.{1} → sProp 𝕄) (k : FVec F S64x512 .f32 → Pg F) (hO : Above (3 + 2 * l.val) O) :
    iprop(layPre m c l ∗ weights m c l ∗ records m K ∗ levAts L lv ∗ own c (oLay c l + O))
      ⊢ iprop((layPost m c l ∗ weights m c l ∗ records m K ∗ levAts L lv ∗ own c O -∗ wpc c (k (acc m l c)) Q) -∗ wpc c (layerK c l k) Q) := by
  have h1 := wp_sends m K c l (owedL (tRs c l) outs + O) Q
  have h2 := wp_groups m K c l O Q
  have h3 := wp_arrivals m K c l O Q
  have h4 := wp_sent m K c l O Q
  have h5 := wp_outSent m K c l O Q
  have e0 : outs.toFinset = E := outs_E
  have hy : (iprop(bigSep Finset.univ (fun q => ys c q (yall m l c))) ⊢ iprop(ys c 0 (yall m l c) ∗ bigSep (Finset.univ.erase 0) (fun q => ys c q (yall m l c))))
      ∧ (iprop(ys c 0 (yall m l c) ∗ bigSep (Finset.univ.erase 0) (fun q => ys c q (yall m l c))) ⊢ bigSep Finset.univ (fun q => (ys c q (yall m l c) : sProp 𝕄))) :=
    have h := bigSep_univ_split (Φ := fun q => (ys c q (yall m l c) : sProp 𝕄)) 0
    ⟨Entails.of_eq h, Entails.of_eq h.symm⟩
  rw [offs_E] at h1 h3 h4
  rw [grps_univ, grps_outs] at h2
  rw [e0] at h5
  simp only [owedL_nil, zero_add, List.flatMap_nil] at h1 h2
  unfold oLay weights layerK
  rw [add_assoc]
  iintro ⟨HL, ⟨Hi, Ho⟩, Hrec, Hlev, Hown⟩ Hk
  ihave HL := (layPre_parts m c l) $$ HL
  icases HL with ⟨Hs, Hg, Ha, A0, A2⟩
  iapply h1 $$ [Hs Hrec Hown]
  · isplitl [Hs]; · iexact Hs
    isplitl [Hrec] <;> iassumption
  iintro ⟨C0, Hrec, Hown⟩
  iapply (wp_window c Q (WI l) (wIn m l c)) $$ Hi
  iintro Hi
  iapply (wp_window c Q (WO l) (wOut m l c)) $$ Ho
  iintro Ho
  iapply (h2 _ (hO.mono (by omega))) $$ [Hg Hrec Hlev Hown]
  · isplitl [Hg]; · iexact Hg
    isplitl [Hrec]; · iexact Hrec
    isplitl [Hlev] <;> iassumption
  iintro ⟨Hg, Hrec, Hlev, Hown⟩
  ihave Hg := (Entails.of_eq (grpPost_parts m c l)) $$ Hg
  icases Hg with ⟨Hy, HS, Hx, C2⟩
  iapply (h3 _ hO) $$ [Ha Hrec Hlev Hown]
  · isplitl [Ha]; · iexact Ha
    isplitl [Hrec]; · iexact Hrec
    isplitl [Hlev] <;> iassumption
  iintro ⟨Ha, Hrec, Hlev, Hown⟩
  ihave Ha := (arrivals_turn m c l) $$ Ha
  icases Ha with ⟨Hr, Ha⟩
  ihave Hy := hy.1 $$ Hy
  icases Hy with ⟨Hy0, Hy⟩
  iapply (wp_block c Q _ 0 0 (by decide) (yall m l c)) $$ Hy0
  iintro Hy0
  iapply (wp_rest c Q _ (rall m l c)) $$ Hr
  iintro Hr
  iapply (h4 _ (hO.mono (Nat.zero_le _))) $$ [C0 A0 Hrec Hlev Hown]
  · isplitl [C0 A0]
    · iapply (Entails.of_eq (bigSep_sep' E _ _).symm)
      isplitl [C0] <;> iassumption
    isplitl [Hrec]; · iexact Hrec
    isplitl [Hlev] <;> iassumption
  iintro ⟨D0, Hrec, Hlev, Hown⟩
  iapply (h5 _ (hO.mono (Nat.zero_le _))) $$ [C2 A2 Hrec Hlev Hown]
  · isplitl [C2 A2]
    · iapply (Entails.of_eq (bigSep_sep' E _ _).symm)
      isplitl [C2] <;> iassumption
    isplitl [Hrec]; · iexact Hrec
    isplitl [Hlev] <;> iassumption
  iintro ⟨D2, Hrec, Hlev, Hown⟩
  iapply Hk
  isplitl [Hx Hr Ha D0 D2 HS Hy0 Hy]
  · iapply (layPost_parts m c l)
    isplitl [Hx]; · iexact Hx
    isplitl [Hr Ha]
    · isplitl [Hr] <;> iassumption
    isplitl [D0]; · iexact D0
    isplitl [D2]; · iexact D2
    isplitl [HS]; · iexact HS
    iapply hy.2
    isplitl [Hy0] <;> iassumption
  isplitl [Hi Ho]
  · isplitl [Hi] <;> iassumption
  isplitl [Hrec]; · iexact Hrec
  isplitl [Hlev] <;> iassumption

end Layer

end Cert.KernelIdeal.Mlp
-- ==== Proof.Whole.lean ====
/-
# The whole body

The scratch buffers cut into slots, the three layers one after the other, and the return of everything the body was
handed: the scratch buffers whole again, nothing owed, every semaphore at zero.
-/
module

public import Idealize.ShloMosaic.Lib.Ring
public import proofs.«01_k».proof.Proof.Group

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 3) (Elt F) ℕ UU ℕ

variable (m : (ℓ : Loc nD τ sig) → Buf (Elt F) ℓ)
variable (K : Dev nD × Option (Fin 4 × Fin 16) → ℕ)

/-! ## Slots and buffers -/

theorem bigSep_slots (Φ : Fin 16 → sProp 𝕄) : bigSep Finset.univ Φ = iprop(Φ 0 ∗ bigSep E Φ) := bigSep_univ_split 0

theorem bigSep_planes (Φ : Fin 2 × Fin 16 → sProp 𝕄) :
    bigSep Finset.univ Φ = iprop((Φ (0, 0) ∗ bigSep E fun d => Φ (0, d)) ∗ Φ (1, 0) ∗ bigSep E fun d => Φ (1, d)) := by
  rw [bigSep_univ_prod, bigSep_univ_eq_bigSepL [0, 1] (by decide) (by decide)]
  exact congrArg₂ (fun a b : sProp 𝕄 => iprop(a ∗ b)) (bigSep_slots fun d => Φ (0, d)) (bigSep_slots fun d => Φ (1, d))

theorem bigSep_families (Φ : Fin 4 × Fin 16 → sProp 𝕄) :
    bigSep Finset.univ Φ = iprop((Φ (0, 0) ∗ bigSep E fun d => Φ (0, d)) ∗ (Φ (1, 0) ∗ bigSep E fun d => Φ (1, d))
      ∗ (Φ (2, 0) ∗ bigSep E fun d => Φ (2, d)) ∗ Φ (3, 0) ∗ bigSep E fun d => Φ (3, d)) := by
  rw [bigSep_univ_prod, bigSep_univ_eq_bigSepL [0, 1, 2, 3] (by decide) (by decide)]
  exact congrArg₂ (fun a b : sProp 𝕄 => iprop(a ∗ b)) (bigSep_slots fun d => Φ (0, d))
    (congrArg₂ (fun a b : sProp 𝕄 => iprop(a ∗ b)) (bigSep_slots fun d => Φ (1, d))
      (congrArg₂ (fun a b : sProp 𝕄 => iprop(a ∗ b)) (bigSep_slots fun d => Φ (2, d)) (bigSep_slots fun d => Φ (3, d))))

section Whole
variable (c : Dev nD)

/-- The four scratch buffers at some contents. -/
def scratch : sProp 𝕄 :=
  iprop((∃ f : Buf (Elt F) (xLoc c), (xLoc c) ↦{fullShare} f) ∗ (∃ f : Buf (Elt F) (yLoc c), (yLoc c) ↦{fullShare} f)
    ∗ (∃ f : Buf (Elt F) (sLoc c), (sLoc c) ↦{fullShare} f) ∗ (∃ f : Buf (Elt F) (rLoc c), (rLoc c) ↦{fullShare} f))

/-- The same, slot by slot. -/
def slots : sProp 𝕄 :=
  iprop(((xsE c 0 0 ∗ bigSep E (xsE c 0)) ∗ xsE c 1 0 ∗ bigSep E (xsE c 1)) ∗ bigSep Finset.univ (ysE c)
    ∗ (ssE c 0 ∗ bigSep E (ssE c)) ∗ (rsE c 0 ∗ bigSep E (rsE c)))

theorem blocks_cut {B : Type} [Fintype B] {ℓ : Loc nD τ sig} (I : B → Finset (Idx ℓ)) (hd : ∀ b b', b ≠ b' → Disjoint (I b) (I b'))
    (hc : Finset.univ.biUnion I = Finset.univ) : iprop(∃ f : Buf (Elt F) ℓ, ℓ ↦{fullShare} f) ⊢ (bigSep Finset.univ fun b => iprop(∃ f : Buf (Elt F) ℓ, ℓ ↦[I b]{fullShare} f) : sProp 𝕄) := by
  have h1 (f : Buf (Elt F) ℓ) : (bigSep Finset.univ fun b => (ℓ ↦[I b]{fullShare} f : sProp 𝕄)) ⊢ bigSep Finset.univ fun b => iprop(∃ f : Buf (Elt F) ℓ, ℓ ↦[I b]{fullShare} f) :=
    bigSep_mono fun b _ => (show (ℓ ↦[I b]{fullShare} f : sProp 𝕄) ⊢ iprop(∃ f : Buf (Elt F) ℓ, ℓ ↦[I b]{fullShare} f) from by
      iintro H
      iexists f; iexact H)
  iintro ⟨%f, H⟩
  iapply (h1 f)
  iapply (Entails.of_eq (Ring.pointsTo_sub_blocks (Ix := Fin 3) (Name := ℕ) (U := UU) (Lvl := ℕ) I hd Finset.univ hc f)) $$ H

include m in
theorem blocks_join {B : Type} [Fintype B] [DecidableEq B] (ℓ : Loc nD τ sig) (I : B → Finset (Idx ℓ)) (hd : ∀ b b', b ≠ b' → Disjoint (I b) (I b'))
    (hc : Finset.univ.biUnion I = Finset.univ) : (bigSep Finset.univ fun b => iprop(∃ f : Buf (Elt F) ℓ, ℓ ↦[I b]{fullShare} f) : sProp 𝕄) ⊢ iprop(∃ f : Buf (Elt F) ℓ, ℓ ↦{fullShare} f) :=
  Ring.pointsTo_blocks_join_exists (Ix := Fin 3) (Name := ℕ) (U := UU) (Lvl := ℕ) I hd hc (m ℓ)

theorem slots_x : (bigSep Finset.univ fun b : Fin 2 × Fin 16 => iprop(∃ f : Buf (Elt F) (xLoc c), (xLoc c) ↦[(xR b.1 b.2).set]{fullShare} f) : sProp 𝕄)
    = iprop((xsE c 0 0 ∗ bigSep E (xsE c 0)) ∗ xsE c 1 0 ∗ bigSep E (xsE c 1)) := bigSep_planes _
theorem slots_s : (bigSep Finset.univ fun k : Fin 16 => iprop(∃ f : Buf (Elt F) (sLoc c), (sLoc c) ↦[(sR k).set]{fullShare} f) : sProp 𝕄)
    = iprop(ssE c 0 ∗ bigSep E (ssE c)) := bigSep_slots _
theorem slots_r : (bigSep Finset.univ fun k : Fin 16 => iprop(∃ f : Buf (Elt F) (rLoc c), (rLoc c) ↦[(sR k).set]{fullShare} f) : sProp 𝕄)
    = iprop(rsE c 0 ∗ bigSep E (rsE c)) := bigSep_slots _

theorem scratch_cut : scratch (F := F) c ⊢ slots c := by
  have hx := (blocks_cut (F := F) (ℓ := xLoc c) (fun b : Fin 2 × Fin 16 => (xR b.1 b.2).set) (fun b b' h => xR_disj h) xR_cover).trans (Entails.of_eq (slots_x c))
  have hy : iprop(∃ f : Buf (Elt F) (yLoc c), (yLoc c) ↦{fullShare} f) ⊢ (bigSep Finset.univ (ysE c) : sProp 𝕄) :=
    blocks_cut (F := F) (ℓ := yLoc c) (fun q => (ygR q).set) (fun b b' h => ygR_disj h) ygR_cover
  have hs := (blocks_cut (F := F) (ℓ := sLoc c) (fun k => (sR k).set) (fun b b' h => sR_disj h) sR_cover).trans (Entails.of_eq (slots_s c))
  have hr := (blocks_cut (F := F) (ℓ := rLoc c) (fun k => (sR k).set) (fun b b' h => sR_disj h) sR_cover).trans (Entails.of_eq (slots_r c))
  unfold scratch slots
  iintro ⟨Hx, Hy, Hs, Hr⟩
  isplitl [Hx]; · iapply hx; iexact Hx
  isplitl [Hy]; · iapply hy; iexact Hy
  isplitl [Hs]; · iapply hs; iexact Hs
  iapply hr; iexact Hr

include m in
theorem scratch_whole : slots (F := F) c ⊢ scratch c := by
  have hx := (Entails.of_eq (slots_x (F := F) c).symm).trans (blocks_join m (xLoc c) (fun b : Fin 2 × Fin 16 => (xR b.1 b.2).set) (fun b b' h => xR_disj h) xR_cover)
  have hy : (bigSep Finset.univ (ysE c) : sProp 𝕄) ⊢ iprop(∃ f : Buf (Elt F) (yLoc c), (yLoc c) ↦{fullShare} f) :=
    blocks_join m (yLoc c) (fun q => (ygR q).set) (fun b b' h => ygR_disj h) ygR_cover
  have hs := (Entails.of_eq (slots_s (F := F) c).symm).trans (blocks_join m (sLoc c) (fun k => (sR k).set) (fun b b' h => sR_disj h) sR_cover)
  have hr := (Entails.of_eq (slots_r (F := F) c).symm).trans (blocks_join m (rLoc c) (fun k => (sR k).set) (fun b b' h => sR_disj h) sR_cover)
  unfold scratch slots
  iintro ⟨Hx, Hy, Hs, Hr⟩
  isplitl [Hx]; · iapply hx; iexact Hx
  isplitl [Hy]; · iapply hy; iexact Hy
  isplitl [Hs]; · iapply hs; iexact Hs
  iapply hr; iexact Hr

/-! ## Between the layers -/

theorem xs_some (p : Fin 2) (k : Fin 16) (f : (cc0_scratch0 : Ref sig .tc).ty.Contents (Elt F)) : (xs c p k fullShare f : sProp 𝕄) ⊢ xsE c p k := by
  unfold xsE
  iintro H
  iexists f; iexact H

/-- What a layer leaves is what the next one starts from. -/
theorem next_start (l l' : Fin 3) (h : l'.val = l.val + 1) (d : Fin 16) : finish m c l d ⊢ start c l' d := by
  have h1 : pl l' = opl l := by revert l l'; decide
  have h2 : opl l' = pl l := by revert l l'; decide
  have h3 : l.val < 2 := by have := l'.isLt; omega
  unfold finish start nextPay keep
  rw [if_pos h3, if_pos h3, h1, h2, h, off_neg_neg]
  iintro ⟨X, Hr, Hs, -, ⟨Hx, R1⟩, A0, A1, A2, A3, R0, R2, R3⟩
  isplitl [Hx]; · iexact Hx
  isplitl [Hr]; · iexact Hr
  isplitl [Hs]; · iexact Hs
  isplitl [X]; · iapply (xs_some c (pl l) d (xall m l c)); iexact X
  isplitl [A0]; · iexact A0
  isplitl [A1]; · iexact A1
  isplitl [A2]; · iexact A2
  isplitl [A3]; · iexact A3
  isplitl [R0]; · iexact R0
  isplitl [R2]; · iexact R2
  isplitl [R3] <;> iassumption

/-- The layer's rows into slot 0 of the other plane. -/
theorem wp_nextK (Q : PUnit.{1} → sProp 𝕄) (k : Pg F) (l l' : Fin 3) (h : l'.val = l.val + 1) :
    iprop(layPost m c l ∗ xsE c (opl l) 0 ∗ bigSep E (toks c l'))
      ⊢ iprop((layPre m c l' ∗ xsE c (opl l') 0 -∗ wpc c k Q) -∗ wpc c (putK (pl l') (k0_pay25 (acc m l c)) k) Q) := by
  have h1 : opl l = pl l' := by revert l l'; decide
  have h2 : opl l' = pl l := by revert l l'; decide
  have hst : bigSep E (finish m c l) ⊢ bigSep E (start (F := F) c l') := bigSep_mono fun d _ => next_start m c l l' h d
  have hx := X_next m l c
  rw [← h] at hx
  have hp := wp_putK m c Q k (pl l') l'.val
  rw [hx] at hp
  rw [h1, h2]
  unfold layPost layPre
  iintro ⟨⟨Hf, Hx0, Hy⟩, Hx1, Ht⟩ Hk
  iapply hp $$ Hx1
  iintro Hx1
  iapply Hk
  isplitl [Hf Hx1 Hy Ht]
  · isplitl [Hf Ht]
    · iapply (Entails.of_eq (bigSep_sep' E (start c l') (toks c l')).symm)
      isplitl [Hf]; · iapply hst; iexact Hf
      iexact Ht
    isplitl [Hx1] <;> iassumption
  iapply (xs_some c (pl l) 0 (xall m l c)); iexact Hx0

/-! ## The first layer's start -/

/-- Every signal sent: each peer may write slot `d` of plane 0. -/
theorem wp_signals (Q : PUnit.{1} → sProp 𝕄) (k : Pg F) (O : CellTallies nD τ sig (Fin 3)) :
    iprop(bigSep offs.toFinset (fun d => iprop(dutyTok ER (bcell (c + d)) 0 d ∗ xsE c 0 d)) ∗ (records m K ∗ own c (owedL (tBar c) offs + O)))
      ⊢ iprop(((bigSep offs.toFinset (fun _ => iprop(emp)) ∗ (records m K ∗ own c (owedL (tBar c) [] + O))) -∗ wpc c k Q)
        -∗ wpc c (eachK offs (signalK c) k) Q) :=
  wp_eachK c (signalK c) (fun d => iprop(dutyTok ER (bcell (c + d)) 0 d ∗ xsE c 0 d)) (fun _ => iprop(emp))
    (fun ds => iprop(records m K ∗ own c (owedL (tBar c) ds + O))) Q k offs (by decide) fun d hd ds k' => by
    have hd0 : d ≠ 0 := by revert d; decide
    rw [owedL_cons, add_comm (tBar c d), add_assoc, add_comm (tBar c d), ← add_assoc]
    iintro ⟨⟨Ht, Hx⟩, #HK, HO⟩ Hk
    iapply (wp_signalK m K c (owedL (tBar c) ds + O) Q k' d hd0) $$ [Ht Hx HO]
    · isplitr; · iexact HK
      isplitl [HO]; · iexact HO
      isplitl [Ht] <;> iassumption
    iintro HO
    iapply Hk
    isplitr; · iempintro
    isplitr; · iexact HK
    iexact HO

/-- The places in the rounds of the device's sixty-four transfer semaphores, from the first round on. -/
def places : sProp 𝕄 := bigSep Finset.univ fun x : Fin 4 × Fin 16 => atPos ER (dcell c x.1 x.2) 0 ∅ 0
def places0 (n : ℕ) : sProp 𝕄 :=
  iprop(atPos ER (dcell c 0 0) n ∅ 0 ∗ atPos ER (dcell c 1 0) n ∅ 0 ∗ atPos ER (dcell c 2 0) n ∅ 0 ∗ atPos ER (dcell c 3 0) n ∅ 0)
def placesE (n : ℕ) : sProp 𝕄 :=
  iprop(bigSep E (fun d => atPos ER (dcell c 0 d) n ∅ 0) ∗ bigSep E (fun d => atPos ER (dcell c 1 (-d)) n ∅ 0)
    ∗ bigSep E (fun d => atPos ER (dcell c 2 d) n ∅ 0) ∗ bigSep E (fun d => atPos ER (dcell c 3 d) n ∅ 0))

theorem places_cut : places (F := F) c ⊢ iprop(places0 c 0 ∗ placesE c 0) := by
  have hn := bigSep_neg (fun d => (atPos ER (dcell c 1 d) 0 ∅ 0 : sProp 𝕄))
  unfold places places0 placesE
  rw [bigSep_families, hn]
  exact (show iprop((atPos ER (dcell c 0 0) 0 ∅ 0 ∗ bigSep E fun d => atPos ER (dcell c 0 d) 0 ∅ 0) ∗ (atPos ER (dcell c 1 0) 0 ∅ 0 ∗ bigSep E fun d => atPos ER (dcell c 1 d) 0 ∅ 0)
      ∗ (atPos ER (dcell c 2 0) 0 ∅ 0 ∗ bigSep E fun d => atPos ER (dcell c 2 d) 0 ∅ 0) ∗ atPos ER (dcell c 3 0) 0 ∅ 0 ∗ bigSep E fun d => atPos ER (dcell c 3 d) 0 ∅ 0) ⊢ _ from by
    iintro ⟨⟨A, A'⟩, ⟨B, B'⟩, ⟨C, C'⟩, D, D'⟩
    isplitl [A B C D]
    · isplitl [A]; · iexact A
      isplitl [B]; · iexact B
      isplitl [C] <;> iassumption
    isplitl [A']; · iexact A'
    isplitl [B']; · iexact B'
    isplitl [C'] <;> iassumption)

/-- The semaphores at zero. -/
def zeros : sProp 𝕄 := bigSep Finset.univ fun x : Fin 4 × Fin 16 => semVal (dcell c x.1 x.2) 0

theorem close_one (a : Fin 4) (k : Fin 16) (n : ℕ) (hn : k = 0 ∨ 3 ≤ n) :
    iprop(records m K ∗ atPos ER (dcell c a k) n ∅ 0) ⊢ (|={Set.univ}=> semVal (dcell c a k) 0 : sProp 𝕄) := by
  iintro ⟨#HK, H⟩
  iapply (Rounds.cell_close ER (Rd m) (Set.mem_univ (K (c, some (a, k)))) (fun h => h) (R := n) (duties_later m c a k n hn)) $$ [H]
  isplitr; · iapply (rec_dma m K c a k); iexact HK
  iexact H

theorem close_all : iprop(records m K ∗ places0 c 0 ∗ placesE c 3) ⊢ (|={Set.univ}=> zeros c : sProp 𝕄) := by
  have many (a : Fin 4) : iprop(records m K ∗ bigSep E fun d => atPos ER (dcell c a d) 3 ∅ 0) ⊢ (|={Set.univ}=> bigSep E fun d => semVal (dcell c a d) 0 : sProp 𝕄) :=
    (bigSep_with_persistent fun d _ => close_one m K c a d 3 (.inr (le_refl 3))).trans (bigSep_fupd _ _)
  have hn := bigSep_neg (fun d => (atPos ER (dcell c 1 d) 3 ∅ 0 : sProp 𝕄))
  unfold places0 placesE zeros
  rw [bigSep_families, hn]
  refine (show _ ⊢ (|={Set.univ}=> iprop((semVal (dcell c 0 0) 0 ∗ bigSep E fun d => semVal (dcell c 0 d) 0) ∗ (semVal (dcell c 1 0) 0 ∗ bigSep E fun d => semVal (dcell c 1 d) 0)
      ∗ (semVal (dcell c 2 0) 0 ∗ bigSep E fun d => semVal (dcell c 2 d) 0) ∗ semVal (dcell c 3 0) 0 ∗ bigSep E fun d => semVal (dcell c 3 d) 0) : sProp 𝕄) from ?_)
  iintro ⟨#HK, ⟨A, B, C, D⟩, A', B', C', D'⟩
  imod (close_one m K c 0 0 0 (.inl rfl)) $$ [A] with A
  · isplitr; · iexact HK
    iexact A
  imod (close_one m K c 1 0 0 (.inl rfl)) $$ [B] with B
  · isplitr; · iexact HK
    iexact B
  imod (close_one m K c 2 0 0 (.inl rfl)) $$ [C] with C
  · isplitr; · iexact HK
    iexact C
  imod (close_one m K c 3 0 0 (.inl rfl)) $$ [D] with D
  · isplitr; · iexact HK
    iexact D
  imod (many 0) $$ [A'] with A'
  · isplitr; · iexact HK
    iexact A'
  imod (many 1) $$ [B'] with B'
  · isplitr; · iexact HK
    iexact B'
  imod (many 2) $$ [C'] with C'
  · isplitr; · iexact HK
    iexact C'
  imod (many 3) $$ [D'] with D'
  · isplitr; · iexact HK
    iexact D'
  imodintro
  isplitl [A A']
  · isplitl [A] <;> iassumption
  isplitl [B B']
  · isplitl [B] <;> iassumption
  isplitl [C C']
  · isplitl [C] <;> iassumption
  isplitl [D] <;> iassumption

theorem first_start (d : Fin 16) :
    iprop(records m K ∗ xsE (c + d) 0 (-d) ∗ rsE c d ∗ ssE c d ∗ xsE c 1 d
        ∗ atPos ER (dcell c 0 d) 0 ∅ 0 ∗ atPos ER (dcell c 1 (-d)) 0 ∅ 0 ∗ atPos ER (dcell c 2 d) 0 ∅ 0 ∗ atPos ER (dcell c 3 d) 0 ∅ 0)
      ⊢ start (F := F) c 0 d := by
  unfold start
  iintro ⟨#HK, Hx, Hr, Hs, X, A0, A1, A2, A3⟩
  isplitl [Hx]; · iexact Hx
  isplitl [Hr]; · iexact Hr
  isplitl [Hs]; · iexact Hs
  isplitl [X]; · iexact X
  isplitl [A0]; · iexact A0
  isplitl [A1]; · iexact A1
  isplitl [A2]; · iexact A2
  isplitl [A3]; · iexact A3
  isplitr; · iapply (rec_dma0 m K c 0 d); iexact HK
  isplitr; · iapply (rec_dma0 m K c 2 d); iexact HK
  isplitr; · iapply (rec_dma0 m K c 3 (-d)); iexact HK
  iapply (rec_dma0 m K (c + d) 1 d); iexact HK

theorem first_starts :
    iprop(records m K ∗ bigSep E (fun d => xsE (c - d) 0 d) ∗ bigSep E (rsE c) ∗ bigSep E (ssE c) ∗ bigSep E (xsE c 1) ∗ placesE c 0)
      ⊢ bigSep E (start (F := F) c 0) := by
  have hg : bigSep E (fun d => (xsE (c + d) 0 (-d) : sProp 𝕄)) = bigSep E (fun d => xsE (c - d) 0 d) := by
    rw [← bigSep_neg (fun d => (xsE (c - d) 0 d : sProp 𝕄))]
    exact bigSep_congr fun d _ => by rw [dev_sub_neg]
  have p := fun (A B : Fin 16 → sProp 𝕄) => bigSep_sep' E A B
  unfold placesE
  rw [← hg]
  have h := bigSep_with_persistent (R := records m K) (S := E) fun d _ => first_start m K c d
  rw [p, p, p, p, p, p, p] at h
  exact h

/-- After the last layer everything is the device's again. -/
theorem last_parts (d : Fin 16) : finish m c 2 d ⊢ iprop((xsE (F := F) c 0 d ∗ xsE c 1 d ∗ ssE c d ∗ rsE c d)
    ∗ atPos ER (dcell c 0 d) 3 ∅ 0 ∗ atPos ER (dcell c 1 (-d)) 3 ∅ 0 ∗ atPos ER (dcell c 2 d) 3 ∅ 0 ∗ atPos ER (dcell c 3 d) 3 ∅ 0) := by
  unfold finish keep
  rw [if_neg (by decide)]
  iintro ⟨X, Hr, Hs, Hk, -, A0, A1, A2, A3, -⟩
  isplitl [X Hr Hs Hk]
  · isplitl [X]; · iapply (xs_some c (pl 2) d (xall m 2 c)); iexact X
    isplitl [Hk]; · iexact Hk
    isplitl [Hs] <;> iassumption
  isplitl [A0]; · iexact A0
  isplitl [A1]; · iexact A1
  isplitl [A2]; · iexact A2
  iexact A3

theorem last_all : bigSep E (finish m c 2) ⊢ iprop((bigSep E (xsE (F := F) c 0) ∗ bigSep E (xsE c 1) ∗ bigSep E (ssE c) ∗ bigSep E (rsE c)) ∗ placesE c 3) := by
  have p := fun (A B : Fin 16 → sProp 𝕄) => bigSep_sep' E A B
  have h := bigSep_mono (s := E) fun d _ => last_parts m c d
  rw [p, p, p, p, p, p, p] at h
  exact h

/-! ## The body -/

/-- The input rows, the six weight blocks and the output block. -/
def wins (o : FVec F S64x512 .f32) : sProp 𝕄 :=
  iprop(owns (c : Thread nD τ) XIN fullShare (xIn m c) ∗ weights m c 0 ∗ weights m c 1 ∗ weights m c 2 ∗ owns (c : Thread nD τ) OUT fullShare o)

/-- The duties a device takes on, with the credit for its waits. -/
def allToks : sProp 𝕄 :=
  iprop(bigSep E (fun d => dutyTok ER (bcell (c + d)) 0 d) ∗ bigSep E (toks c 0) ∗ bigSep E (toks c 1) ∗ bigSep E (toks c 2) ∗ cred (tallyAt (bcell c) 0 15))

theorem wp_resultK (Q : PUnit.{1} → sProp 𝕄) (k : Pg F) (o a : FVec F S64x512 .f32) :
    (owns (c : Thread nD τ) OUT fullShare o : sProp 𝕄) ⊢ iprop((owns (c : Thread nD τ) OUT fullShare a -∗ wpc c k Q)
      -∗ wpc c (Prog.op (.load OUT fullR.toLoadRect (View.loadsAt_vmem h_S64x512)) fun _ =>
        Prog.op (.store OUT fullR a Finset.univ (View.stores_vmem_bits_univ h_S64x512 rfl) (.inl rfl)) fun _ => k) Q) := by
  unfold owns
  simp only [Memref.view_whole, View.read_whole, View.set_whole]
  iintro ⟨%f, -, H⟩ Hk
  iapply (wp_load 𝒱₀ (c : Thread nD τ) none Set.univ (m := OUT) (Finset.subset_univ _)) $$ H
  iintro H
  iapply (wp_store 𝒱₀ (c : Thread nD τ) none Set.univ (m := OUT) (r := fullR) (Mk := Finset.univ) (Finset.subset_univ _)) $$ H
  iintro H
  rw [show ((OUT.access fullR : View sig .tc _ _ _).write (Elt F) f a Finset.univ) = a from
    Memref.write_access_unit_zero_univ (Elt F) cc0_stg7_0 (funext fun x => by fin_cases x <;> rfl) _ f a]
  iapply Hk
  iexists a
  isplitr; · ipureintro; rfl
  iexact H

theorem wp_whoami (Q : PUnit.{1} → sProp 𝕄) (k : Dev nD → Pg F) : wpc c (Prog.op .deviceId k) Q = wpc c (k c) Q := wp_deviceId 𝒱₀ (c : Thread nD τ) none Set.univ

theorem sound_body (Q : PUnit.{1} → sProp 𝕄) (o : FVec F S64x512 .f32) :
    iprop(records m K ∗ levAts L lv ∗ own c (O₀ c) ∗ allToks c ∗ atPos ER (bcell c) 0 ∅ 0 ∗ places c ∗ scratch c ∗ wins m c o)
      ⊢ iprop((own c 0 ∗ semVal (bcell c) 0 ∗ zeros c ∗ scratch c ∗ wins m c (acc m 2 c) -∗ Q ⟨⟩) -∗ wpc c (body F) Q) := by
  have hsig := fun k => wp_signals m K c Q k (oLay c 0 + (oLay c 1 + oLay c 2))
  have hready := fun k => wp_readyK m K c (oLay c 0 + (oLay c 1 + oLay c 2)) Q k
    ((above_lay c 0).add (((above_lay c 1).mono (by decide)).add ((above_lay c 2).mono (by decide))))
  have hl0 := fun k => wp_layerK m K c 0 (oLay c 1 + oLay c 2) Q k ((above_lay c 1).add ((above_lay c 2).mono (by decide)))
  have hl1 := fun k => wp_layerK m K c 1 (oLay c 2) Q k (above_lay c 2)
  have hl2 := fun k => wp_layerK m K c 2 0 Q k (Above.zero _)
  rw [offs_E] at hsig
  simp only [owedL_nil, zero_add] at hsig
  rw [add_zero] at hl2
  have hput := fun k => wp_putK m c Q k 0 0
  unfold body wins allToks
  rw [wp_whoami c Q]
  iintro ⟨#HK, #Hlev, HO, ⟨Hd, T0, T1, T2, Hcb⟩, Hbar, Hpl, Hscr, Hxin, W0, W1, W2, Hout⟩ Hk
  ihave Hscr := (scratch_cut c) $$ Hscr
  unfold slots
  icases Hscr with ⟨⟨⟨Hx00, Hx0⟩, Hx10, Hx1⟩, Hy, ⟨Hs0, Hs⟩, Hr0, Hr⟩
  ihave Hpl := (places_cut c) $$ Hpl
  icases Hpl with ⟨Hp0, HpE⟩
  unfold O₀
  iapply hsig $$ [Hd Hx0 HO]
  · isplitl [Hd Hx0]
    · iapply (Entails.of_eq (bigSep_sep' E (fun d => dutyTok ER (bcell (c + d)) 0 d) (xsE c 0)).symm)
      isplitl [Hd] <;> iassumption
    isplitr; · iexact HK
    iexact HO
  iintro ⟨-, -, HO⟩
  iapply hready $$ [HO Hcb Hbar]
  · isplitr; · iexact HK
    isplitr; · iexact Hlev
    isplitl [HO]; · iexact HO
    isplitl [Hcb] <;> iassumption
  iintro ⟨HO, Hbar, Hpeer⟩
  iapply (wp_window c Q XIN (xIn m c)) $$ Hxin
  iintro Hxin
  iapply hput $$ Hx00
  iintro Hx00
  iapply hl0 $$ [Hpeer Hr Hs Hx1 HpE T0 Hx00 Hy W0 HO]
  · isplitl [Hpeer Hr Hs Hx1 HpE T0 Hx00 Hy]
    · unfold layPre
      isplitl [Hpeer Hr Hs Hx1 HpE T0]
      · iapply (Entails.of_eq (bigSep_sep' E (start c 0) (toks c 0)).symm)
        isplitl [Hpeer Hr Hs Hx1 HpE]
        · iapply (first_starts m K c)
          isplitr; · iexact HK
          isplitl [Hpeer]; · iexact Hpeer
          isplitl [Hr]; · iexact Hr
          isplitl [Hs]; · iexact Hs
          isplitl [Hx1] <;> iassumption
        iexact T0
      isplitl [Hx00]; · iexact Hx00
      iexact Hy
    isplitl [W0]; · iexact W0
    isplitr; · iexact HK
    isplitr; · iexact Hlev
    iexact HO
  iintro ⟨HL, W0, -, -, HO⟩
  iapply (wp_nextK m c Q _ 0 1 rfl) $$ [HL Hx10 T1]
  · isplitl [HL]; · iexact HL
    isplitl [Hx10]; · iexact Hx10
    iexact T1
  iintro ⟨HL, Hx0⟩
  iapply hl1 $$ [HL W1 HO]
  · isplitl [HL]; · iexact HL
    isplitl [W1]; · iexact W1
    isplitr; · iexact HK
    isplitr; · iexact Hlev
    iexact HO
  iintro ⟨HL, W1, -, -, HO⟩
  iapply (wp_nextK m c Q _ 1 2 rfl) $$ [HL Hx0 T2]
  · isplitl [HL]; · iexact HL
    isplitl [Hx0]; · iexact Hx0
    iexact T2
  iintro ⟨HL, Hx1⟩
  iapply hl2 $$ [HL W2 HO]
  · isplitl [HL]; · iexact HL
    isplitl [W2]; · iexact W2
    isplitr; · iexact HK
    isplitr; · iexact Hlev
    iexact HO
  iintro ⟨HL, W2, -, -, HO⟩
  iapply (wp_resultK c Q _ o) $$ Hout
  iintro Hout
  unfold layPost
  icases HL with ⟨HE, Hx0, Hy⟩
  ihave HE := (last_all m c) $$ HE
  icases HE with ⟨⟨Hx0E, Hx1E, HsE, HrE⟩, HpE⟩
  imod (close_all m K c) $$ [Hp0 HpE] with Hz
  · isplitr; · iexact HK
    isplitl [Hp0] <;> iassumption
  imod (Rounds.cell_close ER (Rd m) (Set.mem_univ (K (c, none))) (fun h => h) (R := 1) (duties_bar_later m c)) $$ [Hbar] with Hzb
  · isplitr; · iapply (rec_bar m K c); iexact HK
    iexact Hbar
  rw [wp_ret]
  imodintro
  iapply Hk
  isplitl [HO]; · iexact HO
  isplitl [Hzb]; · iexact Hzb
  isplitl [Hz]; · iexact Hz
  isplitl [Hx0 Hx1 Hx0E Hx1E HsE HrE Hs0 Hr0 Hy]
  · iapply (scratch_whole m c)
    unfold slots
    isplitl [Hx0 Hx1 Hx0E Hx1E]
    · isplitl [Hx0 Hx0E]
      · isplitl [Hx0]; · iapply (xs_some c (pl 2) 0 (xall m 2 c)); iexact Hx0
        iexact Hx0E
      isplitl [Hx1]; · iexact Hx1
      iexact Hx1E
    isplitl [Hy]; · iexact Hy
    isplitl [Hs0 HsE]
    · isplitl [Hs0] <;> iassumption
    isplitl [Hr0] <;> iassumption
  isplitl [Hxin]; · iexact Hxin
  isplitl [W0]; · iexact W0
  isplitl [W1]; · iexact W1
  isplitl [W2] <;> iassumption

end Whole

end Cert.KernelIdeal.Mlp
-- ==== Proof.Start.lean ====
/-
# What the launch deals

The cells and the duties of all devices funded at once, every duty handed to the device that pays it, and the credit of
every wait taken out of what the devices owe at launch.
-/
module

public import proofs.«01_k».proof.Proof.Whole

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 3) (Elt F) ℕ UU ℕ

variable (m : (ℓ : Loc nD τ sig) → Buf (Elt F) ℓ)
variable (K : Dev nD × Option (Fin 4 × Fin 16) → ℕ)

/-! ## Cells and duties -/

theorem kcell_injective : Function.Injective kcell := by
  rintro ⟨c, k⟩ ⟨c', k'⟩ h
  have h1 : c = c' := congrArg (fun g : GSem nD τ sig => g.1.1) h
  subst h1
  have h2 := congrArg Prod.snd h
  cases k with
  | none => cases k' with
    | none => rfl
    | some y => cases h2
  | some x => cases k' with
    | none => cases h2
    | some y =>
      have h3 := congrArg decode h2
      rw [decode_osem, decode_osem] at h3
      rw [h3]

/-- A duty of a device's own cells: the barrier's from each peer, or a layer's on one of its transfer semaphores. -/
abbrev Tk : Type := Fin 16 ⊕ (Fin 3 × Fin 16 × Fin 4)

/-- The duty's cell, round and name. -/
def tokOf : Dev nD × Tk → GSem nD τ sig × ℕ × Fin 16
  | (c, .inl d) => (bcell c, 0, d)
  | (c, .inr (l, d, a)) => (dcell c a d, l.val, 0)

theorem tokOf_injective : Function.Injective tokOf := by
  rintro ⟨c, t⟩ ⟨c', t'⟩ h
  cases t with
  | inl d => cases t' with
    | inl d' =>
      have h1 : c = c' := congrArg (fun x : GSem nD τ sig × ℕ × Fin 16 => x.1.1.1) h
      have h2 : d = d' := congrArg (fun x : GSem nD τ sig × ℕ × Fin 16 => x.2.2) h
      rw [h1, h2]
    | inr y => exact absurd (congrArg (fun x : GSem nD τ sig × ℕ × Fin 16 => x.1.2) h) (fun h' => by cases h')
  | inr x => cases t' with
    | inl d' => exact absurd (congrArg (fun x : GSem nD τ sig × ℕ × Fin 16 => x.1.2) h) (fun h' => by cases h')
    | inr y =>
      obtain ⟨l, d, a⟩ := x
      obtain ⟨l', d', a'⟩ := y
      have h1 : c = c' := congrArg (fun x : GSem nD τ sig × ℕ × Fin 16 => x.1.1.1) h
      have h2 : l.val = l'.val := congrArg (fun x : GSem nD τ sig × ℕ × Fin 16 => x.2.1) h
      have h3 := congrArg (fun x : GSem nD τ sig × ℕ × Fin 16 => decode x.1.2) h
      have h4 : some (a, d) = some (a', d') := (decode_osem (a, d)).symm.trans (h3.trans (decode_osem (a', d')))
      cases h4
      rw [h1, Fin.ext h2]

def allCells : Finset (GSem nD τ sig) := Finset.univ.map ⟨kcell, kcell_injective⟩
def allDuties : Finset (GSem nD τ sig × ℕ × Fin 16) := Finset.univ.map ⟨tokOf, tokOf_injective⟩

def u₀ : UU := (initOf (Pipeline.cells cfgs cellOf_inj) (Pipeline.launchToks cfgs cellOf_inj), initOf allCells allDuties)

abbrev tok (x : Dev nD × Tk) : sProp 𝕄 := dutyTok ER (tokOf x).1 (tokOf x).2.1 (tokOf x).2.2

/-- What the launch element deals device `c`. -/
def G0 (c : Dev nD) : sProp 𝕄 :=
  iprop((bigSep Finset.univ fun k : Option (Fin 4 × Fin 16) => roundState ER (Rd m) (kcell (c, k)) 0)
    ∗ (bigSep Finset.univ fun k : Option (Fin 4 × Fin 16) => reached ER (kcell (c, k)) 0)
    ∗ (bigSep Finset.univ fun k : Option (Fin 4 × Fin 16) => atPos ER (kcell (c, k)) 0 ∅ 0)
    ∗ bigSep Finset.univ fun t : Tk => tok (c, t))

theorem fund_all : BI.own (ER (initOf allCells allDuties)) ⊢ (|==> bigSep Finset.univ (G0 m) : sProp 𝕄) := by
  have hX (Φ : GSem nD τ sig → sProp 𝕄) : bigSep allCells Φ = bigSep Finset.univ fun c : Dev nD => bigSep Finset.univ fun k : Option (Fin 4 × Fin 16) => Φ (kcell (c, k)) := by
    unfold allCells; rw [bigSep_map, bigSep_univ_prod]; rfl
  have hT : bigSep allDuties (fun x => (dutyTok ER x.1 x.2.1 x.2.2 : sProp 𝕄)) = bigSep Finset.univ fun c : Dev nD => bigSep Finset.univ fun t : Tk => tok (c, t) := by
    unfold allDuties; rw [bigSep_map, bigSep_univ_prod]; rfl
  iintro HX
  imod (Rounds.fund ER (Rd m) allCells allDuties) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G0; simp only [bigSep_sep']
  isplitl [Hst]; · iexact Hst
  isplitl [Hr]; · iexact Hr
  isplitl [Hat]; · iexact Hat
  iexact Htok

/-! ## Each duty to the device that pays it -/

/-- How far from its cell's device the payer of a duty is. -/
def far : Tk → Fin 16
  | .inl d => d
  | .inr (_, d, a) => if a = 1 ∨ a = 3 then d else 0

/-- The duties by their payers. -/
def payer : Dev nD × Tk ≃ Dev nD × Tk where
  toFun x := (x.1 + far x.2, x.2)
  invFun x := (x.1 - far x.2, x.2)
  left_inv x := Prod.ext (dev_sub x.1 (far x.2)) rfl
  right_inv x := Prod.ext (by show x.1 - far x.2 + far x.2 = x.1; rw [dev_sub_eq, dev_fwd]) rfl

/-- The four duties of layer `l` at offset `d` that device `c` pays. -/
def duty4 (c : Dev nD) (l : Fin 3) (d : Fin 16) : sProp 𝕄 :=
  iprop(dutyTok ER (dcell c 0 d) l.val 0 ∗ dutyTok ER (dcell (c + d) 1 d) l.val 0 ∗ dutyTok ER (dcell c 2 d) l.val 0 ∗ dutyTok ER (dcell (c + d) 3 d) l.val 0)

def dealt (c : Dev nD) : sProp 𝕄 :=
  iprop(bigSep E (fun d => dutyTok ER (bcell (c + d)) 0 d) ∗ bigSep Finset.univ fun l : Fin 3 => bigSep E (duty4 c l))

theorem sub_slots (Φ : Fin 16 → sProp 𝕄) : bigSep Finset.univ Φ ⊢ bigSep E Φ := by
  rw [bigSep_slots]
  exact (show iprop(Φ 0 ∗ bigSep E Φ) ⊢ bigSep E Φ from by
    iintro ⟨-, H⟩
    iexact H)

theorem four_duties (c : Dev nD) (l : Fin 3) (d : Fin 16) :
    (bigSep Finset.univ fun a : Fin 4 => tok (F := F) (payer (c, .inr (l, d, a)))) = duty4 c l d := by
  rw [bigSep_univ_eq_bigSepL [0, 1, 2, 3] (by decide) (by decide)]
  show iprop(dutyTok ER (dcell (c + 0) 0 d) l.val 0 ∗ dutyTok ER (dcell (c + d) 1 d) l.val 0 ∗ dutyTok ER (dcell (c + 0) 2 d) l.val 0 ∗ dutyTok ER (dcell (c + d) 3 d) l.val 0) = duty4 c l d
  rw [dev_zero]
  rfl

theorem deal_one (c : Dev nD) : (bigSep Finset.univ fun t : Tk => tok (F := F) (payer (c, t))) ⊢ dealt c := by
  have h (l : Fin 3) : (bigSep Finset.univ fun d : Fin 16 => bigSep Finset.univ fun a : Fin 4 => tok (F := F) (payer (c, .inr (l, d, a)))) ⊢ bigSep E (duty4 c l) :=
    (Entails.of_eq (bigSep_congr fun d _ => four_duties c l d)).trans (sub_slots _)
  have h2 : (bigSep Finset.univ fun y : Fin 3 × Fin 16 × Fin 4 => tok (F := F) (payer (c, .inr y))) ⊢ bigSep Finset.univ fun l : Fin 3 => bigSep E (duty4 c l) := by
    rw [bigSep_univ_prod]
    refine bigSep_mono fun l _ => ?_
    rw [bigSep_univ_prod]
    exact h l
  have h1 : (bigSep Finset.univ fun d : Fin 16 => tok (F := F) (payer (c, .inl d))) ⊢ bigSep E (fun d => dutyTok ER (bcell (c + d)) 0 d) := sub_slots _
  rw [bigSep_univ_sum]
  unfold dealt
  exact (show iprop((bigSep Finset.univ fun d : Fin 16 => tok (F := F) (payer (c, .inl d))) ∗ bigSep Finset.univ fun y : Fin 3 × Fin 16 × Fin 4 => tok (F := F) (payer (c, .inr y))) ⊢ _ from by
    iintro ⟨H1, H2⟩
    isplitl [H1]; · iapply h1; iexact H1
    iapply h2; iexact H2)

theorem deal_all : (bigSep Finset.univ fun c : Dev nD => bigSep Finset.univ fun t : Tk => tok (F := F) (c, t)) ⊢ bigSep Finset.univ fun c : Dev nD => dealt (F := F) c := by
  rw [← bigSep_univ_prod (fun x : Dev nD × Tk => tok (F := F) x), bigSep_univ_equiv payer, bigSep_univ_prod]
  exact bigSep_mono fun c _ => deal_one c

/-! ## The credit of the waits -/

theorem owedL_sum (t : Fin 16 → CellTallies nD τ sig (Fin 3)) : owedL t offs = ∑ d ∈ E, t d := by
  rw [← offs_E, List.sum_toFinset t (by decide)]; rfl
theorem owedL_sum' (t : Fin 16 → CellTallies nD τ sig (Fin 3)) : owedL t outs = ∑ d ∈ E, t d := by
  rw [← outs_E, List.sum_toFinset t (by decide)]; rfl

/-- Credit from every peer at offset `d`, cell by cell. -/
theorem cred_peers (sm : Fin 16 → SemLoc sig) (ι : Fin 3) (n : ℕ) (c : Dev nD) :
    (Pipeline.launchCred (fun c : Dev nD => ∑ d ∈ E, tallyAt (((c + d : Dev nD) : Thread nD τ), sm d) ι n) c : sProp 𝕄)
      ⊢ bigSep E fun d => cred (tallyAt ((c : Thread nD τ), sm d) ι n) := by
  rw [Pipeline.launchCred_sum E (fun d (c : Dev nD) => tallyAt (((c + d : Dev nD) : Thread nD τ), sm d) ι n)]
  exact bigSep_mono fun d _ => Pipeline.launchCred_tallyAt (sm d) (fun c => c + d) (fun c => c - d)
    (fun c => by rw [dev_sub_eq, dev_fwd]) (fun c => dev_sub c d) ι n c

theorem cred_pool (g : GSem nD τ sig) (ι : Fin 3) (s : Finset (Fin 16)) : (bigSep s fun _ => cred (tallyAt g ι 1) : sProp 𝕄) ⊢ cred (tallyAt g ι s.card) := by
  induction s using Finset.induction_on with
  | empty =>
    rw [Finset.card_empty, tallyAt_zero, cred_zero, bigSep_empty]
    exact Entails.of_eq rfl
  | insert d s hd ih =>
    rw [bigSep_insert hd, Finset.card_insert_of_notMem hd, ← tallyAt_add]
    exact (show iprop(cred (tallyAt g ι 1) ∗ bigSep s fun _ => cred (tallyAt g ι 1)) ⊢ cred (tallyAt g ι s.card + tallyAt g ι 1) from by
      iintro ⟨H1, H2⟩
      ihave H2 := ih $$ H2
      iapply (cred_add (tallyAt g ι s.card) (tallyAt g ι 1)).2
      isplitl [H2] <;> iassumption)

/-- The credit of layer `l`'s waits for peers. -/
def credLay (c : Dev nD) (l : Fin 3) : sProp 𝕄 :=
  iprop(bigSep E (fun d => cred (tallyAt (dcell c 1 (-d)) l N)) ∗ bigSep E (fun d => cred (tallyAt (dcell c 3 d) l N)))

theorem creds_lay (c : Dev nD) (l : Fin 3) : (Pipeline.launchCred (fun c => oLay c l) c : sProp 𝕄) ⊢ credLay c l := by
  have h1 := cred_peers (F := F) (fun d => osem (1, d)) l N c
  have h2 := cred_peers (F := F) (fun d => osem (3, d)) l N c
  have hn := bigSep_neg (fun d => (cred (tallyAt (dcell c 1 d) l N) : sProp 𝕄))
  have he : (fun c => oLay c l) = fun c : Dev nD => (∑ d ∈ E, tallyAt (((c + d : Dev nD) : Thread nD τ), osem (1, d)) l N) + ∑ d ∈ E, tallyAt (((c + d : Dev nD) : Thread nD τ), osem (3, d)) l N := by
    funext c
    unfold oLay
    rw [owedL_sum, owedL_sum']
  unfold credLay
  rw [hn, he, Pipeline.launchCred_add]
  iintro ⟨H1, H2⟩
  isplitl [H1]; · iapply h1; iexact H1
  iapply h2; iexact H2

theorem creds_bar (c : Dev nD) : (Pipeline.launchCred (fun c => owedL (tBar c) offs) c : sProp 𝕄) ⊢ cred (tallyAt (bcell c) 0 15) := by
  have h1 := cred_peers (F := F) (fun _ => .reg barS) 0 1 c
  have he : (fun c => owedL (tBar c) offs) = fun c : Dev nD => ∑ d ∈ E, tallyAt (((c + d : Dev nD) : Thread nD τ), .reg barS) 0 1 := by
    funext c
    rw [owedL_sum]
  rw [he]
  exact h1.trans (cred_pool (bcell c) 0 E)

theorem creds (c : Dev nD) : (Pipeline.launchCred O₀ c : sProp 𝕄) ⊢ iprop(cred (tallyAt (bcell c) 0 15) ∗ credLay c 0 ∗ credLay c 1 ∗ credLay c 2) := by
  have he : O₀ = fun c : Dev nD => owedL (tBar c) offs + (fun c => oLay c 0 + (fun c => oLay c 1 + oLay c 2) c) c := rfl
  rw [he, Pipeline.launchCred_add, Pipeline.launchCred_add, Pipeline.launchCred_add]
  iintro ⟨H, H0, H1, H2⟩
  isplitl [H]; · iapply creds_bar; iexact H
  isplitl [H0]; · iapply creds_lay; iexact H0
  isplitl [H1]; · iapply creds_lay; iexact H1
  iapply creds_lay; iexact H2

theorem toks_join (c : Dev nD) (l : Fin 3) : iprop(bigSep E (duty4 (F := F) c l) ∗ credLay c l) ⊢ bigSep E (toks c l) := by
  have p := fun (A B : Fin 16 → sProp 𝕄) => bigSep_sep' E A B
  have h (d : Fin 16) : iprop(duty4 (F := F) c l d ∗ cred (tallyAt (dcell c 1 (-d)) l N) ∗ cred (tallyAt (dcell c 3 d) l N)) ⊢ toks c l d := by
    unfold duty4 toks
    iintro ⟨⟨T0, T1, T2, T3⟩, C1, C3⟩
    isplitl [T0]; · iexact T0
    isplitl [T1]; · iexact T1
    isplitl [T2]; · iexact T2
    isplitl [T3]; · iexact T3
    isplitl [C1] <;> iassumption
  have hh := bigSep_mono (s := E) fun d _ => h d
  rw [p, p] at hh
  unfold credLay
  exact hh

theorem toks_all (c : Dev nD) : iprop(dealt (F := F) c ∗ cred (tallyAt (bcell c) 0 15) ∗ credLay c 0 ∗ credLay c 1 ∗ credLay c 2) ⊢ allToks c := by
  unfold dealt allToks
  rw [bigSep_univ_eq_bigSepL [0, 1, 2] (by decide) (by decide)]
  exact (show iprop((bigSep E (fun d => dutyTok ER (bcell (c + d)) 0 d) ∗ bigSep E (duty4 (F := F) c 0) ∗ bigSep E (duty4 c 1) ∗ bigSep E (duty4 c 2))
      ∗ cred (tallyAt (bcell c) 0 15) ∗ credLay c 0 ∗ credLay c 1 ∗ credLay c 2) ⊢ _ from by
    iintro ⟨⟨Hb, D0, D1, D2⟩, Cb, C0, C1, C2⟩
    isplitl [Hb]; · iexact Hb
    isplitl [D0 C0]
    · iapply toks_join
      isplitl [D0] <;> iassumption
    isplitl [D1 C1]
    · iapply toks_join
      isplitl [D1] <;> iassumption
    isplitl [D2 C2]
    · iapply toks_join
      isplitl [D2] <;> iassumption
    iexact Cb)

/-! ## The shared records made for all devices at once -/

/-- What device `c` starts from, the credit apart. -/
def G' (c : Dev nD) : sProp 𝕄 := iprop(∃ K, records m K ∗ (atPos ER (bcell c) 0 ∅ 0 ∗ places c) ∗ dealt c)

theorem bigSep_cells (Φ : Option (Fin 4 × Fin 16) → sProp 𝕄) : bigSep Finset.univ Φ = iprop(Φ none ∗ bigSep Finset.univ fun x => Φ (some x)) := by
  rw [bigSep_univ_split none, show (Finset.univ.erase none : Finset (Option (Fin 4 × Fin 16))) = Finset.univ.map Function.Embedding.some from by
    ext x; cases x <;> simp, bigSep_map]
  rfl

theorem ownSems0_eq (c : Dev nD) : (Pipeline.ownSems0 (Ix := Fin 3) (Name := ℕ) (U := UU) (Lvl := ℕ) (Val := Elt F) (τ := τ) osem c : sProp 𝕄) = zeros c := rfl
theorem unscopedSems0_eq (c : Dev nD) : (unscopedSems0 c : sProp 𝕄) = semVal (bcell c) 0 := by
  unfold unscopedSems0; rw [bigSep_eq_bigSepL_of_eq [SemLoc.reg barS] (by decide) (by decide)]; rfl

theorem core_alloc (c : Dev nD) :
    iprop(Pipeline.ownSems0 (Ix := Fin 3) (Name := ℕ) (U := UU) (Lvl := ℕ) (Val := Elt F) (τ := τ) osem c ∗ unscopedSems0 c ∗ G0 m c)
      ⊢ |={Set.univ}=> iprop((bigSep Finset.univ fun k => iprop(∃ κ : ℕ, cellInv ER (Rd m) κ (kcell (c, k))))
          ∗ (bigSep Finset.univ fun k => reached ER (kcell (c, k)) 0) ∗ (bigSep Finset.univ fun k => atPos ER (kcell (c, k)) 0 ∅ 0) ∗ bigSep Finset.univ fun t : Tk => tok (c, t)) := by
  have hv : iprop(semVal (bcell c) 0 ∗ zeros c) ⊢ (bigSep Finset.univ fun k : Option (Fin 4 × Fin 16) => semVal (kcell (c, k)) 0 : sProp 𝕄) := by
    rw [bigSep_cells]; exact Entails.of_eq rfl
  have ha : iprop((bigSep Finset.univ fun k : Option (Fin 4 × Fin 16) => semVal (kcell (c, k)) 0) ∗ bigSep Finset.univ fun k : Option (Fin 4 × Fin 16) => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G0
  rw [ownSems0_eq, unscopedSems0_eq]
  iintro ⟨Hz, Hb, Hst, Hr, Hat, Ht⟩
  ihave Hv := hv $$ [Hz Hb]
  · isplitl [Hb] <;> iassumption
  imod ha $$ [Hv Hst] with Hinv
  · isplitl [Hv] <;> iassumption
  imodintro
  isplitl [Hinv]; · iexact Hinv
  isplitl [Hr]; · iexact Hr
  isplitl [Hat] <;> iassumption

theorem regroup :
    (bigSep Finset.univ fun c : Dev nD => iprop((bigSep Finset.univ fun k => iprop(∃ κ : ℕ, cellInv ER (Rd m) κ (kcell (c, k))))
          ∗ (bigSep Finset.univ fun k => reached ER (kcell (c, k)) 0) ∗ (bigSep Finset.univ fun k => atPos ER (kcell (c, k)) 0 ∅ 0) ∗ bigSep Finset.univ fun t : Tk => tok (c, t)) : sProp 𝕄)
      ⊢ bigSep Finset.univ (G' m) := by
  have one (K) (c : Dev nD) : iprop(records m K ∗ (bigSep Finset.univ fun k => atPos ER (kcell (c, k)) 0 ∅ 0) ∗ dealt c) ⊢ G' (F := F) m c := by
    unfold G'
    rw [bigSep_cells]
    iintro ⟨HK, Hat, Hd⟩
    iexists K
    isplitl [HK]; · iexact HK
    isplitl [Hat]; · iexact Hat
    iexact Hd
  rw [bigSep_sep', bigSep_sep', bigSep_sep', ← bigSep_univ_prod (fun x : Dev nD × Option (Fin 4 × Fin 16) => iprop(∃ κ : ℕ, cellInv ER (Rd m) κ (kcell x))),
    ← bigSep_univ_prod (fun x : Dev nD × Option (Fin 4 × Fin 16) => (reached ER (kcell x) 0 : sProp 𝕄))]
  iintro ⟨HI, HR, Hat, Ht⟩
  ihave HK := (BI.bigSep_exists_pi Finset.univ (fun (x : Dev nD × Option (Fin 4 × Fin 16)) (κ : ℕ) => (cellInv ER (Rd m) κ (kcell x) : sProp 𝕄))) $$ HI
  icases HK with ⟨%K, HI⟩
  ihave Hd := (deal_all (F := F)) $$ Ht
  iapply (bigSep_with_persistent (R := records m K) (S := Finset.univ) fun c _ => one K c)
  isplitl [HI HR]
  · unfold records
    iapply (Entails.of_eq (bigSep_sep' Finset.univ (fun x => cellInv ER (Rd m) (K x) (kcell x)) (fun x => reached ER (kcell x) 0)).symm)
    isplitl [HI] <;> iassumption
  · iapply (Entails.of_eq (bigSep_sep' Finset.univ (fun c : Dev nD => bigSep Finset.univ fun k : Option (Fin 4 × Fin 16) => atPos ER (kcell (c, k)) 0 ∅ 0) (dealt (F := F))).symm)
    isplitl [Hat] <;> iassumption

theorem glob : (bigSep Finset.univ fun c => iprop(Pipeline.ownSems0 (Ix := Fin 3) (Name := ℕ) (U := UU) (Lvl := ℕ) (Val := Elt F) (τ := τ) osem c ∗ unscopedSems0 c ∗ G0 m c) : sProp 𝕄)
    ⊢ |={Set.univ}=> bigSep Finset.univ (G' m) :=
  ((bigSep_mono fun c _ => core_alloc m c).trans (bigSep_fupd _ _)).trans (BI.fupd_mono (regroup m))

end Cert.KernelIdeal.Mlp
-- ==== Proof.Run.lean ====
module

public import proofs.«01_k».proof.Proof.Start
public import Idealize.ShloMosaic.Lib.Pipeline.CollectiveSegs

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (Fin 3) (Elt F) ℕ UU ℕ

variable (m : (ℓ : Loc nD τ sig) → Buf (Elt F) ℓ) (ρ : Dev nD → PrngReg)

/-! ## What the pipeline around the body sees -/

/-- What a device starts the body with, its windows and scratch buffers apart. -/
def given (c : Dev nD) : sProp 𝕄 :=
  iprop((∃ K, records m K ∗ (atPos ER (bcell c) 0 ∅ 0 ∗ places c) ∗ allToks c) ∗ levAts L lv)

def Φ₀ (c : Dev nD) : sProp 𝕄 := iprop(given m c ∗ scratch c)
def Φ₁ (c : Dev nD) : sProp 𝕄 := iprop(scratch c ∗ zeros c ∗ semVal (bcell c) 0)

def dats (_ : Fin 1) (c : Dev nD) : Dat τ (Elt F) (Fin 3) ℕ UU ℕ cfg0 c where
  A w := (s₀ m ρ).mem ((cfg0.win w).arr.view.loc (c : Thread nD τ))
  after w _ := match w with
    | ⟨0, _⟩ => xIn m c
    | ⟨1, _⟩ => wIn m 0 c
    | ⟨2, _⟩ => wOut m 0 c
    | ⟨3, _⟩ => wIn m 1 c
    | ⟨4, _⟩ => wOut m 1 c
    | ⟨5, _⟩ => wIn m 2 c
    | ⟨6, _⟩ => wOut m 2 c
    | ⟨7, _⟩ => acc m 2 c
  Φ t := match t with
    | ⟨0, _⟩ => Φ₀ m c
    | ⟨_ + 1, _⟩ => Φ₁ c
  q _ := fullShare
  owed t := match t with
    | ⟨0, _⟩ => O₀ c
    | ⟨_ + 1, _⟩ => 0

section Body
variable (c : Dev nD)

theorem before_0 (d) : (dats m ρ 0 c).before (0 : Fin 8) t0_0 d = xIn m c := by rw [Dat.before_fetched _ _ _ (fetch0_0 _)]; rfl
theorem before_1 (d) : (dats m ρ 0 c).before (1 : Fin 8) t0_0 d = wIn m 0 c := by rw [Dat.before_fetched _ _ _ (fetch0_1 _)]; rfl
theorem before_2 (d) : (dats m ρ 0 c).before (2 : Fin 8) t0_0 d = wOut m 0 c := by rw [Dat.before_fetched _ _ _ (fetch0_2 _)]; rfl
theorem before_3 (d) : (dats m ρ 0 c).before (3 : Fin 8) t0_0 d = wIn m 1 c := by rw [Dat.before_fetched _ _ _ (fetch0_3 _)]; rfl
theorem before_4 (d) : (dats m ρ 0 c).before (4 : Fin 8) t0_0 d = wOut m 1 c := by rw [Dat.before_fetched _ _ _ (fetch0_4 _)]; rfl
theorem before_5 (d) : (dats m ρ 0 c).before (5 : Fin 8) t0_0 d = wIn m 2 c := by rw [Dat.before_fetched _ _ _ (fetch0_5 _)]; rfl
theorem before_6 (d) : (dats m ρ 0 c).before (6 : Fin 8) t0_0 d = wOut m 2 c := by rw [Dat.before_fetched _ _ _ (fetch0_6 _)]; rfl

abbrev stg (b : Ref sig .tc) (v : b.ty.Contents (Elt F)) : sProp 𝕄 := owns (c : Thread nD τ) (Memref.whole b) fullShare v

def bodyPre : sProp 𝕄 :=
  iprop(Φ₀ m c ∗ (dats m ρ 0 c).owesAt (0 : Fin 3) t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))
def bodyPost : sProp 𝕄 :=
  iprop(Φ₁ c ∗ (dats m ρ 0 c).owesAt (0 : Fin 3) t0_0.succ
    ∗ stg c cc0_stg0_0 (xIn m c) ∗ stg c cc0_stg1_0 (wIn m 0 c) ∗ stg c cc0_stg2_0 (wOut m 0 c) ∗ stg c cc0_stg3_0 (wIn m 1 c)
    ∗ stg c cc0_stg4_0 (wOut m 1 c) ∗ stg c cc0_stg5_0 (wIn m 2 c) ∗ stg c cc0_stg6_0 (wOut m 2 c) ∗ stg c cc0_stg7_0 (acc m 2 c))

theorem wins_intro (o : FVec F S64x512 .f32) :
    iprop(stg c cc0_stg0_0 (xIn m c) ∗ stg c cc0_stg1_0 (wIn m 0 c) ∗ stg c cc0_stg2_0 (wOut m 0 c) ∗ stg c cc0_stg3_0 (wIn m 1 c)
      ∗ stg c cc0_stg4_0 (wOut m 1 c) ∗ stg c cc0_stg5_0 (wIn m 2 c) ∗ stg c cc0_stg6_0 (wOut m 2 c) ∗ stg c cc0_stg7_0 o) ⊢ wins m c o := by
  unfold wins weights
  iintro ⟨H0, H1, H2, H3, H4, H5, H6, H7⟩
  isplitl [H0]; · iexact H0
  isplitl [H1 H2]
  · isplitl [H1]; · iexact H1
    iexact H2
  isplitl [H3 H4]
  · isplitl [H3]; · iexact H3
    iexact H4
  isplitl [H5 H6]
  · isplitl [H5]; · iexact H5
    iexact H6
  iexact H7

theorem wins_elim (o : FVec F S64x512 .f32) :
    wins m c o ⊢ iprop(stg c cc0_stg0_0 (xIn m c) ∗ stg c cc0_stg1_0 (wIn m 0 c) ∗ stg c cc0_stg2_0 (wOut m 0 c) ∗ stg c cc0_stg3_0 (wIn m 1 c)
      ∗ stg c cc0_stg4_0 (wOut m 1 c) ∗ stg c cc0_stg5_0 (wIn m 2 c) ∗ stg c cc0_stg6_0 (wOut m 2 c) ∗ stg c cc0_stg7_0 o) := by
  unfold wins weights
  iintro ⟨H0, ⟨H1, H2⟩, ⟨H3, H4⟩, ⟨H5, H6⟩, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_run : bodyPre m ρ c ⊢ wpc c (body F) fun _ => bodyPost m ρ c := by
  unfold bodyPre Φ₀ given Dat.owesAt Pipeline.owesWithin
  rw [show (dats m ρ 0 c).owed t0_0.castSucc = O₀ c from rfl]
  iintro ⟨⟨⟨⟨%K, HK, ⟨Hb, Hp⟩, Ht⟩, Hlev⟩, Hs⟩, ⟨%W, -, Ho⟩, ⟨%d0, H0⟩, ⟨%d1, H1⟩, ⟨%d2, H2⟩, ⟨%d3, H3⟩, ⟨%d4, H4⟩, ⟨%d5, H5⟩, ⟨%d6, H6⟩, ⟨%d7, H7⟩⟩
  rw [before_0, before_1, before_2, before_3, before_4, before_5, before_6]
  iapply (sound_body m K c (fun _ => bodyPost m ρ c) ((dats m ρ 0 c).before (7 : Fin 8) t0_0 d7)) $$ [HK Hlev Ho Ht Hb Hp Hs H0 H1 H2 H3 H4 H5 H6 H7]
  · isplitl [HK]; · iexact HK
    isplitl [Hlev]; · iexact Hlev
    isplitl [Ho]; · unfold own; iexists W; iexact Ho
    isplitl [Ht]; · iexact Ht
    isplitl [Hb]; · iexact Hb
    isplitl [Hp]; · iexact Hp
    isplitl [Hs]; · iexact Hs
    iapply wins_intro
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨Ho, Hb, Hz, Hs, Hw⟩
  unfold own
  icases Ho with ⟨%W', Ho⟩
  unfold bodyPost Φ₁ Dat.owesAt Pipeline.owesWithin
  rw [show (dats m ρ 0 c).owed t0_0.succ = 0 from rfl]
  isplitl [Hs Hz Hb]
  · isplitl [Hs]; · iexact Hs
    isplitl [Hz] <;> iassumption
  isplitl [Ho]
  · iexists W'
    isplitr; · ipureintro; exact fun _ _ => Or.inl trivial
    iexact Ho
  iapply wins_elim; iexact Hw

set_option maxRecDepth 65536 in
theorem body_obligation : BodyObligation (dats m ρ 0 c) (defs₀ (F := F)) 𝒱₀ (0 : Fin 3) Set.univ := fun t => by
  rw [fin_N0 t, bigSep_W0, bigSep_W0, show defs₀ (F := F) .tc cfg0.body (cfg0.bodyArgs t0_0 (cfg0.slots t0_0)) = body F from body_eq t0_0]
  exact body_run m ρ c

end Body

/-! ## The launch -/

theorem decode_stage : ∀ (w : Fin cfg0.W) (s : Fin (cfg0.win w).nbuf), decode (.dma ((cfg0.win w).sem s)) = none := by decide

theorem ownSemFacts : Pipeline.OwnSemFacts cfg0.spec osem where
  isScoped := by decide
  inj := fun a b h => Option.some.inj (by rw [← decode_osem a, ← decode_osem b]; exact congrArg decode h)
  disj := fun k w s h => by
    have h' := congrArg decode h
    rw [decode_osem k] at h'
    exact absurd (h'.trans (decode_stage w s)) (by simp)

theorem share_eq (c : Dev nD) (w : Fin cfg0.W) : (dats m ρ 0 c).share w = fullShare := by unfold Dat.share; split <;> rfl

theorem given_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(given m c ∗ emp) := by
  unfold given G'
  iintro ⟨-, Hlev, Hcr, -, ⟨%K, HK, Hat, Hd⟩⟩
  ihave Hc := (creds (F := F) c) $$ Hcr
  imodintro
  isplitl
  · isplitr [Hlev]
    · iexists K
      isplitl [HK]; · iexact HK
      isplitl [Hat]; · iexact Hat
      iapply toks_all
      isplitl [Hd] <;> iassumption
    iexact Hlev
  · iempintro

theorem phi0_intro (c : Dev nD) :
    iprop(given m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = scratch c from scopedRest0_eq c]
  unfold Φ₀
  iintro ⟨Hg, -, Hs⟩
  isplitl [Hg] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show (Pipeline.scopedRest cfg0.spec c : sProp 𝕄) = scratch c from scopedRest0_eq c, ownSems0_eq, unscopedSems0_eq]
  unfold Φ₁
  iintro ⟨Hs, Hz, Hb⟩
  isplitl [Hb]; · iexact Hb
  isplitl [Hz] <;> iassumption

theorem lv_stage (c : Dev nD) (w : Fin cfg0.W) (s : Fin (cfg0.win w).nbuf) : lv ((c : Thread nD τ), SemLoc.dma ((cfg0.win w).sem s)) 0 = 0 := by
  unfold lv
  rw [if_neg (fun h => by cases h), decode_stage w s]

theorem waits (c : Dev nD) : (levAts L lv : sProp 𝕄) ⊢ Pipeline.cellsWaits cfgs (dats m ρ) (0 : Fin 3) 0 c :=
  Pipeline.cellsWaits_intro cfgs (dats m ρ) (0 : Fin 3) 0 c fun w s t =>
    mayWait c _ 0 0 _ (Nat.le_of_eq (lv_stage c w s)) (by
      rcases t with ⟨_ | _, ht⟩
      · exact above_O₀ c
      · exact Above.zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 30000 in
/-- On the sixteen devices, for any float values, from any memory with zero counters: every weakly fair execution of
    the whole program terminates, and every final state has each device's arrays at the computed contents and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : Fin 3) cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G0 m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := given m) (Y := fun c => unscopedSems0 c) (Z := fun _ => iprop(emp))
    (hX := given_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Mlp
-- ==== Proof.Arrays.lean ====
module

public import proofs.«01_k».proof.Proof.Run

@[expose] public section

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 3) (Elt F) ℕ UU ℕ

variable (m : (ℓ : Loc nD τ sig) → Buf (Elt F) ℓ) (ρ : Dev nD → PrngReg)

/-! ## The arrays after the run -/

theorem whole_start {b : Ref sig .tc} {x : Fin b.ty.shape.rank → ℕ} (h : ∀ a, x a = 0) : (fun a => x a * b.ty.shape.size a) = fun _ => 0 :=
  funext fun a => by rw [h, Nat.zero_mul]

theorem read_win0 (f) : (win0_0.blk (0 : Fin 1)).view.read (Elt F) f = f :=
  Memref.read_access_unit_zero (Elt F) main_arg0 (whole_start (by decide)) (fun a => by fin_cases a <;> decide) f
theorem read_win1 (f) : (win0_1.blk (0 : Fin 1)).view.read (Elt F) f = f :=
  Memref.read_access_unit_zero (Elt F) main_arg1 (whole_start (by decide)) (fun a => by fin_cases a <;> decide) f
theorem read_win2 (f) : (win0_2.blk (0 : Fin 1)).view.read (Elt F) f = f :=
  Memref.read_access_unit_zero (Elt F) main_arg2 (whole_start (by decide)) (fun a => by fin_cases a <;> decide) f
theorem read_win3 (f) : (win0_3.blk (0 : Fin 1)).view.read (Elt F) f = f :=
  Memref.read_access_unit_zero (Elt F) main_arg3 (whole_start (by decide)) (fun a => by fin_cases a <;> decide) f
theorem read_win4 (f) : (win0_4.blk (0 : Fin 1)).view.read (Elt F) f = f :=
  Memref.read_access_unit_zero (Elt F) main_arg4 (whole_start (by decide)) (fun a => by fin_cases a <;> decide) f
theorem read_win5 (f) : (win0_5.blk (0 : Fin 1)).view.read (Elt F) f = f :=
  Memref.read_access_unit_zero (Elt F) main_arg5 (whole_start (by decide)) (fun a => by fin_cases a <;> decide) f
theorem read_win6 (f) : (win0_6.blk (0 : Fin 1)).view.read (Elt F) f = f :=
  Memref.read_access_unit_zero (Elt F) main_arg6 (whole_start (by decide)) (fun a => by fin_cases a <;> decide) f
theorem read_win7 (f) : (win0_7.blk (0 : Fin 1)).view.read (Elt F) f = f :=
  Memref.read_access_unit_zero (Elt F) main_v1 (whole_start (by decide)) (fun a => by fin_cases a <;> decide) f

/-- The result array ends at the last layer's sum. -/
theorem finalA_out (c : Dev nD) : finalA m ρ c (7 : Fin 8) = acc m 2 c := by
  rw [← read_win7 (finalA m ρ c (7 : Fin 8))]
  unfold finalA
  rw [show cfg0.N = ((0 : Fin 1) : Fin cfg0.N).val + 1 from rfl, (dats m ρ 0 c).arrAt_succ (7 : Fin 8) (0 : Fin 1),
    if_pos (flush0_7 (0 : Fin 1))]
  exact View.read_write_univ _ _

/-- The run, read at the argument buffers and the result buffer. -/
theorem run_arrays : θ_run defs (onTc (τ := τ) (main (F := F))) (s₀ m ρ) (fun r => (∀ c : Dev nD,
      r.2.mem ((c : Thread nD τ).loc main_v1) = acc m 2 c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0) :=
  (θ_run defs _ _).mono (fun _ h => ⟨fun c =>
    ⟨(h.1 c (7 : Fin 8)).trans (finalA_out m ρ c),
      (h.1 c (0 : Fin 8)).trans ((dats m ρ 0 c).arrAt_in (0 : Fin 8) rfl _),
      (h.1 c (1 : Fin 8)).trans ((dats m ρ 0 c).arrAt_in (1 : Fin 8) rfl _),
      (h.1 c (2 : Fin 8)).trans ((dats m ρ 0 c).arrAt_in (2 : Fin 8) rfl _),
      (h.1 c (3 : Fin 8)).trans ((dats m ρ 0 c).arrAt_in (3 : Fin 8) rfl _),
      (h.1 c (4 : Fin 8)).trans ((dats m ρ 0 c).arrAt_in (4 : Fin 8) rfl _),
      (h.1 c (5 : Fin 8)).trans ((dats m ρ 0 c).arrAt_in (5 : Fin 8) rfl _),
      (h.1 c (6 : Fin 8)).trans ((dats m ρ 0 c).arrAt_in (6 : Fin 8) rfl _)⟩, h.2⟩) (run_main m ρ)

end Cert.KernelIdeal.Mlp
-- ==== Proof.Frames.lean ====
module

public import proofs.«01_k».proof.Defs
public import proofs.«01_k».proof.Proof.Arrays
public import proofs.«01_k».proof.Proof.Gen.Kernel
public import proofs.«01_k».proof.Proof.Gen.ReferenceIdeal.Run
public import Idealize.ShloMosaic.Adequacy

@[expose] public section

noncomputable section

namespace Cert.KernelIdeal.Mlp

open Idealize.ShloMosaic Idealize.SL.Sem

/-! ## The kernel as compiled: the same text as the idealized program's -/

theorem same_body : Cert.Kernel.cc0_body (F := Bits) = Cert.KernelIdeal.cc0_body (F := Bits) := rfl

theorem same_defs₀ : Cert.Kernel.defs₀ (F := Bits) = Cert.KernelIdeal.defs₀ (F := Bits) := by
  unfold Cert.Kernel.defs₀ Cert.KernelIdeal.defs₀
  congr 1
  funext l x
  match l, x with
  | ⟨0, _⟩, (t, s) =>
    dsimp only
    rw [same_body]
  | ⟨_ + 1, h⟩, _ => exact absurd h (Nat.not_lt.2 (Nat.le_add_left _ _))

theorem same_defs : Cert.Kernel.defs (F := Bits) = Cert.KernelIdeal.defs (F := Bits) := by
  unfold Cert.Kernel.defs Cert.KernelIdeal.defs
  rw [same_defs₀]
  rfl

/-- So the run above is its run at machine floats. -/
theorem frame_kernel : Cert.quiescent_Kernel (hKernel := Cert.Kernel.Gen.facts) := fun m ρ _ => by
  rw [same_defs]
  exact (θ_run Cert.KernelIdeal.defs _ _).mono (fun _ h => ⟨fun c => (h.1 c).2, h.2⟩) (run_arrays (F := Bits) m ρ)

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_arrays (F := Ideal) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelIdeal.Mlp
-- ==== Proof.Value.lean ====
module

public import proofs.«01_k».proof.Proof.Pieces
public import Idealize.ShloMosaic.Lib.Pointwise

@[expose] public section

noncomputable section

/-! # One layer on one device, over the extended reals

A device's result is the sum, over the sixteen devices, of the products its own rows have with each device's pieces of the two
weight matrices. -/

namespace Cert.KernelIdeal.Mlp

open Cert.KernelIdeal Cert.KernelIdeal.Gen
open Idealize.ShloMosaic
open Idealize.ShloMosaic.TcCoe

variable (m : (ℓ : Loc nD τ sig) → Buf (Elt Ideal) ℓ)

/-! ## The computed values at an index -/

theorem pay4_apply (wi : Vec Ideal S512x1024 .bf16) (wo : Vec Ideal S1024x512 .bf16) (x : Vec Ideal S1x256x512 .bf16) (i : S256x512.Idx) :
    k0_pay4 (k0_pay2 wi) (k0_pay3 wo) x i
      = ∑ h : Fin 1024, max (∑ d : Fin 512, x (ix3 0 (i 0) d) * wi (ix2 d h)) 0 * wo (ix2 h (i 1)) := by
  pointwise [k0_pay4, k0_pay2, k0_pay3]
theorem pay24_apply (y : Vec Ideal S64x512 .f32) (r : Vec Ideal S15x64x512 .bf16) (i : S64x512.Idx) :
    k0_pay24 y r i = y i + ∑ k : Fin 15, r (ix3 k (i 0) (i 1)) := by
  pointwise [k0_pay24]
theorem pay5_apply (y : Vec Ideal S64x512 .f32) (i : S1x64x512.Idx) : k0_pay5 y i = y (ix2 (i 1) (i 2)) := by
  pointwise [k0_pay5]
theorem pay25_apply (y : FVec Ideal S64x512 .f32) (i : S1x64x512.Idx) : k0_pay25 y i = y (ix2 (i 1) (i 2)) := by
  pointwise [k0_pay25]
theorem pay1_apply (y : Vec Ideal S64x512 .bf16) (i : S1x64x512.Idx) : k0_pay1 y i = y (ix2 (i 1) (i 2)) := by
  pointwise [k0_pay1]

/-! ## A device's share of the products -/

/-- Entry `(i, j)` of `max (x · wi) 0 · wo`. -/
def part (x : Rows Ideal) (wi : Vec Ideal S512x1024 .bf16) (wo : Vec Ideal S1024x512 .bf16) (i : Fin 64) (j : Fin 512) : EReal :=
  ∑ h : Fin 1024, max (∑ d : Fin 512, x (ix i.val d.val i.isLt d.isLt) * wi (ix2 d h)) 0 * wo (ix2 h j)

variable (X : Dev nD → Rows Ideal) (l : Fin 3) (c : Dev nD)

/-- A row of the gathered rows, its block and its place in the block named. -/
theorem row_eq (k : Fin 16) (i : Fin 64) (d : Fin 512) {a b : ℕ} (ha : a = k.val) (hb : b = i.val) (h h' h'') :
    X (c + (⟨a, h⟩ : Fin 16)) (ix b d.val h' h'') = X (c + k) (ix i.val d.val i.isLt d.isLt) := by subst ha hb; rfl

/-- Row `64 k + i` of device `c`'s product comes from row `i` of device `c + k`. -/
theorem yallOf_apply (k : Fin 16) (i : Fin 64) (j : Fin 512) (p : S1024x512.Idx) (h0 : (p 0).val = 64 * k.val + i.val) (h1 : p 1 = j) :
    yallOf m X l c p = part (X (c + k)) (wIn m l c) (wOut m l c) i j := by
  have hi := i.isLt
  have hk := k.isLt
  subst h1
  refine (pay4_apply _ _ _ _).trans (Finset.sum_congr rfl fun h _ => congrArg (fun s => max s 0 * _) (Finset.sum_congr rfl fun d _ => congrArg (· * _) ?_))
  show X (c + (⟨(256 * ((p 0).val / 256) + (p 0).val % 256) / 64, _⟩ : Fin 16))
    (ix ((256 * ((p 0).val / 256) + (p 0).val % 256) % 64) d.val _ _) = _
  exact row_eq X c k i d (by omega) (by omega) _ _ _

/-- Block `k` of device `c`'s product. -/
theorem pOf_apply (k : Fin 16) (i : S1x64x512.Idx) : pOf m X l c k i = part (X (c + k)) (wIn m l c) (wOut m l c) (i 1) (i 2) := by
  unfold pOf
  rw [pay5_apply, View.readAt_apply]
  exact yallOf_apply m X l c k (i 1) (i 2) _ (show 64 * k.val + 1 * (i 1).val = _ by omega) (Fin.ext (show 0 + 1 * (i 2).val = _ by omega))

/-- What arrived in slot `k`: device `c`'s own rows times device `c + k`'s weights. -/
theorem rallOf_apply (k : Fin 16) (i : S16x64x512.Idx) (hk : slotOf i = k) :
    rallOf m X l c i = part (X c) (wIn m l (c + k)) (wOut m l (c + k)) (i 1) (i 2) := by
  unfold rallOf
  rw [hk, pOf_apply, dev_back]
  rfl

/-- A layer's result on device `c`: the sum over all devices of its rows' products with their weights. -/
theorem accOf_apply (i : S64x512.Idx) :
    accOf m X l c i = ∑ e : Fin 16, part (X c) (wIn m l e) (wOut m l e) (i 0) (i 1) := by
  refine (pay24_apply _ _ _).trans ?_
  refine Eq.trans ?_ (Equiv.sum_comp (Equiv.addLeft c) fun e : Fin 16 => part (X c) (wIn m l e) (wOut m l e) (i 0) (i 1))
  rw [Fin.sum_univ_succ (n := 15)]
  refine congr (congrArg (fun a b : EReal => a + b) ?_) (Finset.sum_congr rfl fun k _ => ?_)
  · rw [View.readAt_apply]
    refine (yallOf_apply m X l c 0 (i 0) (i 1) _ (show 64 * 0 + 1 * (i 0).val = _ by simp) (Fin.ext (show 0 + 1 * (i 1).val = _ by omega))).trans ?_
    rw [dev_zero]
    exact (congrArg (fun e : Fin 16 => part (X c) (wIn m l e) (wOut m l e) (i 0) (i 1)) (dev_zero c)).symm
  · rw [View.readAt_apply]
    have hk : slotOf ((restR.toLoadRect).idx (ix3 k (i 0) (i 1) : S15x64x512.Idx)) = k.succ :=
      Fin.ext (show 1 + 1 * k.val = k.val + 1 by omega)
    exact (rallOf_apply m X l c k.succ _ hk).trans (congr (congrArg (part (X c) (wIn m l (c + k.succ)) (wOut m l (c + k.succ)))
      (Fin.ext (show 0 + 1 * (i 0).val = (i 0).val by omega))) (Fin.ext (show 0 + 1 * (i 1).val = (i 1).val by omega)))

/-! ## The devices' weights as pieces of whole matrices -/

/-- A sum over sixteen runs of 1024 is one sum. -/
theorem sum_runs (f : Fin 16384 → EReal) :
    ∑ e : Fin 16, ∑ h : Fin 1024, f ⟨1024 * e.val + h.val, by have := e.isLt; have := h.isLt; omega⟩ = ∑ H : Fin 16384, f H := by
  rw [← Fintype.sum_prod_type' (f := fun (e : Fin 16) (h : Fin 1024) => f ⟨1024 * e.val + h.val, by have := e.isLt; have := h.isLt; omega⟩)]
  exact Fintype.sum_equiv (finProdFinEquiv (m := 16) (n := 1024)) _ f fun p => congrArg f (Fin.ext (Nat.add_comm _ _))

/-- Entry `(r, j)` of a layer over whole matrices. -/
def layerAt (x : Vec Ideal ⟨2, ![1024, 512]⟩ .bf16) (wi : Vec Ideal ⟨2, ![512, 16384]⟩ .bf16) (wo : Vec Ideal ⟨2, ![16384, 512]⟩ .bf16)
    (r : Fin 1024) (j : Fin 512) : EReal :=
  ∑ h : Fin 16384, max (∑ d : Fin 512, x (ix2 r d) * wi (ix2 d h)) 0 * wo (ix2 h j)

/-- Row `i` of device `c`'s block of the rows. -/
def row (c : Fin 16) (i : Fin 64) : Fin 1024 := ⟨c.val * 64 + i.val, by have := c.isLt; have := i.isLt; omega⟩

/-- A layer's result on device `c` is its block of the whole layer's. -/
theorem accOf_whole (x : Vec Ideal ⟨2, ![1024, 512]⟩ .bf16) (wi : Vec Ideal ⟨2, ![512, 16384]⟩ .bf16) (wo : Vec Ideal ⟨2, ![16384, 512]⟩ .bf16)
    (hx : ∀ (i : Fin 64) (d : Fin 512), X c (ix i.val d.val i.isLt d.isLt) = x (ix2 (row c i) d))
    (hi : ∀ e, wIn m l e = Layout.block ⟨2, ![512, 1024]⟩ ⟨2, ![512, 16384]⟩ 1 16 e wi)
    (ho : ∀ e, wOut m l e = Layout.block ⟨2, ![1024, 512]⟩ ⟨2, ![16384, 512]⟩ 0 16 e wo) (i : S64x512.Idx) :
    accOf m X l c i = layerAt x wi wo (row c (i 0)) (i 1) := by
  refine (accOf_apply m X l c i).trans (Eq.trans ?_ (sum_runs _))
  refine Finset.sum_congr rfl fun e _ => Finset.sum_congr rfl fun h _ => ?_
  have hin (d : Fin 512) : wIn m l e (ix2 d h) = wi (ix2 d ⟨1024 * e.val + h.val, by have := e.isLt; have := h.isLt; omega⟩) := by
    rw [hi, Layout.block_apply]
    refine congrArg wi (funext fun a => ?_)
    match a with
    | ⟨0, _⟩ => rfl
    | ⟨1, _⟩ => exact Fin.ext (show e.val * 1024 + h.val = 1024 * e.val + h.val by omega)
  have hout : wOut m l e (ix2 h (i 1)) = wo (ix2 ⟨1024 * e.val + h.val, by have := e.isLt; have := h.isLt; omega⟩ (i 1)) := by
    rw [ho, Layout.block_apply]
    refine congrArg wo (funext fun a => ?_)
    match a with
    | ⟨0, _⟩ => exact Fin.ext (show e.val * 1024 + h.val = 1024 * e.val + h.val by omega)
    | ⟨1, _⟩ => rfl
  rw [hout]
  exact congrArg (fun s => max s 0 * _) (Finset.sum_congr rfl fun d _ => by rw [hin]; exact congrArg (· * _) (hx (i 0) d))

end Cert.KernelIdeal.Mlp
-- ==== Proof.Claims.lean ====
module

public import proofs.«01_k».proof.Defs
public import proofs.«01_k».proof.Proof.Arrays
public import proofs.«01_k».proof.Proof.Value
public import proofs.«01_k».proof.Proof.Gen.ReferenceIdeal
public import proofs.«01_k».proof.Proof.Gen.ReferenceIdeal.Run
public import Idealize.ShloMosaic.Lib.Pointwise

@[expose] public section

noncomputable section

/-! # The value claim

Each device ends with its block of the rows the reference computes from the whole arrays. -/

/-! ## The reference, layer by layer -/

namespace Cert.ReferenceIdeal.Mlp

open Cert.ReferenceIdeal Cert.ReferenceIdeal.Gen
open Idealize.ShloMosaic
open Idealize.ShloMosaic.TcCoe

/-- One layer of the reference, as its operations compute it. -/
def layer (x : FVec Ideal S1024x512 .bf16) (wi : FVec Ideal S512x16384 .bf16) (wo : FVec Ideal S16384x512 .bf16) : FVec Ideal S1024x512 .f32 :=
  Host.dotGeneral dot_S1024x16384_S16384x512_S1024x512_1_0_0_1_n_n none
    (maximumf (truncf .bf16 (Host.dotGeneral dot_S1024x512_S512x16384_S1024x16384_1_0_0_1_n_n none x wi) bitsLt_bf16_f32)
      (broadcastInDim S1024x16384 ![] bcast_S_S1024x16384 (constant S_ .bf16 0x0000#16))) wo

/-- The cast between layers. -/
def narrow (y : FVec Ideal S1024x512 .f32) : FVec Ideal S1024x512 .bf16 := truncf .bf16 y bitsLt_bf16_f32

theorem layer_apply (x : FVec Ideal S1024x512 .bf16) (wi : FVec Ideal S512x16384 .bf16) (wo : FVec Ideal S16384x512 .bf16) (i : S1024x512.Idx) :
    layer x wi wo i = KernelIdeal.Mlp.layerAt x wi wo (i 0) (i 1) := by
  unfold KernelIdeal.Mlp.layerAt
  pointwise [layer]

theorem narrow_apply (y : FVec Ideal S1024x512 .f32) (i : S1024x512.Idx) : narrow y i = y i := rfl

end Cert.ReferenceIdeal.Mlp

namespace Cert.KernelIdeal.Mlp

open Cert.KernelIdeal Cert.KernelIdeal.Gen
open Idealize.ShloMosaic Idealize.SL.Sem
open Idealize.ShloMosaic.TcCoe
open Cert.ReferenceIdeal.Mlp (layer narrow layer_apply narrow_apply)

/-! ## The kernel against it -/

section

variable (m : (ℓ : Loc nD τ sig) → Buf (Elt Ideal) ℓ) (c : Dev nD)

/-- The weights of the three layers. -/
abbrev WIn : Type := Fin 3 → Vec Ideal ⟨2, ![512, 16384]⟩ .bf16
abbrev WOut : Type := Fin 3 → Vec Ideal ⟨2, ![16384, 512]⟩ .bf16

/-- The reference's rows before layer `n`. -/
def rowsAt (x : Vec Ideal ⟨2, ![1024, 512]⟩ .bf16) (wi : WIn) (wo : WOut) : ℕ → Vec Ideal ⟨2, ![1024, 512]⟩ .bf16
  | 0 => x
  | n + 1 => narrow (layer (rowsAt x wi wo n) (wi (lay n)) (wo (lay n)))

variable (x : Vec Ideal ⟨2, ![1024, 512]⟩ .bf16) (wi : WIn) (wo : WOut)
  (hx : ∀ c, xIn m c = Layout.block ⟨2, ![64, 512]⟩ ⟨2, ![1024, 512]⟩ 0 16 c x)
  (hi : ∀ l e, wIn m l e = Layout.block ⟨2, ![512, 1024]⟩ ⟨2, ![512, 16384]⟩ 1 16 e (wi l))
  (ho : ∀ l e, wOut m l e = Layout.block ⟨2, ![1024, 512]⟩ ⟨2, ![16384, 512]⟩ 0 16 e (wo l))

theorem idx_row (h : Layout.Tiles ⟨2, ![64, 512]⟩ ⟨2, ![1024, 512]⟩ 0 16) (i : S64x512.Idx) : h.idx c i = ix2 (row c (i 0)) (i 1) := by
  funext a
  match a with
  | ⟨0, _⟩ => rfl
  | ⟨1, _⟩ => rfl

include hx hi ho

/-- The rows a device brings to layer `n` are its block of the reference's. -/
theorem X_rows : ∀ (n : ℕ) (c : Dev nD) (i : Fin 64) (d : Fin 512),
    X m n c (ix i.val d.val i.isLt d.isLt) = rowsAt x wi wo n (ix2 (row c i) d)
  | 0, c, i, d => by
      refine (pay1_apply _ _).trans ?_
      rw [hx, Layout.block_apply, idx_row]
      rfl
  | n + 1, c, i, d => by
      refine (pay25_apply _ _).trans ?_
      refine (accOf_whole m (X m n) (lay n) c _ _ _ (X_rows n c) (hi (lay n)) (ho (lay n)) _).trans ?_
      exact (layer_apply _ _ _ (ix2 (row c i) d)).symm

/-- A device's result is its block of the reference's. -/
theorem acc_block (c : Dev nD) : acc m 2 c = Layout.block ⟨2, ![64, 512]⟩ ⟨2, ![1024, 512]⟩ 0 16 c (layer (rowsAt x wi wo 2) (wi 2) (wo 2)) := by
  funext (i : S64x512.Idx)
  rw [Layout.block_apply, idx_row]
  exact (accOf_whole m (X m 2) 2 c _ _ _ (X_rows m x wi wo hx hi ho 2 c) (hi 2) (ho 2) i).trans (layer_apply _ _ _ (ix2 (row c (i 0)) (i 1))).symm

end

/-- The kernel's result arrays are the blocks of the reference's result. -/
theorem algebraic : Cert.algebraic_KernelIdeal_ReferenceIdeal (hKernelIdeal := Cert.KernelIdeal.Gen.facts)
    (hReferenceIdeal := Cert.ReferenceIdeal.Gen.facts) := fun m g m' g' _ hin => by
  let at' (b : Ref ReferenceIdeal.sig .tc) := m' (((0 : Dev ReferenceIdeal.nD).tc : Thread ReferenceIdeal.nD ReferenceIdeal.τ).loc b)
  let x : Vec Ideal ⟨2, ![1024, 512]⟩ .bf16 := at' ReferenceIdeal.main_arg0
  let wi : WIn := ![at' ReferenceIdeal.main_arg1, at' ReferenceIdeal.main_arg3, at' ReferenceIdeal.main_arg5]
  let wo : WOut := ![at' ReferenceIdeal.main_arg2, at' ReferenceIdeal.main_arg4, at' ReferenceIdeal.main_arg6]
  have hx (c : Dev nD) : xIn m c = Layout.block ⟨2, ![64, 512]⟩ ⟨2, ![1024, 512]⟩ 0 16 c x := (read_win0 _).trans (hin c).1
  have hi (l : Fin 3) (e : Dev nD) : wIn m l e = Layout.block ⟨2, ![512, 1024]⟩ ⟨2, ![512, 16384]⟩ 1 16 e (wi l) := by
    match l with
    | ⟨0, _⟩ => exact (read_win1 _).trans (hin e).2.1
    | ⟨1, _⟩ => exact (read_win3 _).trans (hin e).2.2.2.1
    | ⟨2, _⟩ => exact (read_win5 _).trans (hin e).2.2.2.2.2.1
  have ho (l : Fin 3) (e : Dev nD) : wOut m l e = Layout.block ⟨2, ![1024, 512]⟩ ⟨2, ![16384, 512]⟩ 0 16 e (wo l) := by
    match l with
    | ⟨0, _⟩ => exact (read_win2 _).trans (hin e).2.2.1
    | ⟨1, _⟩ => exact (read_win4 _).trans (hin e).2.2.2.2.1
    | ⟨2, _⟩ => exact (read_win6 _).trans (hin e).2.2.2.2.2.2
  exact ⟨layer (rowsAt x wi wo 2) (wi 2) (wo 2),
    (θ_run Cert.KernelIdeal.defs _ _).mono (fun _ h c => ⟨(h.1 c).1.trans (acc_block m x wi wo hx hi ho c), (h.1 c).2⟩)
      (run_arrays (F := Ideal) m g),
    (θ_run Cert.ReferenceIdeal.defs _ _).mono (fun _ h => h 0) (Cert.ReferenceIdeal.Value.run (F := Ideal) m' g')⟩

end Cert.KernelIdeal.Mlp
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Claims
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.KernelIdeal.Mlp.frame_kernel, Cert.KernelIdeal.Mlp.frame_ideal, Cert.KernelIdeal.Mlp.frame_reference, trivial,
    Cert.KernelIdeal.Mlp.algebraic⟩

end Cert.Proof

end
